-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S16x2x256x2x128 Cert.KernelIdeal.S16x2x256x1x128
  ∧ IdealRules.bf16_pair.PackStatement Cert.KernelIdeal.S128x128
  ∧ IdealRules.bf16_pair.Statement Cert.KernelIdeal.S128x2x128 Cert.KernelIdeal.S128x1x128
  ∧ IdealRules.bf16_pair.Statement Cert.KernelIdeal.S1x1x128x2x128 Cert.KernelIdeal.S1x1x128x1x128
  ∧ IdealRules.bf16_pair.Statement Cert.KernelIdeal.S256x128 Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x32768 : Shape := ⟨3, ![48, 1, 32768]⟩
abbrev S8192x128x2x64 : Shape := ⟨4, ![8192, 128, 2, 64]⟩
abbrev S8192x128x2x32 : Shape := ⟨4, ![8192, 128, 2, 32]⟩
abbrev S8192x128x16 : Shape := ⟨3, ![8192, 128, 16]⟩
abbrev S8192x128 : Shape := ⟨2, ![8192, 128]⟩
abbrev S8192x2x64x128 : Shape := ⟨4, ![8192, 2, 64, 128]⟩
abbrev S1048576x128 : Shape := ⟨2, ![1048576, 128]⟩
abbrev S8192x2x32x128 : Shape := ⟨4, ![8192, 2, 32, 128]⟩
abbrev S524288x128 : Shape := ⟨2, ![524288, 128]⟩
abbrev S8192x16x128 : Shape := ⟨3, ![8192, 16, 128]⟩
abbrev S131072x128 : Shape := ⟨2, ![131072, 128]⟩
abbrev S48x2x64x2x4x8x4 : Shape := ⟨7, ![48, 2, 64, 2, 4, 8, 4]⟩
abbrev S2x8x4x2x48x64x4 : Shape := ⟨7, ![2, 8, 4, 2, 48, 64, 4]⟩
abbrev S128x48x256 : Shape := ⟨3, ![128, 48, 256]⟩
abbrev S48x8192 : Shape := ⟨2, ![48, 8192]⟩
abbrev S32768x128 : Shape := ⟨2, ![32768, 128]⟩
abbrev S16384x128 : Shape := ⟨2, ![16384, 128]⟩
abbrev S4096x128 : Shape := ⟨2, ![4096, 128]⟩
abbrev S256x128 : Shape := ⟨2, ![256, 128]⟩
abbrev S48x256 : Shape := ⟨2, ![48, 256]⟩
abbrev S8320x128 : Shape := ⟨2, ![8320, 128]⟩
abbrev S4160x128 : Shape := ⟨2, ![4160, 128]⟩
abbrev S1040x128 : Shape := ⟨2, ![1040, 128]⟩
abbrev S32x2x128x128 : Shape := ⟨4, ![32, 2, 128, 128]⟩
abbrev S16x2x128x128 : Shape := ⟨4, ![16, 2, 128, 128]⟩
abbrev S16x2x256x128 : Shape := ⟨4, ![16, 2, 256, 128]⟩
abbrev S32x128 : Shape := ⟨2, ![32, 128]⟩
abbrev S8x128 : Shape := ⟨2, ![8, 128]⟩
abbrev S4x128 : Shape := ⟨2, ![4, 128]⟩
abbrev S128x128 : Shape := ⟨2, ![128, 128]⟩
abbrev S1x1x128x128 : Shape := ⟨4, ![1, 1, 128, 128]⟩
abbrev S1x1x256x128 : Shape := ⟨4, ![1, 1, 256, 128]⟩
abbrev S1x1x64x128 : Shape := ⟨4, ![1, 1, 64, 128]⟩
abbrev S64x128 : Shape := ⟨2, ![64, 128]⟩
abbrev S256x256 : Shape := ⟨2, ![256, 256]⟩
abbrev S1x48x256 : Shape := ⟨3, ![1, 48, 256]⟩

abbrev nBuf : Space → Nat
  | .hbm => 15
  | .vmem => 18
  | .smem => 0
  | _ => 0

abbrev bufTy : (tb : Table) → Fin (tcTables nBuf tb) → BufTy
  | .hbm, ⟨0, _⟩ => ⟨S48x1x32768, .bf16⟩
  | .hbm, ⟨1, _⟩ => ⟨S8192x128x2x64, .i8⟩
  | .hbm, ⟨2, _⟩ => ⟨S8192x128x2x32, .i8⟩
  | .hbm, ⟨3, _⟩ => ⟨S8192x128x16, .i8⟩
  | .hbm, ⟨4, _⟩ => ⟨S8192x128, .i16⟩
  | .hbm, ⟨5, _⟩ => ⟨S8192x2x64x128, .i8⟩
  | .hbm, ⟨6, _⟩ => ⟨S1048576x128, .i8⟩
  | .hbm, ⟨7, _⟩ => ⟨S8192x2x32x128, .i8⟩
  | .hbm, ⟨8, _⟩ => ⟨S524288x128, .i8⟩
  | .hbm, ⟨9, _⟩ => ⟨S8192x16x128, .i8⟩
  | .hbm, ⟨10, _⟩ => ⟨S131072x128, .i8⟩
  | .hbm, ⟨11, _⟩ => ⟨S48x2x64x2x4x8x4, .bf16⟩
  | .hbm, ⟨12, _⟩ => ⟨S2x8x4x2x48x64x4, .bf16⟩
  | .hbm, ⟨13, _⟩ => ⟨S128x48x256, .bf16⟩
  | .hbm, ⟨14, _⟩ => ⟨S48x8192, .bf16⟩
  | .local _ .vmem, ⟨0, _⟩ => ⟨S32768x128, .i8⟩
  | .local _ .vmem, ⟨1, _⟩ => ⟨S32768x128, .i8⟩
  | .local _ .vmem, ⟨2, _⟩ => ⟨S16384x128, .i8⟩
  | .local _ .vmem, ⟨3, _⟩ => ⟨S16384x128, .i8⟩
  | .local _ .vmem, ⟨4, _⟩ => ⟨S4096x128, .i8⟩
  | .local _ .vmem, ⟨5, _⟩ => ⟨S4096x128, .i8⟩
  | .local _ .vmem, ⟨6, _⟩ => ⟨S256x128, .i16⟩
  | .local _ .vmem, ⟨7, _⟩ => ⟨S256x128, .i16⟩
  | .local _ .vmem, ⟨8, _⟩ => ⟨S128x48x256, .bf16⟩
  | .local _ .vmem, ⟨9, _⟩ => ⟨S48x256, .bf16⟩
  | .local _ .vmem, ⟨10, _⟩ => ⟨S48x256, .bf16⟩
  | .local _ .vmem, ⟨11, _⟩ => ⟨S8320x128, .i32⟩
  | .local _ .vmem, ⟨12, _⟩ => ⟨S4160x128, .i32⟩
  | .local _ .vmem, ⟨13, _⟩ => ⟨S1040x128, .i32⟩
  | .local _ .vmem, ⟨14, _⟩ => ⟨S32x2x128x128, .i32⟩
  | .local _ .vmem, ⟨15, _⟩ => ⟨S16x2x128x128, .i32⟩
  | .local _ .vmem, ⟨16, _⟩ => ⟨S16x2x256x128, .i32⟩
  | .local _ .vmem, ⟨17, _⟩ => ⟨S48x256, .f32⟩
  | _, _ => ⟨S48x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_53 : BitVec 32 := 4#32
  let v96 : BitVec 32 := Scalar.muli arg14 c4_i32_53
  let c32_i32_54 : BitVec 32 := 32#32
  let v97 : BitVec 32 := Scalar.muli v96 c32_i32_54
  v97
def k0_off1 (k0_t1 : Fin k0_t1_loop.trips) (c0_i32_55 : BitVec 32) : Fin 2 → Nat :=
  let c0_i32 : BitVec 32 := 0#32
  let c1_i32 : BitVec 32 := 1#32
  let arg14 : BitVec 32 := Scf.iv c0_i32 c1_i32 k0_t1
  let c4_i32_53 : BitVec 32 := 4#32
  let v96 : BitVec 32 := Scalar.muli arg14 c4_i32_53
  let c32_i32_54 : BitVec 32 := 32#32
  let v97 : BitVec 32 := Scalar.muli v96 c32_i32_54
  let v98 : BitVec 32 := v97
  let v99 : BitVec 32 := Scalar.addi v98 c0_i32_55
  let v100 : Index := Scalar.indexCast v99
  let c0_56 : Index := 0#32
  ![v100.toNat, 0]
def k0_off2 (k0_t1 : Fin k0_t1_loop.trips) (c0_i32_57 : BitVec 32) : Fin 2 → Nat :=
  let c0_i32 : BitVec 32 := 0#32
  let c1_i32 : BitVec 32 := 1#32
  let arg14 : BitVec 32 := Scf.iv c0_i32 c1_i32 k0_t1
  let v104 : BitVec 32 := Scalar.addi arg14 c0_i32_57
  let v105 : Index := Scalar.indexCast v104
  let c0_58 : Index := 0#32
  ![v105.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_59 : BitVec 32 := 4#32
  let v109 : BitVec 32 := Scalar.muli arg14 c4_i32_59
  let c32_i32_60 : BitVec 32 := 32#32
  let v110 : BitVec 32 := Scalar.muli v109 c32_i32_60
  v110
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_64 : BitVec 32 := 4#32
  let v122 : BitVec 32 := Scalar.muli arg14 c4_i32_64
  let c32_i32_65 : BitVec 32 := 32#32
  let v123 : BitVec 32 := Scalar.muli v122 c32_i32_65
  v123
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_68 : BitVec 32 := 4#32
  let v135 : BitVec 32 := Scalar.muli arg14 c4_i32_68
  let c32_i32_69 : BitVec 32 := 32#32
  let v136 : BitVec 32 := Scalar.muli v135 c32_i32_69
  v136
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_72 : BitVec 32 := 4#32
  let v148 : BitVec 32 := Scalar.muli arg14 c4_i32_72
  let c16_i32_73 : BitVec 32 := 16#32
  let v149 : BitVec 32 := Scalar.muli v148 c16_i32_73
  v149
def k0_off3 (k0_t1 : Fin k0_t1_loop.trips) (c0_i32_74 : BitVec 32) : Fin 2 → Nat :=
  let c0_i32 : BitVec 32 := 0#32
  let c1_i32 : BitVec 32 := 1#32
  let arg14 : BitVec 32 := Scf.iv c0_i32 c1_i32 k0_t1
  let c4_i32_72 : BitVec 32 := 4#32
  let v148 : BitVec 32 := Scalar.muli arg14 c4_i32_72
  let c16_i32_73 : BitVec 32 := 16#32
  let v149 : BitVec 32 := Scalar.muli v148 c16_i32_73
  let v150 : BitVec 32 := v149
  let v151 : BitVec 32 := Scalar.addi v150 c0_i32_74
  let v152 : Index := Scalar.indexCast v151
  let c0_75 : Index := 0#32
  ![v152.toNat, 0]
def k0_off4 (k0_t1 : Fin k0_t1_loop.trips) (c0_i32_76 : BitVec 32) : Fin 2 → Nat :=
  let c0_i32 : BitVec 32 := 0#32
  let c1_i32 : BitVec 32 := 1#32
  let arg14 : BitVec 32 := Scf.iv c0_i32 c1_i32 k0_t1
  let v156 : BitVec 32 := Scalar.addi arg14 c0_i32_76
  let v157 : Index := Scalar.indexCast v156
  let c0_77 : Index := 0#32
  ![v157.toNat, 0]
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_78 : BitVec 32 := 4#32
  let v161 : BitVec 32 := Scalar.muli arg14 c4_i32_78
  let c16_i32_79 : BitVec 32 := 16#32
  let v162 : BitVec 32 := Scalar.muli v161 c16_i32_79
  v162
@[reducible] def k0_t2_loop : Scf.Loop 32 :=
  let c0_i32_1 : BitVec 32 := 0#32
  let c128_i32 : BitVec 32 := 128#32
  let v1 : BitVec 32 := Scalar.addi c0_i32_1 c128_i32
  let c1_i32_2 : BitVec 32 := 1#32
  ⟨c0_i32_1, v1, c1_i32_2⟩
def k0_mult7 (k0_t2 : Fin k0_t2_loop.trips) : BitVec 32 :=
  let c0_i32_1 : BitVec 32 := 0#32
  let c1_i32_2 : BitVec 32 := 1#32
  let arg14 : BitVec 32 := Scf.iv c0_i32_1 c1_i32_2 k0_t2
  let c32_i32_53 : BitVec 32 := 32#32
  let v96 : BitVec 32 := Scalar.muli arg14 c32_i32_53
  v96
def k0_off5 (k0_t2 : Fin k0_t2_loop.trips) : Fin 2 → Nat :=
  let c0_i32_1 : BitVec 32 := 0#32
  let c1_i32_2 : BitVec 32 := 1#32
  let arg14 : BitVec 32 := Scf.iv c0_i32_1 c1_i32_2 k0_t2
  let c32_i32_53 : BitVec 32 := 32#32
  let v96 : BitVec 32 := Scalar.muli arg14 c32_i32_53
  let v97 : BitVec 32 := v96
  let v98 : Index := Scalar.indexCast v97
  let c0_54 : Index := 0#32
  ![v98.toNat, 0]
def k0_off6 (k0_t2 : Fin k0_t2_loop.trips) : Fin 2 → Nat :=
  let c2_i32 : BitVec 32 := 2#32
  let c0_i32_1 : BitVec 32 := 0#32
  let c1_i32_2 : BitVec 32 := 1#32
  let arg14 : BitVec 32 := Scf.iv c0_i32_1 c1_i32_2 k0_t2
  let v103 : BitVec 32 := Scalar.muli c2_i32 arg14
  let v104 : Index := Scalar.indexCast v103
  let c0_55 : Index := 0#32
  ![v104.toNat, 0]
def k0_off7 (k0_t2 : Fin k0_t2_loop.trips) : Fin 2 → Nat :=
  let c2_i32_56 : BitVec 32 := 2#32
  let c0_i32_1 : BitVec 32 := 0#32
  let c1_i32_2 : BitVec 32 := 1#32
  let arg14 : BitVec 32 := Scf.iv c0_i32_1 c1_i32_2 k0_t2
  let v109 : BitVec 32 := Scalar.muli c2_i32_56 arg14
  let c1_i32_57 : BitVec 32 := 1#32
  let v110 : BitVec 32 := Scalar.addi v109 c1_i32_57
  let v111 : Index := Scalar.indexCast v110
  let c0_58 : Index := 0#32
  ![v111.toNat, 0]
@[reducible] def k0_t3_loop : Scf.Loop 32 :=
  let c0_i32_4 : BitVec 32 := 0#32
  let c32_i32 : BitVec 32 := 32#32
  let v2 : BitVec 32 := Scalar.addi c0_i32_4 c32_i32
  let c1_i32_5 : BitVec 32 := 1#32
  ⟨c0_i32_4, v2, c1_i32_5⟩
def k0_off8 (k0_t3 : Fin k0_t3_loop.trips) (c0_i32_53 : BitVec 32) : Fin 2 → Nat :=
  let c0_i32_4 : BitVec 32 := 0#32
  let c1_i32_5 : BitVec 32 := 1#32
  let arg14 : BitVec 32 := Scf.iv c0_i32_4 c1_i32_5 k0_t3
  let c260_i32 : BitVec 32 := 260#32
  let v96 : BitVec 32 := Scalar.muli arg14 c260_i32
  let v97 : BitVec 32 := Scalar.addi v96 c0_i32_53
  let v98 : Index := Scalar.indexCast v97
  let c0_54 : Index := 0#32
  ![v98.toNat, 0]
def k0_off9 (k0_t3 : Fin k0_t3_loop.trips) : Fin 4 → Nat :=
  let c0_i32_4 : BitVec 32 := 0#32
  let c1_i32_5 : BitVec 32 := 1#32
  let arg14 : BitVec 32 := Scf.iv c0_i32_4 c1_i32_5 k0_t3
  let v101 : Index := Scalar.indexCast arg14
  let c0_55 : Index := 0#32
  let c0_56 : Index := 0#32
  let c0_57 : Index := 0#32
  ![v101.toNat, 0, 0, 0]
def k0_off10 (k0_t3 : Fin k0_t3_loop.trips) : Fin 4 → Nat :=
  let c0_i32_4 : BitVec 32 := 0#32
  let c1_i32_5 : BitVec 32 := 1#32
  let arg14 : BitVec 32 := Scf.iv c0_i32_4 c1_i32_5 k0_t3
  let v110 : Index := Scalar.indexCast arg14
  let c1 : Index := 1#32
  let c0_61 : Index := 0#32
  let c0_62 : Index := 0#32
  ![v110.toNat, 1, 0, 0]
@[reducible] def k0_t4_loop : Scf.Loop 32 :=
  let c0_i32_7 : BitVec 32 := 0#32
  let c16_i32 : BitVec 32 := 16#32
  let v3 : BitVec 32 := Scalar.addi c0_i32_7 c16_i32
  let c1_i32_8 : BitVec 32 := 1#32
  ⟨c0_i32_7, v3, c1_i32_8⟩
def k0_off11 (k0_t4 : Fin k0_t4_loop.trips) (c0_i32_53 : BitVec 32) : Fin 2 → Nat :=
  let c0_i32_7 : BitVec 32 := 0#32
  let c1_i32_8 : BitVec 32 := 1#32
  let arg14 : BitVec 32 := Scf.iv c0_i32_7 c1_i32_8 k0_t4
  let c260_i32 : BitVec 32 := 260#32
  let v96 : BitVec 32 := Scalar.muli arg14 c260_i32
  let v97 : BitVec 32 := Scalar.addi v96 c0_i32_53
  let v98 : Index := Scalar.indexCast v97
  let c0_54 : Index := 0#32
  ![v98.toNat, 0]
def k0_off12 (k0_t4 : Fin k0_t4_loop.trips) : Fin 4 → Nat :=
  let c0_i32_7 : BitVec 32 := 0#32
  let c1_i32_8 : BitVec 32 := 1#32
  let arg14 : BitVec 32 := Scf.iv c0_i32_7 c1_i32_8 k0_t4
  let v103 : Index := Scalar.indexCast arg14
  let c0_55 : Index := 0#32
  let c0_56 : Index := 0#32
  let c0_57 : Index := 0#32
  ![v103.toNat, 0, 0, 0]
def k0_off13 (k0_t4 : Fin k0_t4_loop.trips) : Fin 4 → Nat :=
  let c0_i32_7 : BitVec 32 := 0#32
  let c1_i32_8 : BitVec 32 := 1#32
  let arg14 : BitVec 32 := Scf.iv c0_i32_7 c1_i32_8 k0_t4
  let v114 : Index := Scalar.indexCast arg14
  let c1 : Index := 1#32
  let c0_62 : Index := 0#32
  let c0_63 : Index := 0#32
  ![v114.toNat, 1, 0, 0]
@[reducible] def k0_t5_loop : Scf.Loop 32 :=
  let c0_i32_18 : BitVec 32 := 0#32
  let c4_i32 : BitVec 32 := 4#32
  let v45 : BitVec 32 := Scalar.addi c0_i32_18 c4_i32
  let c1_i32_19 : BitVec 32 := 1#32
  ⟨c0_i32_18, v45, c1_i32_19⟩
def k0_off14 (k0_t5 : Fin k0_t5_loop.trips) : Fin 2 → Nat :=
  let c0_i32_18 : BitVec 32 := 0#32
  let c1_i32_19 : BitVec 32 := 1#32
  let arg14 : BitVec 32 := Scf.iv c0_i32_18 c1_i32_19 k0_t5
  let c260_i32 : BitVec 32 := 260#32
  let v96 : BitVec 32 := Scalar.muli arg14 c260_i32
  let c0_i32_53 : BitVec 32 := 0#32
  let v97 : BitVec 32 := Scalar.addi v96 c0_i32_53
  let v98 : Index := Scalar.indexCast v97
  let c0_54 : Index := 0#32
  ![v98.toNat, 0]
def k0_off15 (k0_t5 : Fin k0_t5_loop.trips) (c0_i32_57 : BitVec 32) : Fin 4 → Nat :=
  let c4_i32_56 : BitVec 32 := 4#32
  let c0_i32_18 : BitVec 32 := 0#32
  let c1_i32_19 : BitVec 32 := 1#32
  let arg14 : BitVec 32 := Scf.iv c0_i32_18 c1_i32_19 k0_t5
  let v108 : BitVec 32 := Scalar.muli c4_i32_56 arg14
  let v109 : BitVec 32 := Scalar.addi v108 c0_i32_57
  let c0_i32_58 : BitVec 32 := 0#32
  let c0_i32_59 : BitVec 32 := 0#32
  let c0_i32_60 : BitVec 32 := 0#32
  ![v109.toNat, 0, 0, 0]
@[reducible] def k0_t6_loop : Scf.Loop 32 :=
  let c0_i32_38 : BitVec 32 := 0#32
  let c4_i32_39 : BitVec 32 := 4#32
  let v87 : BitVec 32 := Scalar.addi c0_i32_38 c4_i32_39
  let c1_i32_40 : BitVec 32 := 1#32
  ⟨c0_i32_38, v87, c1_i32_40⟩
def k0_off16 (k0_t6 : Fin k0_t6_loop.trips) : Fin 2 → Nat :=
  let c0_i32_38 : BitVec 32 := 0#32
  let c1_i32_40 : BitVec 32 := 1#32
  let arg14 : BitVec 32 := Scf.iv c0_i32_38 c1_i32_40 k0_t6
  let c260_i32 : BitVec 32 := 260#32
  let v96 : BitVec 32 := Scalar.muli arg14 c260_i32
  let c128_i32_53 : BitVec 32 := 128#32
  let v97 : BitVec 32 := Scalar.addi v96 c128_i32_53
  let v98 : Index := Scalar.indexCast v97
  let c0_54 : Index := 0#32
  ![v98.toNat, 0]
def k0_off17 (k0_t6 : Fin k0_t6_loop.trips) (c0_i32_57 : BitVec 32) : Fin 4 → Nat :=
  let c4_i32_56 : BitVec 32 := 4#32
  let c0_i32_38 : BitVec 32 := 0#32
  let c1_i32_40 : BitVec 32 := 1#32
  let arg14 : BitVec 32 := Scf.iv c0_i32_38 c1_i32_40 k0_t6
  let v108 : BitVec 32 := Scalar.muli c4_i32_56 arg14
  let v109 : BitVec 32 := Scalar.addi v108 c0_i32_57
  let c1_i32_58 : BitVec 32 := 1#32
  let c0_i32_59 : BitVec 32 := 0#32
  let c0_i32_60 : BitVec 32 := 0#32
  ![v109.toNat, 1, 0, 0]
@[reducible] def k0_t7_loop : Scf.Loop 32 :=
  let c0_i32_45 : BitVec 32 := 0#32
  let c16_i32_46 : BitVec 32 := 16#32
  let v92 : BitVec 32 := Scalar.addi c0_i32_45 c16_i32_46
  let c1_i32_47 : BitVec 32 := 1#32
  ⟨c0_i32_45, v92, c1_i32_47⟩
def k0_off18 (k0_t7 : Fin k0_t7_loop.trips) : Fin 4 → Nat :=
  let c0_i32_45 : BitVec 32 := 0#32
  let c1_i32_47 : BitVec 32 := 1#32
  let arg14 : BitVec 32 := Scf.iv c0_i32_45 c1_i32_47 k0_t7
  let v147 : Index := Scalar.indexCast arg14
  let c0_77 : Index := 0#32
  let c0_78 : Index := 0#32
  let c0_79 : Index := 0#32
  ![v147.toNat, 0, 0, 0]
def k0_off19 (k0_t7 : Fin k0_t7_loop.trips) (c0_i32_67 : BitVec 32) : Fin 4 → Nat :=
  let c16_i32_66 : BitVec 32 := 16#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v124 : BitVec 32 := Scalar.muli c16_i32_66 v112
  let v125 : BitVec 32 := Scalar.addi v124 c0_i32_67
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let v126 : BitVec 32 := Scalar.addi v125 v122
  let v150 : Index := Scalar.indexCast v126
  let c0_80 : Index := 0#32
  let c0_81 : Index := 0#32
  let c0_82 : Index := 0#32
  ![v150.toNat, 0, 0, 0]
def k0_off20 (k0_t7 : Fin k0_t7_loop.trips) (c0_i32_69 : BitVec 32) : Fin 4 → Nat :=
  let c8_i32_68 : BitVec 32 := 8#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v127 : BitVec 32 := Scalar.muli c8_i32_68 v112
  let v128 : BitVec 32 := Scalar.addi v127 c0_i32_69
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let c0_i32_71 : BitVec 32 := 0#32
  let v130 : BitVec 1 := Scalar.cmpi .sgt v122 c0_i32_71
  let v131 : BitVec 32 := Scalar.extui v130
  let c0_i32_72 : BitVec 32 := 0#32
  let v132 : BitVec 1 := Scalar.cmpi .slt v122 c0_i32_72
  let v133 : BitVec 32 := Scalar.extui v132
  let v134 : BitVec 32 := Scalar.subi v131 v133
  let c4_i32_70 : BitVec 32 := 4#32
  let c0_i32_73 : BitVec 32 := 0#32
  let v135 : BitVec 1 := Scalar.cmpi .sgt c4_i32_70 c0_i32_73
  let v136 : BitVec 32 := Scalar.extui v135
  let c0_i32_74 : BitVec 32 := 0#32
  let v137 : BitVec 1 := Scalar.cmpi .slt c4_i32_70 c0_i32_74
  let v138 : BitVec 32 := Scalar.extui v137
  let v139 : BitVec 32 := Scalar.subi v136 v138
  let v140 : BitVec 1 := Scalar.cmpi .ne v134 v139
  let v141 : BitVec 32 := Scalar.remsi v122 c4_i32_70
  let c0_i32_75 : BitVec 32 := 0#32
  let v142 : BitVec 1 := Scalar.cmpi .ne v141 c0_i32_75
  let v143 : BitVec 1 := Scalar.andi v140 v142
  let v129 : BitVec 32 := Scalar.divsi v122 c4_i32_70
  let c1_i32_76 : BitVec 32 := 1#32
  let v144 : BitVec 32 := Scalar.subi v129 c1_i32_76
  let v145 : BitVec 32 := Scalar.select v143 v144 v129
  let v146 : BitVec 32 := Scalar.addi v128 v145
  let v164 : Index := Scalar.indexCast v146
  let c0_83 : Index := 0#32
  let c0_84 : Index := 0#32
  let c0_85 : Index := 0#32
  ![v164.toNat, 0, 0, 0]
def k0_off21 (k0_t7 : Fin k0_t7_loop.trips) : Fin 4 → Nat :=
  let c0_i32_45 : BitVec 32 := 0#32
  let c1_i32_47 : BitVec 32 := 1#32
  let arg14 : BitVec 32 := Scf.iv c0_i32_45 c1_i32_47 k0_t7
  let v169 : Index := Scalar.indexCast arg14
  let c1 : Index := 1#32
  let c0_86 : Index := 0#32
  let c0_87 : Index := 0#32
  ![v169.toNat, 1, 0, 0]
def k0_off22 (k0_t7 : Fin k0_t7_loop.trips) (c0_i32_67 : BitVec 32) : Fin 4 → Nat :=
  let c16_i32_66 : BitVec 32 := 16#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v124 : BitVec 32 := Scalar.muli c16_i32_66 v112
  let v125 : BitVec 32 := Scalar.addi v124 c0_i32_67
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let v126 : BitVec 32 := Scalar.addi v125 v122
  let v172 : Index := Scalar.indexCast v126
  let c1_88 : Index := 1#32
  let c0_89 : Index := 0#32
  let c0_90 : Index := 0#32
  ![v172.toNat, 1, 0, 0]
def k0_off23 (k0_t7 : Fin k0_t7_loop.trips) (c0_i32_69 : BitVec 32) : Fin 4 → Nat :=
  let c8_i32_68 : BitVec 32 := 8#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v127 : BitVec 32 := Scalar.muli c8_i32_68 v112
  let v128 : BitVec 32 := Scalar.addi v127 c0_i32_69
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let c0_i32_71 : BitVec 32 := 0#32
  let v130 : BitVec 1 := Scalar.cmpi .sgt v122 c0_i32_71
  let v131 : BitVec 32 := Scalar.extui v130
  let c0_i32_72 : BitVec 32 := 0#32
  let v132 : BitVec 1 := Scalar.cmpi .slt v122 c0_i32_72
  let v133 : BitVec 32 := Scalar.extui v132
  let v134 : BitVec 32 := Scalar.subi v131 v133
  let c4_i32_70 : BitVec 32 := 4#32
  let c0_i32_73 : BitVec 32 := 0#32
  let v135 : BitVec 1 := Scalar.cmpi .sgt c4_i32_70 c0_i32_73
  let v136 : BitVec 32 := Scalar.extui v135
  let c0_i32_74 : BitVec 32 := 0#32
  let v137 : BitVec 1 := Scalar.cmpi .slt c4_i32_70 c0_i32_74
  let v138 : BitVec 32 := Scalar.extui v137
  let v139 : BitVec 32 := Scalar.subi v136 v138
  let v140 : BitVec 1 := Scalar.cmpi .ne v134 v139
  let v141 : BitVec 32 := Scalar.remsi v122 c4_i32_70
  let c0_i32_75 : BitVec 32 := 0#32
  let v142 : BitVec 1 := Scalar.cmpi .ne v141 c0_i32_75
  let v143 : BitVec 1 := Scalar.andi v140 v142
  let v129 : BitVec 32 := Scalar.divsi v122 c4_i32_70
  let c1_i32_76 : BitVec 32 := 1#32
  let v144 : BitVec 32 := Scalar.subi v129 c1_i32_76
  let v145 : BitVec 32 := Scalar.select v143 v144 v129
  let v146 : BitVec 32 := Scalar.addi v128 v145
  let v186 : Index := Scalar.indexCast v146
  let c1_95 : Index := 1#32
  let c0_96 : Index := 0#32
  let c0_97 : Index := 0#32
  ![v186.toNat, 1, 0, 0]
def k0_off24 (k0_t7 : Fin k0_t7_loop.trips) (c0_i32_99 : BitVec 32) (c0_i32_100 : BitVec 32) : Fin 3 → Nat :=
  let c0_i32_45 : BitVec 32 := 0#32
  let c1_i32_47 : BitVec 32 := 1#32
  let arg14 : BitVec 32 := Scf.iv c0_i32_45 c1_i32_47 k0_t7
  let c8_i32_98 : BitVec 32 := 8#32
  let v192 : BitVec 32 := Scalar.muli arg14 c8_i32_98
  let v193 : BitVec 32 := Scalar.addi v192 c0_i32_99
  let v194 : BitVec 32 := Scalar.addi v193 c0_i32_100
  let v195 : Index := Scalar.indexCast v194
  let c0_101 : Index := 0#32
  let c0_102 : Index := 0#32
  ![v195.toNat, 0, 0]
def k0_off25 (k0_t7 : Fin k0_t7_loop.trips) : Fin 4 → Nat :=
  let c0_i32_45 : BitVec 32 := 0#32
  let c1_i32_47 : BitVec 32 := 1#32
  let arg14 : BitVec 32 := Scf.iv c0_i32_45 c1_i32_47 k0_t7
  let v200 : Index := Scalar.indexCast arg14
  let c0_104 : Index := 0#32
  let c64 : Index := 64#32
  let c0_105 : Index := 0#32
  ![v200.toNat, 0, 64, 0]
def k0_off26 (k0_t7 : Fin k0_t7_loop.trips) (c0_i32_67 : BitVec 32) : Fin 4 → Nat :=
  let c16_i32_66 : BitVec 32 := 16#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v124 : BitVec 32 := Scalar.muli c16_i32_66 v112
  let v125 : BitVec 32 := Scalar.addi v124 c0_i32_67
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let v126 : BitVec 32 := Scalar.addi v125 v122
  let v203 : Index := Scalar.indexCast v126
  let c0_106 : Index := 0#32
  let c64_107 : Index := 64#32
  let c0_108 : Index := 0#32
  ![v203.toNat, 0, 64, 0]
def k0_off27 (k0_t7 : Fin k0_t7_loop.trips) (c0_i32_69 : BitVec 32) : Fin 4 → Nat :=
  let c8_i32_68 : BitVec 32 := 8#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v127 : BitVec 32 := Scalar.muli c8_i32_68 v112
  let v128 : BitVec 32 := Scalar.addi v127 c0_i32_69
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let c0_i32_71 : BitVec 32 := 0#32
  let v130 : BitVec 1 := Scalar.cmpi .sgt v122 c0_i32_71
  let v131 : BitVec 32 := Scalar.extui v130
  let c0_i32_72 : BitVec 32 := 0#32
  let v132 : BitVec 1 := Scalar.cmpi .slt v122 c0_i32_72
  let v133 : BitVec 32 := Scalar.extui v132
  let v134 : BitVec 32 := Scalar.subi v131 v133
  let c4_i32_70 : BitVec 32 := 4#32
  let c0_i32_73 : BitVec 32 := 0#32
  let v135 : BitVec 1 := Scalar.cmpi .sgt c4_i32_70 c0_i32_73
  let v136 : BitVec 32 := Scalar.extui v135
  let c0_i32_74 : BitVec 32 := 0#32
  let v137 : BitVec 1 := Scalar.cmpi .slt c4_i32_70 c0_i32_74
  let v138 : BitVec 32 := Scalar.extui v137
  let v139 : BitVec 32 := Scalar.subi v136 v138
  let v140 : BitVec 1 := Scalar.cmpi .ne v134 v139
  let v141 : BitVec 32 := Scalar.remsi v122 c4_i32_70
  let c0_i32_75 : BitVec 32 := 0#32
  let v142 : BitVec 1 := Scalar.cmpi .ne v141 c0_i32_75
  let v143 : BitVec 1 := Scalar.andi v140 v142
  let v129 : BitVec 32 := Scalar.divsi v122 c4_i32_70
  let c1_i32_76 : BitVec 32 := 1#32
  let v144 : BitVec 32 := Scalar.subi v129 c1_i32_76
  let v145 : BitVec 32 := Scalar.select v143 v144 v129
  let v146 : BitVec 32 := Scalar.addi v128 v145
  let v217 : Index := Scalar.indexCast v146
  let c0_113 : Index := 0#32
  let c128_114 : Index := 128#32
  let c0_115 : Index := 0#32
  ![v217.toNat, 0, 128, 0]
def k0_off28 (k0_t7 : Fin k0_t7_loop.trips) : Fin 4 → Nat :=
  let c0_i32_45 : BitVec 32 := 0#32
  let c1_i32_47 : BitVec 32 := 1#32
  let arg14 : BitVec 32 := Scf.iv c0_i32_45 c1_i32_47 k0_t7
  let v222 : Index := Scalar.indexCast arg14
  let c1_116 : Index := 1#32
  let c64_117 : Index := 64#32
  let c0_118 : Index := 0#32
  ![v222.toNat, 1, 64, 0]
def k0_off29 (k0_t7 : Fin k0_t7_loop.trips) (c0_i32_67 : BitVec 32) : Fin 4 → Nat :=
  let c16_i32_66 : BitVec 32 := 16#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v124 : BitVec 32 := Scalar.muli c16_i32_66 v112
  let v125 : BitVec 32 := Scalar.addi v124 c0_i32_67
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let v126 : BitVec 32 := Scalar.addi v125 v122
  let v225 : Index := Scalar.indexCast v126
  let c1_119 : Index := 1#32
  let c64_120 : Index := 64#32
  let c0_121 : Index := 0#32
  ![v225.toNat, 1, 64, 0]
def k0_off30 (k0_t7 : Fin k0_t7_loop.trips) (c0_i32_69 : BitVec 32) : Fin 4 → Nat :=
  let c8_i32_68 : BitVec 32 := 8#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v127 : BitVec 32 := Scalar.muli c8_i32_68 v112
  let v128 : BitVec 32 := Scalar.addi v127 c0_i32_69
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let c0_i32_71 : BitVec 32 := 0#32
  let v130 : BitVec 1 := Scalar.cmpi .sgt v122 c0_i32_71
  let v131 : BitVec 32 := Scalar.extui v130
  let c0_i32_72 : BitVec 32 := 0#32
  let v132 : BitVec 1 := Scalar.cmpi .slt v122 c0_i32_72
  let v133 : BitVec 32 := Scalar.extui v132
  let v134 : BitVec 32 := Scalar.subi v131 v133
  let c4_i32_70 : BitVec 32 := 4#32
  let c0_i32_73 : BitVec 32 := 0#32
  let v135 : BitVec 1 := Scalar.cmpi .sgt c4_i32_70 c0_i32_73
  let v136 : BitVec 32 := Scalar.extui v135
  let c0_i32_74 : BitVec 32 := 0#32
  let v137 : BitVec 1 := Scalar.cmpi .slt c4_i32_70 c0_i32_74
  let v138 : BitVec 32 := Scalar.extui v137
  let v139 : BitVec 32 := Scalar.subi v136 v138
  let v140 : BitVec 1 := Scalar.cmpi .ne v134 v139
  let v141 : BitVec 32 := Scalar.remsi v122 c4_i32_70
  let c0_i32_75 : BitVec 32 := 0#32
  let v142 : BitVec 1 := Scalar.cmpi .ne v141 c0_i32_75
  let v143 : BitVec 1 := Scalar.andi v140 v142
  let v129 : BitVec 32 := Scalar.divsi v122 c4_i32_70
  let c1_i32_76 : BitVec 32 := 1#32
  let v144 : BitVec 32 := Scalar.subi v129 c1_i32_76
  let v145 : BitVec 32 := Scalar.select v143 v144 v129
  let v146 : BitVec 32 := Scalar.addi v128 v145
  let v239 : Index := Scalar.indexCast v146
  let c1_126 : Index := 1#32
  let c128_127 : Index := 128#32
  let c0_128 : Index := 0#32
  ![v239.toNat, 1, 128, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32768x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x48x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S48x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S48x1x32768 : Shape := ⟨3, ![48, 1, 32768]⟩
abbrev S8192x128x2x64 : Shape := ⟨4, ![8192, 128, 2, 64]⟩
abbrev S8192x128x2x32 : Shape := ⟨4, ![8192, 128, 2, 32]⟩
abbrev S8192x128x16 : Shape := ⟨3, ![8192, 128, 16]⟩
abbrev S8192x128 : Shape := ⟨2, ![8192, 128]⟩
abbrev S8192x2x64x128 : Shape := ⟨4, ![8192, 2, 64, 128]⟩
abbrev S1048576x128 : Shape := ⟨2, ![1048576, 128]⟩
abbrev S8192x2x32x128 : Shape := ⟨4, ![8192, 2, 32, 128]⟩
abbrev S524288x128 : Shape := ⟨2, ![524288, 128]⟩
abbrev S8192x16x128 : Shape := ⟨3, ![8192, 16, 128]⟩
abbrev S131072x128 : Shape := ⟨2, ![131072, 128]⟩
abbrev S48x2x64x2x4x8x4 : Shape := ⟨7, ![48, 2, 64, 2, 4, 8, 4]⟩
abbrev S2x8x4x2x48x64x4 : Shape := ⟨7, ![2, 8, 4, 2, 48, 64, 4]⟩
abbrev S128x48x256 : Shape := ⟨3, ![128, 48, 256]⟩
abbrev S48x8192 : Shape := ⟨2, ![48, 8192]⟩
abbrev S32768x128 : Shape := ⟨2, ![32768, 128]⟩
abbrev S16384x128 : Shape := ⟨2, ![16384, 128]⟩
abbrev S4096x128 : Shape := ⟨2, ![4096, 128]⟩
abbrev S256x128 : Shape := ⟨2, ![256, 128]⟩
abbrev S48x256 : Shape := ⟨2, ![48, 256]⟩
abbrev S8320x128 : Shape := ⟨2, ![8320, 128]⟩
abbrev S4160x128 : Shape := ⟨2, ![4160, 128]⟩
abbrev S1040x128 : Shape := ⟨2, ![1040, 128]⟩
abbrev S32x2x128x128 : Shape := ⟨4, ![32, 2, 128, 128]⟩
abbrev S16x2x128x128 : Shape := ⟨4, ![16, 2, 128, 128]⟩
abbrev S16x2x256x128 : Shape := ⟨4, ![16, 2, 256, 128]⟩
abbrev S16x2x256x2x128 : Shape := ⟨5, ![16, 2, 256, 2, 128]⟩
abbrev S16x2x256x1x128 : Shape := ⟨5, ![16, 2, 256, 1, 128]⟩
abbrev S32x128 : Shape := ⟨2, ![32, 128]⟩
abbrev S8x128 : Shape := ⟨2, ![8, 128]⟩
abbrev S4x128 : Shape := ⟨2, ![4, 128]⟩
abbrev S128x128 : Shape := ⟨2, ![128, 128]⟩
abbrev S1x1x128x128 : Shape := ⟨4, ![1, 1, 128, 128]⟩
abbrev S1x1x256x2x128 : Shape := ⟨5, ![1, 1, 256, 2, 128]⟩
abbrev S256x2x128 : Shape := ⟨3, ![256, 2, 128]⟩
abbrev S128x2x128 : Shape := ⟨3, ![128, 2, 128]⟩
abbrev S128x1x128 : Shape := ⟨3, ![128, 1, 128]⟩
abbrev S1x1x64x128 : Shape := ⟨4, ![1, 1, 64, 128]⟩
abbrev S64x128 : Shape := ⟨2, ![64, 128]⟩
abbrev S1x1x128x2x128 : Shape := ⟨5, ![1, 1, 128, 2, 128]⟩
abbrev S1x1x128x1x128 : Shape := ⟨5, ![1, 1, 128, 1, 128]⟩
abbrev S256x256 : Shape := ⟨2, ![256, 256]⟩
abbrev S1x48x256 : Shape := ⟨3, ![1, 48, 256]⟩

abbrev nBuf : Space → Nat
  | .hbm => 15
  | .vmem => 18
  | .smem => 0
  | _ => 0

abbrev bufTy : (tb : Table) → Fin (tcTables nBuf tb) → BufTy
  | .hbm, ⟨0, _⟩ => ⟨S48x1x32768, .bf16⟩
  | .hbm, ⟨1, _⟩ => ⟨S8192x128x2x64, .i8⟩
  | .hbm, ⟨2, _⟩ => ⟨S8192x128x2x32, .i8⟩
  | .hbm, ⟨3, _⟩ => ⟨S8192x128x16, .i8⟩
  | .hbm, ⟨4, _⟩ => ⟨S8192x128, .i16⟩
  | .hbm, ⟨5, _⟩ => ⟨S8192x2x64x128, .i8⟩
  | .hbm, ⟨6, _⟩ => ⟨S1048576x128, .i8⟩
  | .hbm, ⟨7, _⟩ => ⟨S8192x2x32x128, .i8⟩
  | .hbm, ⟨8, _⟩ => ⟨S524288x128, .i8⟩
  | .hbm, ⟨9, _⟩ => ⟨S8192x16x128, .i8⟩
  | .hbm, ⟨10, _⟩ => ⟨S131072x128, .i8⟩
  | .hbm, ⟨11, _⟩ => ⟨S48x2x64x2x4x8x4, .bf16⟩
  | .hbm, ⟨12, _⟩ => ⟨S2x8x4x2x48x64x4, .bf16⟩
  | .hbm, ⟨13, _⟩ => ⟨S128x48x256, .bf16⟩
  | .hbm, ⟨14, _⟩ => ⟨S48x8192, .bf16⟩
  | .local _ .vmem, ⟨0, _⟩ => ⟨S32768x128, .i8⟩
  | .local _ .vmem, ⟨1, _⟩ => ⟨S32768x128, .i8⟩
  | .local _ .vmem, ⟨2, _⟩ => ⟨S16384x128, .i8⟩
  | .local _ .vmem, ⟨3, _⟩ => ⟨S16384x128, .i8⟩
  | .local _ .vmem, ⟨4, _⟩ => ⟨S4096x128, .i8⟩
  | .local _ .vmem, ⟨5, _⟩ => ⟨S4096x128, .i8⟩
  | .local _ .vmem, ⟨6, _⟩ => ⟨S256x128, .i16⟩
  | .local _ .vmem, ⟨7, _⟩ => ⟨S256x128, .i16⟩
  | .local _ .vmem, ⟨8, _⟩ => ⟨S128x48x256, .bf16⟩
  | .local _ .vmem, ⟨9, _⟩ => ⟨S48x256, .bf16⟩
  | .local _ .vmem, ⟨10, _⟩ => ⟨S48x256, .bf16⟩
  | .local _ .vmem, ⟨11, _⟩ => ⟨S8320x128, .i32⟩
  | .local _ .vmem, ⟨12, _⟩ => ⟨S4160x128, .i32⟩
  | .local _ .vmem, ⟨13, _⟩ => ⟨S1040x128, .i32⟩
  | .local _ .vmem, ⟨14, _⟩ => ⟨S32x2x128x128, .i32⟩
  | .local _ .vmem, ⟨15, _⟩ => ⟨S16x2x128x128, .i32⟩
  | .local _ .vmem, ⟨16, _⟩ => ⟨S16x2x256x2x128, .bf16⟩
  | .local _ .vmem, ⟨17, _⟩ => ⟨S48x256, .f32⟩
  | _, _ => ⟨S48x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_53 : BitVec 32 := 4#32
  let v96 : BitVec 32 := Scalar.muli arg14 c4_i32_53
  let c32_i32_54 : BitVec 32 := 32#32
  let v97 : BitVec 32 := Scalar.muli v96 c32_i32_54
  v97
def k0_off1 (k0_t1 : Fin k0_t1_loop.trips) (c0_i32_55 : BitVec 32) : Fin 2 → Nat :=
  let c0_i32 : BitVec 32 := 0#32
  let c1_i32 : BitVec 32 := 1#32
  let arg14 : BitVec 32 := Scf.iv c0_i32 c1_i32 k0_t1
  let c4_i32_53 : BitVec 32 := 4#32
  let v96 : BitVec 32 := Scalar.muli arg14 c4_i32_53
  let c32_i32_54 : BitVec 32 := 32#32
  let v97 : BitVec 32 := Scalar.muli v96 c32_i32_54
  let v98 : BitVec 32 := v97
  let v99 : BitVec 32 := Scalar.addi v98 c0_i32_55
  let v100 : Index := Scalar.indexCast v99
  let c0_56 : Index := 0#32
  ![v100.toNat, 0]
def k0_off2 (k0_t1 : Fin k0_t1_loop.trips) (c0_i32_57 : BitVec 32) : Fin 2 → Nat :=
  let c0_i32 : BitVec 32 := 0#32
  let c1_i32 : BitVec 32 := 1#32
  let arg14 : BitVec 32 := Scf.iv c0_i32 c1_i32 k0_t1
  let v104 : BitVec 32 := Scalar.addi arg14 c0_i32_57
  let v105 : Index := Scalar.indexCast v104
  let c0_58 : Index := 0#32
  ![v105.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_59 : BitVec 32 := 4#32
  let v109 : BitVec 32 := Scalar.muli arg14 c4_i32_59
  let c32_i32_60 : BitVec 32 := 32#32
  let v110 : BitVec 32 := Scalar.muli v109 c32_i32_60
  v110
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_64 : BitVec 32 := 4#32
  let v122 : BitVec 32 := Scalar.muli arg14 c4_i32_64
  let c32_i32_65 : BitVec 32 := 32#32
  let v123 : BitVec 32 := Scalar.muli v122 c32_i32_65
  v123
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_68 : BitVec 32 := 4#32
  let v135 : BitVec 32 := Scalar.muli arg14 c4_i32_68
  let c32_i32_69 : BitVec 32 := 32#32
  let v136 : BitVec 32 := Scalar.muli v135 c32_i32_69
  v136
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_72 : BitVec 32 := 4#32
  let v148 : BitVec 32 := Scalar.muli arg14 c4_i32_72
  let c16_i32_73 : BitVec 32 := 16#32
  let v149 : BitVec 32 := Scalar.muli v148 c16_i32_73
  v149
def k0_off3 (k0_t1 : Fin k0_t1_loop.trips) (c0_i32_74 : BitVec 32) : Fin 2 → Nat :=
  let c0_i32 : BitVec 32 := 0#32
  let c1_i32 : BitVec 32 := 1#32
  let arg14 : BitVec 32 := Scf.iv c0_i32 c1_i32 k0_t1
  let c4_i32_72 : BitVec 32 := 4#32
  let v148 : BitVec 32 := Scalar.muli arg14 c4_i32_72
  let c16_i32_73 : BitVec 32 := 16#32
  let v149 : BitVec 32 := Scalar.muli v148 c16_i32_73
  let v150 : BitVec 32 := v149
  let v151 : BitVec 32 := Scalar.addi v150 c0_i32_74
  let v152 : Index := Scalar.indexCast v151
  let c0_75 : Index := 0#32
  ![v152.toNat, 0]
def k0_off4 (k0_t1 : Fin k0_t1_loop.trips) (c0_i32_76 : BitVec 32) : Fin 2 → Nat :=
  let c0_i32 : BitVec 32 := 0#32
  let c1_i32 : BitVec 32 := 1#32
  let arg14 : BitVec 32 := Scf.iv c0_i32 c1_i32 k0_t1
  let v156 : BitVec 32 := Scalar.addi arg14 c0_i32_76
  let v157 : Index := Scalar.indexCast v156
  let c0_77 : Index := 0#32
  ![v157.toNat, 0]
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32_78 : BitVec 32 := 4#32
  let v161 : BitVec 32 := Scalar.muli arg14 c4_i32_78
  let c16_i32_79 : BitVec 32 := 16#32
  let v162 : BitVec 32 := Scalar.muli v161 c16_i32_79
  v162
@[reducible] def k0_t2_loop : Scf.Loop 32 :=
  let c0_i32_1 : BitVec 32 := 0#32
  let c128_i32 : BitVec 32 := 128#32
  let v1 : BitVec 32 := Scalar.addi c0_i32_1 c128_i32
  let c1_i32_2 : BitVec 32 := 1#32
  ⟨c0_i32_1, v1, c1_i32_2⟩
def k0_mult7 (k0_t2 : Fin k0_t2_loop.trips) : BitVec 32 :=
  let c0_i32_1 : BitVec 32 := 0#32
  let c1_i32_2 : BitVec 32 := 1#32
  let arg14 : BitVec 32 := Scf.iv c0_i32_1 c1_i32_2 k0_t2
  let c32_i32_53 : BitVec 32 := 32#32
  let v96 : BitVec 32 := Scalar.muli arg14 c32_i32_53
  v96
def k0_off5 (k0_t2 : Fin k0_t2_loop.trips) : Fin 2 → Nat :=
  let c0_i32_1 : BitVec 32 := 0#32
  let c1_i32_2 : BitVec 32 := 1#32
  let arg14 : BitVec 32 := Scf.iv c0_i32_1 c1_i32_2 k0_t2
  let c32_i32_53 : BitVec 32 := 32#32
  let v96 : BitVec 32 := Scalar.muli arg14 c32_i32_53
  let v97 : BitVec 32 := v96
  let v98 : Index := Scalar.indexCast v97
  let c0_54 : Index := 0#32
  ![v98.toNat, 0]
def k0_off6 (k0_t2 : Fin k0_t2_loop.trips) : Fin 2 → Nat :=
  let c2_i32 : BitVec 32 := 2#32
  let c0_i32_1 : BitVec 32 := 0#32
  let c1_i32_2 : BitVec 32 := 1#32
  let arg14 : BitVec 32 := Scf.iv c0_i32_1 c1_i32_2 k0_t2
  let v103 : BitVec 32 := Scalar.muli c2_i32 arg14
  let v104 : Index := Scalar.indexCast v103
  let c0_55 : Index := 0#32
  ![v104.toNat, 0]
def k0_off7 (k0_t2 : Fin k0_t2_loop.trips) : Fin 2 → Nat :=
  let c2_i32_56 : BitVec 32 := 2#32
  let c0_i32_1 : BitVec 32 := 0#32
  let c1_i32_2 : BitVec 32 := 1#32
  let arg14 : BitVec 32 := Scf.iv c0_i32_1 c1_i32_2 k0_t2
  let v109 : BitVec 32 := Scalar.muli c2_i32_56 arg14
  let c1_i32_57 : BitVec 32 := 1#32
  let v110 : BitVec 32 := Scalar.addi v109 c1_i32_57
  let v111 : Index := Scalar.indexCast v110
  let c0_58 : Index := 0#32
  ![v111.toNat, 0]
@[reducible] def k0_t3_loop : Scf.Loop 32 :=
  let c0_i32_4 : BitVec 32 := 0#32
  let c32_i32 : BitVec 32 := 32#32
  let v2 : BitVec 32 := Scalar.addi c0_i32_4 c32_i32
  let c1_i32_5 : BitVec 32 := 1#32
  ⟨c0_i32_4, v2, c1_i32_5⟩
def k0_off8 (k0_t3 : Fin k0_t3_loop.trips) (c0_i32_53 : BitVec 32) : Fin 2 → Nat :=
  let c0_i32_4 : BitVec 32 := 0#32
  let c1_i32_5 : BitVec 32 := 1#32
  let arg14 : BitVec 32 := Scf.iv c0_i32_4 c1_i32_5 k0_t3
  let c260_i32 : BitVec 32 := 260#32
  let v96 : BitVec 32 := Scalar.muli arg14 c260_i32
  let v97 : BitVec 32 := Scalar.addi v96 c0_i32_53
  let v98 : Index := Scalar.indexCast v97
  let c0_54 : Index := 0#32
  ![v98.toNat, 0]
def k0_off9 (k0_t3 : Fin k0_t3_loop.trips) : Fin 4 → Nat :=
  let c0_i32_4 : BitVec 32 := 0#32
  let c1_i32_5 : BitVec 32 := 1#32
  let arg14 : BitVec 32 := Scf.iv c0_i32_4 c1_i32_5 k0_t3
  let v101 : Index := Scalar.indexCast arg14
  let c0_55 : Index := 0#32
  let c0_56 : Index := 0#32
  let c0_57 : Index := 0#32
  ![v101.toNat, 0, 0, 0]
def k0_off10 (k0_t3 : Fin k0_t3_loop.trips) : Fin 4 → Nat :=
  let c0_i32_4 : BitVec 32 := 0#32
  let c1_i32_5 : BitVec 32 := 1#32
  let arg14 : BitVec 32 := Scf.iv c0_i32_4 c1_i32_5 k0_t3
  let v110 : Index := Scalar.indexCast arg14
  let c1 : Index := 1#32
  let c0_61 : Index := 0#32
  let c0_62 : Index := 0#32
  ![v110.toNat, 1, 0, 0]
@[reducible] def k0_t4_loop : Scf.Loop 32 :=
  let c0_i32_7 : BitVec 32 := 0#32
  let c16_i32 : BitVec 32 := 16#32
  let v3 : BitVec 32 := Scalar.addi c0_i32_7 c16_i32
  let c1_i32_8 : BitVec 32 := 1#32
  ⟨c0_i32_7, v3, c1_i32_8⟩
def k0_off11 (k0_t4 : Fin k0_t4_loop.trips) (c0_i32_53 : BitVec 32) : Fin 2 → Nat :=
  let c0_i32_7 : BitVec 32 := 0#32
  let c1_i32_8 : BitVec 32 := 1#32
  let arg14 : BitVec 32 := Scf.iv c0_i32_7 c1_i32_8 k0_t4
  let c260_i32 : BitVec 32 := 260#32
  let v96 : BitVec 32 := Scalar.muli arg14 c260_i32
  let v97 : BitVec 32 := Scalar.addi v96 c0_i32_53
  let v98 : Index := Scalar.indexCast v97
  let c0_54 : Index := 0#32
  ![v98.toNat, 0]
def k0_off12 (k0_t4 : Fin k0_t4_loop.trips) : Fin 4 → Nat :=
  let c0_i32_7 : BitVec 32 := 0#32
  let c1_i32_8 : BitVec 32 := 1#32
  let arg14 : BitVec 32 := Scf.iv c0_i32_7 c1_i32_8 k0_t4
  let v103 : Index := Scalar.indexCast arg14
  let c0_55 : Index := 0#32
  let c0_56 : Index := 0#32
  let c0_57 : Index := 0#32
  ![v103.toNat, 0, 0, 0]
def k0_off13 (k0_t4 : Fin k0_t4_loop.trips) : Fin 4 → Nat :=
  let c0_i32_7 : BitVec 32 := 0#32
  let c1_i32_8 : BitVec 32 := 1#32
  let arg14 : BitVec 32 := Scf.iv c0_i32_7 c1_i32_8 k0_t4
  let v114 : Index := Scalar.indexCast arg14
  let c1 : Index := 1#32
  let c0_62 : Index := 0#32
  let c0_63 : Index := 0#32
  ![v114.toNat, 1, 0, 0]
@[reducible] def k0_t5_loop : Scf.Loop 32 :=
  let c0_i32_18 : BitVec 32 := 0#32
  let c4_i32 : BitVec 32 := 4#32
  let v45 : BitVec 32 := Scalar.addi c0_i32_18 c4_i32
  let c1_i32_19 : BitVec 32 := 1#32
  ⟨c0_i32_18, v45, c1_i32_19⟩
def k0_off14 (k0_t5 : Fin k0_t5_loop.trips) : Fin 2 → Nat :=
  let c0_i32_18 : BitVec 32 := 0#32
  let c1_i32_19 : BitVec 32 := 1#32
  let arg14 : BitVec 32 := Scf.iv c0_i32_18 c1_i32_19 k0_t5
  let c260_i32 : BitVec 32 := 260#32
  let v96 : BitVec 32 := Scalar.muli arg14 c260_i32
  let c0_i32_53 : BitVec 32 := 0#32
  let v97 : BitVec 32 := Scalar.addi v96 c0_i32_53
  let v98 : Index := Scalar.indexCast v97
  let c0_54 : Index := 0#32
  ![v98.toNat, 0]
def k0_off15 (k0_t5 : Fin k0_t5_loop.trips) (c0_i32_57 : BitVec 32) : Fin 5 → Nat :=
  let c4_i32_56 : BitVec 32 := 4#32
  let c0_i32_18 : BitVec 32 := 0#32
  let c1_i32_19 : BitVec 32 := 1#32
  let arg14 : BitVec 32 := Scf.iv c0_i32_18 c1_i32_19 k0_t5
  let v108 : BitVec 32 := Scalar.muli c4_i32_56 arg14
  let v109 : BitVec 32 := Scalar.addi v108 c0_i32_57
  let c0_i32_58 : BitVec 32 := 0#32
  let c0_i32_59 : BitVec 32 := 0#32
  let c0_i32_60 : BitVec 32 := 0#32
  ![v109.toNat, 0, 0, 0, 0]
@[reducible] def k0_t6_loop : Scf.Loop 32 :=
  let c0_i32_38 : BitVec 32 := 0#32
  let c4_i32_39 : BitVec 32 := 4#32
  let v87 : BitVec 32 := Scalar.addi c0_i32_38 c4_i32_39
  let c1_i32_40 : BitVec 32 := 1#32
  ⟨c0_i32_38, v87, c1_i32_40⟩
def k0_off16 (k0_t6 : Fin k0_t6_loop.trips) : Fin 2 → Nat :=
  let c0_i32_38 : BitVec 32 := 0#32
  let c1_i32_40 : BitVec 32 := 1#32
  let arg14 : BitVec 32 := Scf.iv c0_i32_38 c1_i32_40 k0_t6
  let c260_i32 : BitVec 32 := 260#32
  let v96 : BitVec 32 := Scalar.muli arg14 c260_i32
  let c128_i32_53 : BitVec 32 := 128#32
  let v97 : BitVec 32 := Scalar.addi v96 c128_i32_53
  let v98 : Index := Scalar.indexCast v97
  let c0_54 : Index := 0#32
  ![v98.toNat, 0]
def k0_off17 (k0_t6 : Fin k0_t6_loop.trips) (c0_i32_57 : BitVec 32) : Fin 5 → Nat :=
  let c4_i32_56 : BitVec 32 := 4#32
  let c0_i32_38 : BitVec 32 := 0#32
  let c1_i32_40 : BitVec 32 := 1#32
  let arg14 : BitVec 32 := Scf.iv c0_i32_38 c1_i32_40 k0_t6
  let v108 : BitVec 32 := Scalar.muli c4_i32_56 arg14
  let v109 : BitVec 32 := Scalar.addi v108 c0_i32_57
  let c1_i32_58 : BitVec 32 := 1#32
  let c0_i32_59 : BitVec 32 := 0#32
  let c0_i32_60 : BitVec 32 := 0#32
  ![v109.toNat, 1, 0, 0, 0]
@[reducible] def k0_t7_loop : Scf.Loop 32 :=
  let c0_i32_45 : BitVec 32 := 0#32
  let c16_i32_46 : BitVec 32 := 16#32
  let v92 : BitVec 32 := Scalar.addi c0_i32_45 c16_i32_46
  let c1_i32_47 : BitVec 32 := 1#32
  ⟨c0_i32_45, v92, c1_i32_47⟩
def k0_off18 (k0_t7 : Fin k0_t7_loop.trips) : Fin 4 → Nat :=
  let c0_i32_45 : BitVec 32 := 0#32
  let c1_i32_47 : BitVec 32 := 1#32
  let arg14 : BitVec 32 := Scf.iv c0_i32_45 c1_i32_47 k0_t7
  let v147 : Index := Scalar.indexCast arg14
  let c0_77 : Index := 0#32
  let c0_78 : Index := 0#32
  let c0_79 : Index := 0#32
  ![v147.toNat, 0, 0, 0]
def k0_off19 (k0_t7 : Fin k0_t7_loop.trips) (c0_i32_67 : BitVec 32) : Fin 4 → Nat :=
  let c16_i32_66 : BitVec 32 := 16#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v124 : BitVec 32 := Scalar.muli c16_i32_66 v112
  let v125 : BitVec 32 := Scalar.addi v124 c0_i32_67
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let v126 : BitVec 32 := Scalar.addi v125 v122
  let v150 : Index := Scalar.indexCast v126
  let c0_80 : Index := 0#32
  let c0_81 : Index := 0#32
  let c0_82 : Index := 0#32
  ![v150.toNat, 0, 0, 0]
def k0_off20 (k0_t7 : Fin k0_t7_loop.trips) (c0_i32_69 : BitVec 32) : Fin 5 → Nat :=
  let c8_i32_68 : BitVec 32 := 8#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v127 : BitVec 32 := Scalar.muli c8_i32_68 v112
  let v128 : BitVec 32 := Scalar.addi v127 c0_i32_69
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let c0_i32_71 : BitVec 32 := 0#32
  let v130 : BitVec 1 := Scalar.cmpi .sgt v122 c0_i32_71
  let v131 : BitVec 32 := Scalar.extui v130
  let c0_i32_72 : BitVec 32 := 0#32
  let v132 : BitVec 1 := Scalar.cmpi .slt v122 c0_i32_72
  let v133 : BitVec 32 := Scalar.extui v132
  let v134 : BitVec 32 := Scalar.subi v131 v133
  let c4_i32_70 : BitVec 32 := 4#32
  let c0_i32_73 : BitVec 32 := 0#32
  let v135 : BitVec 1 := Scalar.cmpi .sgt c4_i32_70 c0_i32_73
  let v136 : BitVec 32 := Scalar.extui v135
  let c0_i32_74 : BitVec 32 := 0#32
  let v137 : BitVec 1 := Scalar.cmpi .slt c4_i32_70 c0_i32_74
  let v138 : BitVec 32 := Scalar.extui v137
  let v139 : BitVec 32 := Scalar.subi v136 v138
  let v140 : BitVec 1 := Scalar.cmpi .ne v134 v139
  let v141 : BitVec 32 := Scalar.remsi v122 c4_i32_70
  let c0_i32_75 : BitVec 32 := 0#32
  let v142 : BitVec 1 := Scalar.cmpi .ne v141 c0_i32_75
  let v143 : BitVec 1 := Scalar.andi v140 v142
  let v129 : BitVec 32 := Scalar.divsi v122 c4_i32_70
  let c1_i32_76 : BitVec 32 := 1#32
  let v144 : BitVec 32 := Scalar.subi v129 c1_i32_76
  let v145 : BitVec 32 := Scalar.select v143 v144 v129
  let v146 : BitVec 32 := Scalar.addi v128 v145
  let v164 : Index := Scalar.indexCast v146
  let c0_83 : Index := 0#32
  let c0_84 : Index := 0#32
  let c0_85 : Index := 0#32
  ![v164.toNat, 0, 0, 0, 0]
def k0_off21 (k0_t7 : Fin k0_t7_loop.trips) : Fin 4 → Nat :=
  let c0_i32_45 : BitVec 32 := 0#32
  let c1_i32_47 : BitVec 32 := 1#32
  let arg14 : BitVec 32 := Scf.iv c0_i32_45 c1_i32_47 k0_t7
  let v169 : Index := Scalar.indexCast arg14
  let c1 : Index := 1#32
  let c0_86 : Index := 0#32
  let c0_87 : Index := 0#32
  ![v169.toNat, 1, 0, 0]
def k0_off22 (k0_t7 : Fin k0_t7_loop.trips) (c0_i32_67 : BitVec 32) : Fin 4 → Nat :=
  let c16_i32_66 : BitVec 32 := 16#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v124 : BitVec 32 := Scalar.muli c16_i32_66 v112
  let v125 : BitVec 32 := Scalar.addi v124 c0_i32_67
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let v126 : BitVec 32 := Scalar.addi v125 v122
  let v172 : Index := Scalar.indexCast v126
  let c1_88 : Index := 1#32
  let c0_89 : Index := 0#32
  let c0_90 : Index := 0#32
  ![v172.toNat, 1, 0, 0]
def k0_off23 (k0_t7 : Fin k0_t7_loop.trips) (c0_i32_69 : BitVec 32) : Fin 5 → Nat :=
  let c8_i32_68 : BitVec 32 := 8#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v127 : BitVec 32 := Scalar.muli c8_i32_68 v112
  let v128 : BitVec 32 := Scalar.addi v127 c0_i32_69
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let c0_i32_71 : BitVec 32 := 0#32
  let v130 : BitVec 1 := Scalar.cmpi .sgt v122 c0_i32_71
  let v131 : BitVec 32 := Scalar.extui v130
  let c0_i32_72 : BitVec 32 := 0#32
  let v132 : BitVec 1 := Scalar.cmpi .slt v122 c0_i32_72
  let v133 : BitVec 32 := Scalar.extui v132
  let v134 : BitVec 32 := Scalar.subi v131 v133
  let c4_i32_70 : BitVec 32 := 4#32
  let c0_i32_73 : BitVec 32 := 0#32
  let v135 : BitVec 1 := Scalar.cmpi .sgt c4_i32_70 c0_i32_73
  let v136 : BitVec 32 := Scalar.extui v135
  let c0_i32_74 : BitVec 32 := 0#32
  let v137 : BitVec 1 := Scalar.cmpi .slt c4_i32_70 c0_i32_74
  let v138 : BitVec 32 := Scalar.extui v137
  let v139 : BitVec 32 := Scalar.subi v136 v138
  let v140 : BitVec 1 := Scalar.cmpi .ne v134 v139
  let v141 : BitVec 32 := Scalar.remsi v122 c4_i32_70
  let c0_i32_75 : BitVec 32 := 0#32
  let v142 : BitVec 1 := Scalar.cmpi .ne v141 c0_i32_75
  let v143 : BitVec 1 := Scalar.andi v140 v142
  let v129 : BitVec 32 := Scalar.divsi v122 c4_i32_70
  let c1_i32_76 : BitVec 32 := 1#32
  let v144 : BitVec 32 := Scalar.subi v129 c1_i32_76
  let v145 : BitVec 32 := Scalar.select v143 v144 v129
  let v146 : BitVec 32 := Scalar.addi v128 v145
  let v186 : Index := Scalar.indexCast v146
  let c1_95 : Index := 1#32
  let c0_96 : Index := 0#32
  let c0_97 : Index := 0#32
  ![v186.toNat, 1, 0, 0, 0]
def k0_off24 (k0_t7 : Fin k0_t7_loop.trips) (c0_i32_99 : BitVec 32) (c0_i32_100 : BitVec 32) : Fin 3 → Nat :=
  let c0_i32_45 : BitVec 32 := 0#32
  let c1_i32_47 : BitVec 32 := 1#32
  let arg14 : BitVec 32 := Scf.iv c0_i32_45 c1_i32_47 k0_t7
  let c8_i32_98 : BitVec 32 := 8#32
  let v192 : BitVec 32 := Scalar.muli arg14 c8_i32_98
  let v193 : BitVec 32 := Scalar.addi v192 c0_i32_99
  let v194 : BitVec 32 := Scalar.addi v193 c0_i32_100
  let v195 : Index := Scalar.indexCast v194
  let c0_101 : Index := 0#32
  let c0_102 : Index := 0#32
  ![v195.toNat, 0, 0]
def k0_off25 (k0_t7 : Fin k0_t7_loop.trips) : Fin 4 → Nat :=
  let c0_i32_45 : BitVec 32 := 0#32
  let c1_i32_47 : BitVec 32 := 1#32
  let arg14 : BitVec 32 := Scf.iv c0_i32_45 c1_i32_47 k0_t7
  let v200 : Index := Scalar.indexCast arg14
  let c0_104 : Index := 0#32
  let c64 : Index := 64#32
  let c0_105 : Index := 0#32
  ![v200.toNat, 0, 64, 0]
def k0_off26 (k0_t7 : Fin k0_t7_loop.trips) (c0_i32_67 : BitVec 32) : Fin 4 → Nat :=
  let c16_i32_66 : BitVec 32 := 16#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v124 : BitVec 32 := Scalar.muli c16_i32_66 v112
  let v125 : BitVec 32 := Scalar.addi v124 c0_i32_67
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let v126 : BitVec 32 := Scalar.addi v125 v122
  let v203 : Index := Scalar.indexCast v126
  let c0_106 : Index := 0#32
  let c64_107 : Index := 64#32
  let c0_108 : Index := 0#32
  ![v203.toNat, 0, 64, 0]
def k0_off27 (k0_t7 : Fin k0_t7_loop.trips) (c0_i32_69 : BitVec 32) : Fin 5 → Nat :=
  let c8_i32_68 : BitVec 32 := 8#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v127 : BitVec 32 := Scalar.muli c8_i32_68 v112
  let v128 : BitVec 32 := Scalar.addi v127 c0_i32_69
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let c0_i32_71 : BitVec 32 := 0#32
  let v130 : BitVec 1 := Scalar.cmpi .sgt v122 c0_i32_71
  let v131 : BitVec 32 := Scalar.extui v130
  let c0_i32_72 : BitVec 32 := 0#32
  let v132 : BitVec 1 := Scalar.cmpi .slt v122 c0_i32_72
  let v133 : BitVec 32 := Scalar.extui v132
  let v134 : BitVec 32 := Scalar.subi v131 v133
  let c4_i32_70 : BitVec 32 := 4#32
  let c0_i32_73 : BitVec 32 := 0#32
  let v135 : BitVec 1 := Scalar.cmpi .sgt c4_i32_70 c0_i32_73
  let v136 : BitVec 32 := Scalar.extui v135
  let c0_i32_74 : BitVec 32 := 0#32
  let v137 : BitVec 1 := Scalar.cmpi .slt c4_i32_70 c0_i32_74
  let v138 : BitVec 32 := Scalar.extui v137
  let v139 : BitVec 32 := Scalar.subi v136 v138
  let v140 : BitVec 1 := Scalar.cmpi .ne v134 v139
  let v141 : BitVec 32 := Scalar.remsi v122 c4_i32_70
  let c0_i32_75 : BitVec 32 := 0#32
  let v142 : BitVec 1 := Scalar.cmpi .ne v141 c0_i32_75
  let v143 : BitVec 1 := Scalar.andi v140 v142
  let v129 : BitVec 32 := Scalar.divsi v122 c4_i32_70
  let c1_i32_76 : BitVec 32 := 1#32
  let v144 : BitVec 32 := Scalar.subi v129 c1_i32_76
  let v145 : BitVec 32 := Scalar.select v143 v144 v129
  let v146 : BitVec 32 := Scalar.addi v128 v145
  let v217 : Index := Scalar.indexCast v146
  let c0_113 : Index := 0#32
  let c128_114 : Index := 128#32
  let c0_115 : Index := 0#32
  ![v217.toNat, 0, 128, 0, 0]
def k0_off28 (k0_t7 : Fin k0_t7_loop.trips) : Fin 4 → Nat :=
  let c0_i32_45 : BitVec 32 := 0#32
  let c1_i32_47 : BitVec 32 := 1#32
  let arg14 : BitVec 32 := Scf.iv c0_i32_45 c1_i32_47 k0_t7
  let v222 : Index := Scalar.indexCast arg14
  let c1_116 : Index := 1#32
  let c64_117 : Index := 64#32
  let c0_118 : Index := 0#32
  ![v222.toNat, 1, 64, 0]
def k0_off29 (k0_t7 : Fin k0_t7_loop.trips) (c0_i32_67 : BitVec 32) : Fin 4 → Nat :=
  let c16_i32_66 : BitVec 32 := 16#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v124 : BitVec 32 := Scalar.muli c16_i32_66 v112
  let v125 : BitVec 32 := Scalar.addi v124 c0_i32_67
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let v126 : BitVec 32 := Scalar.addi v125 v122
  let v225 : Index := Scalar.indexCast v126
  let c1_119 : Index := 1#32
  let c64_120 : Index := 64#32
  let c0_121 : Index := 0#32
  ![v225.toNat, 1, 64, 0]
def k0_off30 (k0_t7 : Fin k0_t7_loop.trips) (c0_i32_69 : BitVec 32) : Fin 5 → Nat :=
  let c8_i32_68 : BitVec 32 := 8#32
  let c0_i32_45 : BitVec 32 := 0#32
  let c1_i32_47 : BitVec 32 := 1#32
  let arg14 : BitVec 32 := Scf.iv c0_i32_45 c1_i32_47 k0_t7
  let c0_i32_53 : BitVec 32 := 0#32
  let v97 : BitVec 1 := Scalar.cmpi .sgt arg14 c0_i32_53
  let v98 : BitVec 32 := Scalar.extui v97
  let c0_i32_54 : BitVec 32 := 0#32
  let v99 : BitVec 1 := Scalar.cmpi .slt arg14 c0_i32_54
  let v100 : BitVec 32 := Scalar.extui v99
  let v101 : BitVec 32 := Scalar.subi v98 v100
  let c8_i32 : BitVec 32 := 8#32
  let c0_i32_55 : BitVec 32 := 0#32
  let v102 : BitVec 1 := Scalar.cmpi .sgt c8_i32 c0_i32_55
  let v103 : BitVec 32 := Scalar.extui v102
  let c0_i32_56 : BitVec 32 := 0#32
  let v104 : BitVec 1 := Scalar.cmpi .slt c8_i32 c0_i32_56
  let v105 : BitVec 32 := Scalar.extui v104
  let v106 : BitVec 32 := Scalar.subi v103 v105
  let v107 : BitVec 1 := Scalar.cmpi .ne v101 v106
  let v108 : BitVec 32 := Scalar.remsi arg14 c8_i32
  let c0_i32_57 : BitVec 32 := 0#32
  let v109 : BitVec 1 := Scalar.cmpi .ne v108 c0_i32_57
  let v110 : BitVec 1 := Scalar.andi v107 v109
  let v96 : BitVec 32 := Scalar.divsi arg14 c8_i32
  let c1_i32_58 : BitVec 32 := 1#32
  let v111 : BitVec 32 := Scalar.subi v96 c1_i32_58
  let v112 : BitVec 32 := Scalar.select v110 v111 v96
  let v127 : BitVec 32 := Scalar.muli c8_i32_68 v112
  let v128 : BitVec 32 := Scalar.addi v127 c0_i32_69
  let c8_i32_59 : BitVec 32 := 8#32
  let c0_i32_60 : BitVec 32 := 0#32
  let v113 : BitVec 1 := Scalar.cmpi .eq c8_i32_59 c0_i32_60
  let c1_i32_61 : BitVec 32 := 1#32
  let v114 : BitVec 32 := Scalar.select v113 c1_i32_61 c8_i32_59
  let v115 : BitVec 32 := Scalar.remsi arg14 v114
  let c0_i32_63 : BitVec 32 := 0#32
  let v117 : BitVec 1 := Scalar.cmpi .slt v115 c0_i32_63
  let c0_i32_64 : BitVec 32 := 0#32
  let v118 : BitVec 1 := Scalar.cmpi .slt v114 c0_i32_64
  let v119 : BitVec 1 := Scalar.xori v117 v118
  let c0_i32_62 : BitVec 32 := 0#32
  let v116 : BitVec 1 := Scalar.cmpi .ne v115 c0_i32_62
  let v120 : BitVec 1 := Scalar.andi v119 v116
  let v121 : BitVec 32 := Scalar.addi v115 v114
  let v122 : BitVec 32 := Scalar.select v120 v121 v115
  let c0_i32_71 : BitVec 32 := 0#32
  let v130 : BitVec 1 := Scalar.cmpi .sgt v122 c0_i32_71
  let v131 : BitVec 32 := Scalar.extui v130
  let c0_i32_72 : BitVec 32 := 0#32
  let v132 : BitVec 1 := Scalar.cmpi .slt v122 c0_i32_72
  let v133 : BitVec 32 := Scalar.extui v132
  let v134 : BitVec 32 := Scalar.subi v131 v133
  let c4_i32_70 : BitVec 32 := 4#32
  let c0_i32_73 : BitVec 32 := 0#32
  let v135 : BitVec 1 := Scalar.cmpi .sgt c4_i32_70 c0_i32_73
  let v136 : BitVec 32 := Scalar.extui v135
  let c0_i32_74 : BitVec 32 := 0#32
  let v137 : BitVec 1 := Scalar.cmpi .slt c4_i32_70 c0_i32_74
  let v138 : BitVec 32 := Scalar.extui v137
  let v139 : BitVec 32 := Scalar.subi v136 v138
  let v140 : BitVec 1 := Scalar.cmpi .ne v134 v139
  let v141 : BitVec 32 := Scalar.remsi v122 c4_i32_70
  let c0_i32_75 : BitVec 32 := 0#32
  let v142 : BitVec 1 := Scalar.cmpi .ne v141 c0_i32_75
  let v143 : BitVec 1 := Scalar.andi v140 v142
  let v129 : BitVec 32 := Scalar.divsi v122 c4_i32_70
  let c1_i32_76 : BitVec 32 := 1#32
  let v144 : BitVec 32 := Scalar.subi v129 c1_i32_76
  let v145 : BitVec 32 := Scalar.select v143 v144 v129
  let v146 : BitVec 32 := Scalar.addi v128 v145
  let v239 : Index := Scalar.indexCast v146
  let c1_126 : Index := 1#32
  let c128_127 : Index := 128#32
  let c0_128 : Index := 0#32
  ![v239.toNat, 1, 128, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32768x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x48x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S48x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S48x1x32768 : Shape := ⟨3, ![48, 1, 32768]⟩
abbrev S8192x128x2x64 : Shape := ⟨4, ![8192, 128, 2, 64]⟩
abbrev S8192x128x2x32 : Shape := ⟨4, ![8192, 128, 2, 32]⟩
abbrev S8192x128x16 : Shape := ⟨3, ![8192, 128, 16]⟩
abbrev S8192x128 : Shape := ⟨2, ![8192, 128]⟩
abbrev S8192x128x1 : Shape := ⟨3, ![8192, 128, 1]⟩
abbrev S8192x128x2x2x2x2x1 : Shape := ⟨7, ![8192, 128, 2, 2, 2, 2, 1]⟩
abbrev S2 : Shape := ⟨1, ![2]⟩
abbrev S_ : Shape := ⟨0, ![]⟩
abbrev S2x1x1 : Shape := ⟨3, ![2, 1, 1]⟩
abbrev S8192x128x2x1x2x32 : Shape := ⟨6, ![8192, 128, 2, 1, 2, 32]⟩
abbrev S1x1x1x2x1x1 : Shape := ⟨6, ![1, 1, 1, 2, 1, 1]⟩
abbrev S8192x128x2x2x2x32 : Shape := ⟨6, ![8192, 128, 2, 2, 2, 32]⟩
abbrev S4 : Shape := ⟨1, ![4]⟩
abbrev S2x2x1 : Shape := ⟨3, ![2, 2, 1]⟩
abbrev S8192x128x2x1x1x32 : Shape := ⟨6, ![8192, 128, 2, 1, 1, 32]⟩
abbrev S1x1x1x2x2x1 : Shape := ⟨6, ![1, 1, 1, 2, 2, 1]⟩
abbrev S8192x128x2x2x2x2x16 : Shape := ⟨7, ![8192, 128, 2, 2, 2, 2, 16]⟩
abbrev S8192x32768 : Shape := ⟨2, ![8192, 32768]⟩
abbrev S48x32768 : Shape := ⟨2, ![48, 32768]⟩
abbrev S48x8192 : Shape := ⟨2, ![48, 8192]⟩

abbrev nBuf : Space → Nat
  | .hbm => 57
  | .vmem => 2
  | .smem => 0
  | _ => 0

abbrev bufTy : (tb : Table) → Fin (tcTables nBuf tb) → BufTy
  | .hbm, ⟨0, _⟩ => ⟨S48x1x32768, .bf16⟩
  | .hbm, ⟨1, _⟩ => ⟨S8192x128x2x64, .i8⟩
  | .hbm, ⟨2, _⟩ => ⟨S8192x128x2x32, .i8⟩
  | .hbm, ⟨3, _⟩ => ⟨S8192x128x16, .i8⟩
  | .hbm, ⟨4, _⟩ => ⟨S8192x128, .i16⟩
  | .hbm, ⟨5, _⟩ => ⟨S8192x128, .f32⟩
  | .hbm, ⟨6, _⟩ => ⟨S8192x128x1, .f32⟩
  | .hbm, ⟨7, _⟩ => ⟨S8192x128x16, .i32⟩
  | .hbm, ⟨8, _⟩ => ⟨S8192x128x16, .f32⟩
  | .hbm, ⟨9, _⟩ => ⟨S8192x128x16, .f32⟩
  | .hbm, ⟨10, _⟩ => ⟨S8192x128x16, .f32⟩
  | .hbm, ⟨11, _⟩ => ⟨S8192x128x16, .bf16⟩
  | .hbm, ⟨12, _⟩ => ⟨S8192x128x2x2x2x2x1, .bf16⟩
  | .hbm, ⟨13, _⟩ => ⟨S2, .i32⟩
  | .hbm, ⟨14, _⟩ => ⟨S_, .i32⟩
  | .hbm, ⟨15, _⟩ => ⟨S2, .i32⟩
  | .hbm, ⟨16, _⟩ => ⟨S2, .i32⟩
  | .hbm, ⟨17, _⟩ => ⟨S2x1x1, .i32⟩
  | .hbm, ⟨18, _⟩ => ⟨S8192x128x2x64, .i32⟩
  | .hbm, ⟨19, _⟩ => ⟨S8192x128x2x1x2x32, .i32⟩
  | .hbm, ⟨20, _⟩ => ⟨S1x1x1x2x1x1, .i32⟩
  | .hbm, ⟨21, _⟩ => ⟨S8192x128x2x2x2x32, .i32⟩
  | .hbm, ⟨22, _⟩ => ⟨S8192x128x2x2x2x32, .i32⟩
  | .hbm, ⟨23, _⟩ => ⟨S8192x128x2x2x2x32, .i32⟩
  | .hbm, ⟨24, _⟩ => ⟨S_, .i32⟩
  | .hbm, ⟨25, _⟩ => ⟨S8192x128x2x2x2x32, .i32⟩
  | .hbm, ⟨26, _⟩ => ⟨S8192x128x2x2x2x32, .i32⟩
  | .hbm, ⟨27, _⟩ => ⟨S4, .i32⟩
  | .hbm, ⟨28, _⟩ => ⟨S_, .i32⟩
  | .hbm, ⟨29, _⟩ => ⟨S4, .i32⟩
  | .hbm, ⟨30, _⟩ => ⟨S4, .i32⟩
  | .hbm, ⟨31, _⟩ => ⟨S2x2x1, .i32⟩
  | .hbm, ⟨32, _⟩ => ⟨S8192x128x2x32, .i32⟩
  | .hbm, ⟨33, _⟩ => ⟨S8192x128x2x1x1x32, .i32⟩
  | .hbm, ⟨34, _⟩ => ⟨S1x1x1x2x2x1, .i32⟩
  | .hbm, ⟨35, _⟩ => ⟨S8192x128x2x2x2x32, .i32⟩
  | .hbm, ⟨36, _⟩ => ⟨S8192x128x2x2x2x32, .i32⟩
  | .hbm, ⟨37, _⟩ => ⟨S8192x128x2x2x2x32, .i32⟩
  | .hbm, ⟨38, _⟩ => ⟨S_, .i32⟩
  | .hbm, ⟨39, _⟩ => ⟨S8192x128x2x2x2x32, .i32⟩
  | .hbm, ⟨40, _⟩ => ⟨S8192x128x2x2x2x32, .i32⟩
  | .hbm, ⟨41, _⟩ => ⟨S_, .i32⟩
  | .hbm, ⟨42, _⟩ => ⟨S8192x128x2x2x2x32, .i32⟩
  | .hbm, ⟨43, _⟩ => ⟨S8192x128x2x2x2x32, .i32⟩
  | .hbm, ⟨44, _⟩ => ⟨S8192x128x2x2x2x32, .i32⟩
  | .hbm, ⟨45, _⟩ => ⟨S8192x128x2x2x2x32, .f32⟩
  | .hbm, ⟨46, _⟩ => ⟨S8192x128x2x2x2x32, .bf16⟩
  | .hbm, ⟨47, _⟩ => ⟨S_, .bf16⟩
  | .hbm, ⟨48, _⟩ => ⟨S8192x128x2x2x2x32, .bf16⟩
  | .hbm, ⟨49, _⟩ => ⟨S8192x128x2x2x2x32, .bf16⟩
  | .hbm, ⟨50, _⟩ => ⟨S8192x128x2x2x2x2x16, .bf16⟩
  | .hbm, ⟨51, _⟩ => ⟨S8192x128x2x2x2x2x16, .bf16⟩
  | .hbm, ⟨52, _⟩ => ⟨S8192x128x2x2x2x2x16, .bf16⟩
  | .hbm, ⟨53, _⟩ => ⟨S8192x32768, .bf16⟩
  | .hbm, ⟨54, _⟩ => ⟨S48x32768, .bf16⟩
  | .hbm, ⟨55, _⟩ => ⟨S48x8192, .f32⟩
  | .hbm, ⟨56, _⟩ => ⟨S48x8192, .bf16⟩
  | .local _ .vmem, ⟨0, _⟩ => ⟨S8192x128, .i16⟩
  | .local _ .vmem, ⟨1, _⟩ => ⟨S8192x128, .f32⟩
  | _, _ => ⟨S48x1x32768, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8192x128 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KLoops.lean ====
/-
  Hand-written, untrusted. The counted loops of `Kernel` the generated module leaves to the certificate: for each, one trip run
  by `sl_exec` at a symbolic trip number with the pieces it writes listed, the pieces of all trips before `k`, and the loop's
  invariant (`@[sl_loop]`): what the loop reads is as it was, what it writes holds the pieces of the trips so far.
-/
module

public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- A whole memref's elements are all of its buffer's. -/
theorem view_set_univ {sp : Space} {S : Shape} {e : EltTy} {M : Memref sig .tc sp S e} (h : M.IsWhole) : M.view.set = Finset.univ := by
  obtain ⟨b, rfl, rfl, rfl, h⟩ := h; cases h; exact View.set_whole b

/-! ## the loop that lays the weight words of the low and the high codes out in rows of pitch 260 -/

/-- One trip's resources: what the loop reads at its contents, what it writes at any. -/
abbrev Trip_t1 (c : Dev nD) (arg1 : Memref sig .tc .vmem S32768x128 .i8) (arg2 : Memref sig .tc .vmem S16384x128 .i8) (arg7 : Memref sig .tc .vmem S8320x128 .i32) (arg8 : Memref sig .tc .vmem S4160x128 .i32) (X_arg1 : BufTy.Contents (Elt F) arg1.view.ty) (X_arg2 : BufTy.Contents (Elt F) arg2.view.ty) (f_arg7 : BufTy.Contents (Elt F) arg7.view.ty) (f_arg8 : BufTy.Contents (Elt F) arg8.view.ty) : sProp 𝕄G :=
  iprop((arg1.view.loc (c : Thread nD τ) ↦[arg1.view.set]{fullShare} X_arg1) ∗ (arg2.view.loc (c : Thread nD τ) ↦[arg2.view.set]{fullShare} X_arg2) ∗ (arg7.view.loc (c : Thread nD τ) ↦[arg7.view.set]{fullShare} f_arg7) ∗ (arg8.view.loc (c : Thread nD τ) ↦[arg8.view.set]{fullShare} f_arg8))

set_option sl_exec.squeezeSlice true in
set_option sl_exec.closedPieces true in
/-- One trip at a symbolic `k`: the pieces it writes, and the trip's triple. -/
@[irreducible] def trip_t1 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (X_arg1 : BufTy.Contents (Elt F) arg1.view.ty) (X_arg2 : BufTy.Contents (Elt F) arg2.view.ty) (k : Fin k0_t1_loop.trips) :
    Σ' L_arg7 : List (View.Piece (Elt F) S8320x128 .i32), { L_arg8 : List (View.Piece (Elt F) S4160x128 .i32) // ∀ (E : Set ℕ) (f_arg7 : BufTy.Contents (Elt F) arg7.view.ty) (f_arg8 : BufTy.Contents (Elt F) arg8.view.ty),
      Trip_t1 (F := F) c arg1 arg2 arg7 arg8 X_arg1 X_arg2 f_arg7 f_arg8
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 k PUnit.unit)
          (fun _ => Trip_t1 (F := F) c arg1 arg2 arg7 arg8 X_arg1 X_arg2 (arg7.view.writes (Elt F) f_arg7 L_arg7) (arg8.view.writes (Elt F) f_arg8 L_arg8)) } := by
  have hk : k.val < 256 := Nat.lt_of_lt_of_le k.isLt k0_t1_abs.2.1
  refine ⟨?_, ?_, fun E f_arg7 f_arg8 => ?run⟩
  case run =>
    unfold k0_t1_body
    iintro ⟨HR_arg1, HR_arg2, HW_arg7, HW_arg8⟩
    sl_exec
    sl_step
    sl_close

/-- The pieces the trips before `k` write into arg7, the last trip's first. -/
def pb_t1_arg7 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (X_arg1 : BufTy.Contents (Elt F) arg1.view.ty) (X_arg2 : BufTy.Contents (Elt F) arg2.view.ty) : Nat → List (View.Piece (Elt F) S8320x128 .i32)
  | 0 => []
  | k + 1 => if h : k < k0_t1_loop.trips then (trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨k, h⟩).1 ++ pb_t1_arg7 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k
      else pb_t1_arg7 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k

/-- The pieces before trip `k + 1` are trip `k`'s in front of those before it. -/
theorem pb_t1_arg7_succ (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (X_arg1 : BufTy.Contents (Elt F) arg1.view.ty) (X_arg2 : BufTy.Contents (Elt F) arg2.view.ty) (k : Fin k0_t1_loop.trips) :
    pb_t1_arg7 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 (k.val + 1) = (trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k).1 ++ pb_t1_arg7 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k.val := by
  rw [pb_t1_arg7.eq_2]; exact dif_pos k.isLt

/-- The pieces the trips before `k` write into arg8, the last trip's first. -/
def pb_t1_arg8 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (X_arg1 : BufTy.Contents (Elt F) arg1.view.ty) (X_arg2 : BufTy.Contents (Elt F) arg2.view.ty) : Nat → List (View.Piece (Elt F) S4160x128 .i32)
  | 0 => []
  | k + 1 => if h : k < k0_t1_loop.trips then (trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨k, h⟩).2.1 ++ pb_t1_arg8 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k
      else pb_t1_arg8 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k

/-- The pieces before trip `k + 1` are trip `k`'s in front of those before it. -/
theorem pb_t1_arg8_succ (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (X_arg1 : BufTy.Contents (Elt F) arg1.view.ty) (X_arg2 : BufTy.Contents (Elt F) arg2.view.ty) (k : Fin k0_t1_loop.trips) :
    pb_t1_arg8 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 (k.val + 1) = (trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k).2.1 ++ pb_t1_arg8 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k.val := by
  rw [pb_t1_arg8.eq_2]; exact dif_pos k.isLt

set_option warn.classDefReducibility false in
/-- The loop's invariant. -/
@[sl_loop] def loopInv_t1 (𝒱 : Variants) (c : Dev nD) (bd : Option 𝒱.V) (E : Set ℕ) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (X_arg1 : BufTy.Contents (Elt F) arg1.view.ty) (X_arg2 : BufTy.Contents (Elt F) arg2.view.ty) (G_arg7 : BufTy.Contents (Elt F) arg7.view.ty) (G_arg8 : BufTy.Contents (Elt F) arg8.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 where
  inv k _ := iprop((arg1.view.loc (c : Thread nD τ) ↦[arg1.view.set]{fullShare} X_arg1) ∗ (arg2.view.loc (c : Thread nD τ) ↦[arg2.view.set]{fullShare} X_arg2) ∗ (∃ f, (arg7.view.loc (c : Thread nD τ) ↦[arg7.view.set]{fullShare} f) ∗ ⌜f = arg7.view.writes (Elt F) G_arg7 (pb_t1_arg7 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k)⌝) ∗ (∃ f, (arg8.view.loc (c : Thread nD τ) ↦[arg8.view.set]{fullShare} f) ∗ ⌜f = arg8.view.writes (Elt F) G_arg8 (pb_t1_arg8 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k)⌝))
  step k acc := by
    iintro ⟨HR_arg1, HR_arg2, ⟨%f_arg7, HW_arg7, %h_arg7⟩, ⟨%f_arg8, HW_arg8, %h_arg8⟩⟩
    iapply (wp_wand_r _ _ _)
    isplitl [HR_arg1 HR_arg2 HW_arg7 HW_arg8]
    · iapply ((trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k).2.2 E f_arg7 f_arg8)
      isplitl [HR_arg1]; · iexact HR_arg1
      isplitl [HR_arg2]; · iexact HR_arg2
      isplitl [HW_arg7]; · iexact HW_arg7
      iexact HW_arg8
    · iintro %_ ⟨HR_arg1, HR_arg2, HW_arg7, HW_arg8⟩
      isplitl [HR_arg1]; · iexact HR_arg1
      isplitl [HR_arg2]; · iexact HR_arg2
      isplitl [HW_arg7]
      · iexists _; isplitl [HW_arg7]; · iexact HW_arg7
        ipureintro; rw [h_arg7, pb_t1_arg7_succ]; exact (View.writes_append _ _ _ _).symm
      iexists _; isplitl [HW_arg8]; · iexact HW_arg8
      ipureintro; rw [h_arg8, pb_t1_arg8_succ]; exact (View.writes_append _ _ _ _).symm

/-! ## the loop that lays the scale words out in rows of pitch 260 -/

/-- One trip's resources: what the loop reads at its contents, what it writes at any. -/
abbrev Trip_t2 (c : Dev nD) (arg3 : Memref sig .tc .vmem S4096x128 .i8) (arg9 : Memref sig .tc .vmem S1040x128 .i32) (X_arg3 : BufTy.Contents (Elt F) arg3.view.ty) (f_arg9 : BufTy.Contents (Elt F) arg9.view.ty) : sProp 𝕄G :=
  iprop((arg3.view.loc (c : Thread nD τ) ↦[arg3.view.set]{fullShare} X_arg3) ∗ (arg9.view.loc (c : Thread nD τ) ↦[arg9.view.set]{fullShare} f_arg9))

set_option sl_exec.squeezeSlice true in
set_option sl_exec.closedPieces true in
/-- One trip at a symbolic `k`: the pieces it writes, and the trip's triple. -/
@[irreducible] def trip_t2 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (X_arg3 : BufTy.Contents (Elt F) arg3.view.ty) (k : Fin k0_t2_loop.trips) :
    { L_arg9 : List (View.Piece (Elt F) S1040x128 .i32) // ∀ (E : Set ℕ) (f_arg9 : BufTy.Contents (Elt F) arg9.view.ty),
      Trip_t2 (F := F) c arg3 arg9 X_arg3 f_arg9
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 k PUnit.unit)
          (fun _ => Trip_t2 (F := F) c arg3 arg9 X_arg3 (arg9.view.writes (Elt F) f_arg9 L_arg9)) } := by
  have hk : k.val < 128 := Nat.lt_of_lt_of_le k.isLt k0_t2_abs.2.1
  refine ⟨?_, fun E f_arg9 => ?run⟩
  case run =>
    unfold k0_t2_body
    iintro ⟨HR_arg3, HW_arg9⟩
    sl_exec
    sl_step
    sl_close

/-- The pieces the trips before `k` write into arg9, the last trip's first. -/
def pb_t2_arg9 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (X_arg3 : BufTy.Contents (Elt F) arg3.view.ty) : Nat → List (View.Piece (Elt F) S1040x128 .i32)
  | 0 => []
  | k + 1 => if h : k < k0_t2_loop.trips then (trip_t2 (F := F) 𝒱 c bd i arg1 harg1 arg2 harg2 arg3 harg3 arg4 harg4 arg5 harg5 arg6 harg6 arg7 harg7 arg8 harg8 arg9 harg9 arg10 harg10 arg11 harg11 arg12 harg12 arg13 harg13 X_arg3 ⟨k, h⟩).1 ++ pb_t2_arg9 𝒱 c bd i arg1 harg1 arg2 harg2 arg3 harg3 arg4 harg4 arg5 harg5 arg6 harg6 arg7 harg7 arg8 harg8 arg9 harg9 arg10 harg10 arg11 harg11 arg12 harg12 arg13 harg13 X_arg3 k
      else pb_t2_arg9 𝒱 c bd i arg1 harg1 arg2 harg2 arg3 harg3 arg4 harg4 arg5 harg5 arg6 harg6 arg7 harg7 arg8 harg8 arg9 harg9 arg10 harg10 arg11 harg11 arg12 harg12 arg13 harg13 X_arg3 k

/-- The pieces before trip `k + 1` are trip `k`'s in front of those before it. -/
theorem pb_t2_arg9_succ (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (X_arg3 : BufTy.Contents (Elt F) arg3.view.ty) (k : Fin k0_t2_loop.trips) :
    pb_t2_arg9 (F := F) 𝒱 c bd i arg1 harg1 arg2 harg2 arg3 harg3 arg4 harg4 arg5 harg5 arg6 harg6 arg7 harg7 arg8 harg8 arg9 harg9 arg10 harg10 arg11 harg11 arg12 harg12 arg13 harg13 X_arg3 (k.val + 1) = (trip_t2 (F := F) 𝒱 c bd i arg1 harg1 arg2 harg2 arg3 harg3 arg4 harg4 arg5 harg5 arg6 harg6 arg7 harg7 arg8 harg8 arg9 harg9 arg10 harg10 arg11 harg11 arg12 harg12 arg13 harg13 X_arg3 k).1 ++ pb_t2_arg9 (F := F) 𝒱 c bd i arg1 harg1 arg2 harg2 arg3 harg3 arg4 harg4 arg5 harg5 arg6 harg6 arg7 harg7 arg8 harg8 arg9 harg9 arg10 harg10 arg11 harg11 arg12 harg12 arg13 harg13 X_arg3 k.val := by
  rw [pb_t2_arg9.eq_2]; exact dif_pos k.isLt

set_option warn.classDefReducibility false in
/-- The loop's invariant. -/
@[sl_loop] def loopInv_t2 (𝒱 : Variants) (c : Dev nD) (bd : Option 𝒱.V) (E : Set ℕ) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (X_arg3 : BufTy.Contents (Elt F) arg3.view.ty) (G_arg9 : BufTy.Contents (Elt F) arg9.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 where
  inv k _ := iprop((arg3.view.loc (c : Thread nD τ) ↦[arg3.view.set]{fullShare} X_arg3) ∗ (∃ f, (arg9.view.loc (c : Thread nD τ) ↦[arg9.view.set]{fullShare} f) ∗ ⌜f = arg9.view.writes (Elt F) G_arg9 (pb_t2_arg9 (F := F) 𝒱 c bd i arg1 harg1 arg2 harg2 arg3 harg3 arg4 harg4 arg5 harg5 arg6 harg6 arg7 harg7 arg8 harg8 arg9 harg9 arg10 harg10 arg11 harg11 arg12 harg12 arg13 harg13 X_arg3 k)⌝))
  step k acc := by
    iintro ⟨HR_arg3, ⟨%f_arg9, HW_arg9, %h_arg9⟩⟩
    iapply (wp_wand_r _ _ _)
    isplitl [HR_arg3 HW_arg9]
    · iapply ((trip_t2 (F := F) 𝒱 c bd i arg1 harg1 arg2 harg2 arg3 harg3 arg4 harg4 arg5 harg5 arg6 harg6 arg7 harg7 arg8 harg8 arg9 harg9 arg10 harg10 arg11 harg11 arg12 harg12 arg13 harg13 X_arg3 k).2 E f_arg9)
      isplitl [HR_arg3]; · iexact HR_arg3
      iexact HW_arg9
    · iintro %_ ⟨HR_arg3, HW_arg9⟩
      isplitl [HR_arg3]; · iexact HR_arg3
      iexists _; isplitl [HW_arg9]; · iexact HW_arg9
      ipureintro; rw [h_arg9, pb_t2_arg9_succ]; exact (View.writes_append _ _ _ _).symm

/-! ## the loop that writes the first half of the effective scales -/

/-- One trip's resources: the scale words at their contents, the effective scales at any. -/
abbrev Trip_t5 (c : Dev nD) (arg9 : Memref sig .tc .vmem S1040x128 .i32) (arg12 : Memref sig .tc .vmem S16x2x256x128 .i32) (X_arg9 : BufTy.Contents (Elt F) arg9.view.ty) (f_arg12 : BufTy.Contents (Elt F) arg12.view.ty) : sProp 𝕄G :=
  iprop((arg9.view.loc (c : Thread nD τ) ↦[arg9.view.set]{fullShare} X_arg9) ∗ (arg12.view.loc (c : Thread nD τ) ↦{fullShare} f_arg12))

/-- One trip at a symbolic `k`: what it leaves in the effective scales as a function of what it finds there, and the trip's triple. -/
@[irreducible] def trip_t5 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (v5 : IVec S128x128 32) (v7 : IVec S128x128 32) (v11 : IVec S128x128 32) (v18 : FVec F S128x128 .f32) (v25 : FVec F S128x128 .f32) (v26 : IVec S128x128 32) (X_arg9 : BufTy.Contents (Elt F) arg9.view.ty) (k : Fin k0_t5_loop.trips) :
    { L : BufTy.Contents (Elt F) arg12.view.ty → BufTy.Contents (Elt F) arg12.view.ty // ∀ (E : Set ℕ) (f : BufTy.Contents (Elt F) arg12.view.ty),
      Trip_t5 (F := F) c arg9 arg12 X_arg9 f
      ⊢ wp frame (wpE (defs₀ (F := F)) 𝒱 (c : Thread nD τ) bd) E (k0_t5_body (F := F) i arg1 harg1 arg2 harg2 arg3 harg3 arg4 harg4 arg5 harg5 arg6 harg6 arg7 harg7 arg8 harg8 arg9 harg9 arg10 harg10 arg11 harg11 arg12 harg12 arg13 harg13 v5 v7 v11 v18 v25 v26 k PUnit.unit)
          (fun _ => Trip_t5 (F := F) c arg9 arg12 X_arg9 (L f)) } := by
  have hk : k.val < 4 := Nat.lt_of_lt_of_le k.isLt k0_t5_abs.2.1
  refine ⟨?_, fun E f => ?run⟩
  case run =>
    unfold k0_t5_body
    iintro ⟨HR, HW⟩
    sl_exec
    sl_step
    sl_close

/-- What the effective scales hold before trip `k`, from `G` at loop entry. -/
def st_t5 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (v5 : IVec S128x128 32) (v7 : IVec S128x128 32) (v11 : IVec S128x128 32) (v18 : FVec F S128x128 .f32) (v25 : FVec F S128x128 .f32) (v26 : IVec S128x128 32) (X_arg9 : BufTy.Contents (Elt F) arg9.view.ty) (G : BufTy.Contents (Elt F) arg12.view.ty) : Nat → BufTy.Contents (Elt F) arg12.view.ty
  | 0 => G
  | k + 1 => if h : k < k0_t5_loop.trips then (trip_t5 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 ⟨k, h⟩).1 (st_t5 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 G k)
      else st_t5 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 G k

/-- Before trip `k + 1` they hold what trip `k` makes of what they held before it. -/
theorem st_t5_succ (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (v5 : IVec S128x128 32) (v7 : IVec S128x128 32) (v11 : IVec S128x128 32) (v18 : FVec F S128x128 .f32) (v25 : FVec F S128x128 .f32) (v26 : IVec S128x128 32) (X_arg9 : BufTy.Contents (Elt F) arg9.view.ty) (G : BufTy.Contents (Elt F) arg12.view.ty) (k : Fin k0_t5_loop.trips) :
    st_t5 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 G (k.val + 1) = (trip_t5 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 k).1 (st_t5 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 G k.val) := by
  rw [st_t5.eq_2]; exact dif_pos k.isLt

set_option warn.classDefReducibility false in
/-- The loop's invariant. -/
@[sl_loop] def loopInv_t5 (𝒱 : Variants) (c : Dev nD) (bd : Option 𝒱.V) (E : Set ℕ) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (v5 : IVec S128x128 32) (v7 : IVec S128x128 32) (v11 : IVec S128x128 32) (v18 : FVec F S128x128 .f32) (v25 : FVec F S128x128 .f32) (v26 : IVec S128x128 32) (X_arg9 : BufTy.Contents (Elt F) arg9.view.ty) (G : BufTy.Contents (Elt F) arg12.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v5 v7 v11 v18 v25 v26 where
  inv k _ := iprop((arg9.view.loc (c : Thread nD τ) ↦[arg9.view.set]{fullShare} X_arg9) ∗ (∃ f, (arg12.view.loc (c : Thread nD τ) ↦[arg12.view.set]{fullShare} f) ∗ ⌜f = st_t5 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 G k⌝))
  step k acc := by
    rw [view_set_univ harg12]
    iintro ⟨HR, ⟨%f, HW, %hf⟩⟩
    iapply (wp_wand_r _ _ _)
    isplitl [HR HW]
    · iapply ((trip_t5 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 k).2 E f)
      isplitl [HR]; · iexact HR
      iexact HW
    · iintro %_ ⟨HR, HW⟩
      isplitl [HR]; · iexact HR
      iexists _; isplitl [HW]; · iexact HW
      ipureintro; rw [hf, st_t5_succ]

/-! ## the loop that writes the second half of the effective scales -/

/-- One trip's resources: the scale words at their contents, the effective scales at any. -/
abbrev Trip_t6 (c : Dev nD) (arg9 : Memref sig .tc .vmem S1040x128 .i32) (arg12 : Memref sig .tc .vmem S16x2x256x128 .i32) (X_arg9 : BufTy.Contents (Elt F) arg9.view.ty) (f_arg12 : BufTy.Contents (Elt F) arg12.view.ty) : sProp 𝕄G :=
  iprop((arg9.view.loc (c : Thread nD τ) ↦[arg9.view.set]{fullShare} X_arg9) ∗ (arg12.view.loc (c : Thread nD τ) ↦{fullShare} f_arg12))

/-- One trip at a symbolic `k`: what it leaves in the effective scales as a function of what it finds there, and the trip's triple. -/
@[irreducible] def trip_t6 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (v47 : IVec S128x128 32) (v49 : IVec S128x128 32) (v53 : IVec S128x128 32) (v60 : FVec F S128x128 .f32) (v64 : IVec S128x128 32) (c2139095040_i32_30 : BitVec 32) (X_arg9 : BufTy.Contents (Elt F) arg9.view.ty) (k : Fin k0_t6_loop.trips) :
    { L : BufTy.Contents (Elt F) arg12.view.ty → BufTy.Contents (Elt F) arg12.view.ty // ∀ (E : Set ℕ) (f : BufTy.Contents (Elt F) arg12.view.ty),
      Trip_t6 (F := F) c arg9 arg12 X_arg9 f
      ⊢ wp frame (wpE (defs₀ (F := F)) 𝒱 (c : Thread nD τ) bd) E (k0_t6_body (F := F) i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 k PUnit.unit)
          (fun _ => Trip_t6 (F := F) c arg9 arg12 X_arg9 (L f)) } := by
  have hk : k.val < 4 := Nat.lt_of_lt_of_le k.isLt k0_t6_abs.2.1
  refine ⟨?_, fun E f => ?run⟩
  case run =>
    unfold k0_t6_body
    iintro ⟨HR, HW⟩
    sl_exec
    sl_step
    sl_close

/-- What the effective scales hold before trip `k`, from `G` at loop entry. -/
def st_t6 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (v47 : IVec S128x128 32) (v49 : IVec S128x128 32) (v53 : IVec S128x128 32) (v60 : FVec F S128x128 .f32) (v64 : IVec S128x128 32) (c2139095040_i32_30 : BitVec 32) (X_arg9 : BufTy.Contents (Elt F) arg9.view.ty) (G : BufTy.Contents (Elt F) arg12.view.ty) : Nat → BufTy.Contents (Elt F) arg12.view.ty
  | 0 => G
  | k + 1 => if h : k < k0_t6_loop.trips then (trip_t6 (F := F) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 ⟨k, h⟩).1 (st_t6 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 G k)
      else st_t6 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 G k

/-- Before trip `k + 1` they hold what trip `k` makes of what they held before it. -/
theorem st_t6_succ (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (v47 : IVec S128x128 32) (v49 : IVec S128x128 32) (v53 : IVec S128x128 32) (v60 : FVec F S128x128 .f32) (v64 : IVec S128x128 32) (c2139095040_i32_30 : BitVec 32) (X_arg9 : BufTy.Contents (Elt F) arg9.view.ty) (G : BufTy.Contents (Elt F) arg12.view.ty) (k : Fin k0_t6_loop.trips) :
    st_t6 (F := F) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 G (k.val + 1) = (trip_t6 (F := F) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 k).1 (st_t6 (F := F) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 G k.val) := by
  rw [st_t6.eq_2]; exact dif_pos k.isLt

set_option warn.classDefReducibility false in
/-- The loop's invariant. -/
@[sl_loop] def loopInv_t6 (𝒱 : Variants) (c : Dev nD) (bd : Option 𝒱.V) (E : Set ℕ) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (v47 : IVec S128x128 32) (v49 : IVec S128x128 32) (v53 : IVec S128x128 32) (v60 : FVec F S128x128 .f32) (v64 : IVec S128x128 32) (c2139095040_i32_30 : BitVec 32) (X_arg9 : BufTy.Contents (Elt F) arg9.view.ty) (G : BufTy.Contents (Elt F) arg12.view.ty) :
    LoopInvTy_k0_t6 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 where
  inv k _ := iprop((arg9.view.loc (c : Thread nD τ) ↦[arg9.view.set]{fullShare} X_arg9) ∗ (∃ f, (arg12.view.loc (c : Thread nD τ) ↦[arg12.view.set]{fullShare} f) ∗ ⌜f = st_t6 (F := F) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 G k⌝))
  step k acc := by
    rw [view_set_univ harg12]
    iintro ⟨HR, ⟨%f, HW, %hf⟩⟩
    iapply (wp_wand_r _ _ _)
    isplitl [HR HW]
    · iapply ((trip_t6 (F := F) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 k).2 E f)
      isplitl [HR]; · iexact HR
      iexact HW
    · iintro %_ ⟨HR, HW⟩
      isplitl [HR]; · iexact HR
      iexists _; isplitl [HW]; · iexact HW
      ipureintro; rw [hf, st_t6_succ]

end Cert.Kernel.Hand

end
-- ==== Proof.KRun.lean ====
/-
  Hand-written, untrusted. The body of `Kernel` run once by `sl_exec` through its seven loops: the five input blocks are as they
  were, the output block holds the listed pieces (functions of what the blocks and the scratch buffers held), the scratch
  buffers hold something.
-/
module

public import proofs.«01_k».proof.Proof.KLoops
public import proofs.«01_k».proof.Proof.Gen.Kernel.Frame
public import proofs.«01_k».proof.Proof.Gen.Kernel.Points
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- What the body is handed: the input blocks at their contents, the output block and the scratch buffers at any. -/
abbrev RunPre (c : Dev nD) (arg1 : Memref sig .tc .vmem S32768x128 .i8) (arg2 : Memref sig .tc .vmem S16384x128 .i8) (arg3 : Memref sig .tc .vmem S4096x128 .i8) (arg4 : Memref sig .tc .vmem S256x128 .i16) (arg5 : Memref sig .tc .vmem S128x48x256 .bf16) (arg6 : Memref sig .tc .vmem S48x256 .bf16) (arg7 : Memref sig .tc .vmem S8320x128 .i32) (arg8 : Memref sig .tc .vmem S4160x128 .i32) (arg9 : Memref sig .tc .vmem S1040x128 .i32) (arg10 : Memref sig .tc .vmem S32x2x128x128 .i32) (arg11 : Memref sig .tc .vmem S16x2x128x128 .i32) (arg12 : Memref sig .tc .vmem S16x2x256x128 .i32) (arg13 : Memref sig .tc .vmem S48x256 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13))

/-- What it hands back: the input blocks as they were, the output block at `g`, the scratch buffers at something. -/
abbrev RunPost (c : Dev nD) (arg1 : Memref sig .tc .vmem S32768x128 .i8) (arg2 : Memref sig .tc .vmem S16384x128 .i8) (arg3 : Memref sig .tc .vmem S4096x128 .i8) (arg4 : Memref sig .tc .vmem S256x128 .i16) (arg5 : Memref sig .tc .vmem S128x48x256 .bf16) (arg6 : Memref sig .tc .vmem S48x256 .bf16) (arg7 : Memref sig .tc .vmem S8320x128 .i32) (arg8 : Memref sig .tc .vmem S4160x128 .i32) (arg9 : Memref sig .tc .vmem S1040x128 .i32) (arg10 : Memref sig .tc .vmem S32x2x128x128 .i32) (arg11 : Memref sig .tc .vmem S16x2x128x128 .i32) (arg12 : Memref sig .tc .vmem S16x2x256x128 .i32) (arg13 : Memref sig .tc .vmem S48x256 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (g : BufTy.Contents (Elt F) arg6.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} g) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))

set_option maxRecDepth 65536 in
/-- The body's run: the pieces it writes into the output block, and its triple. -/
@[irreducible] def run (c : Dev nD) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) :
    { L : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S48x256 .bf16) // ∀ (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty),
      RunPre (F := F) c arg1 arg2 arg3 arg4 arg5 arg6 arg7 arg8 arg9 arg10 arg11 arg12 arg13 X_arg1 X_arg2 X_arg3 X_arg4 X_arg5 f_arg6 f_arg7 f_arg8 f_arg9 f_arg10 f_arg11 f_arg12 f_arg13
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
          (fun _ => RunPost (F := F) c arg1 arg2 arg3 arg4 arg5 arg6 arg7 arg8 arg9 arg10 arg11 arg12 arg13 X_arg1 X_arg2 X_arg3 X_arg4 X_arg5 (arg6.view.writes (Elt F) f_arg6 (L f_arg7 f_arg8 f_arg9 f_arg10 f_arg11 f_arg12 f_arg13))) } := by
  refine ⟨?_, fun E f_arg6 f_arg7 f_arg8 f_arg9 f_arg10 f_arg11 f_arg12 f_arg13 => ?run⟩
  case run =>
    rw [cc0__body_eq_skeleton]; unfold cc0__body_skel
    iintro ⟨H1, H2, H3, H4, H5, H6, H7, H8, H9, H10, H11, H12, H13⟩
    sl_exec_parts
    sl_step
    sl_close

end Cert.Kernel.Hand

end
-- ==== Proof.KFrame.lean ====
/-
  Hand-written, untrusted. The launch of `Kernel`: the body's triple at the pipeline's staging memrefs (its run, Proof/KRun.lean),
  the proof data, the body obligation at every point of the grid, and the run of @main with every counter back at zero; nothing is said
  of what the output holds.
-/
module

public import proofs.«01_k».proof.Proof.KRun
public import proofs.«01_k».proof.Proof.Gen.Kernel.Frame
public import proofs.«01_k».proof.Proof.Gen.Kernel.Points
public import Idealize.ShloMosaic.Lib.Pipeline.Frame
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body's triple -/

/-- The body on whole memrefs, the input blocks at `x1 … x5` and the rest at anything, runs to a continuation that holds the
    input blocks as they were, the output block at something and the scratch buffers at something. -/
theorem sound_kernel (c : Dev nD) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x128 .i32) (harg12 : arg12.IsWhole) (arg13 : Memref sig .tc .vmem S48x256 .f32) (harg13 : arg13.IsWhole) (x1 : Vec F S32768x128 .i8) (x2 : Vec F S16384x128 .i8) (x3 : Vec F S4096x128 .i8) (x4 : Vec F S256x128 .i16) (x5 : Vec F S128x48x256 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst h1; subst h2; subst h3; subst h4; subst h5
  iapply (wp_wand_r _ _ _)
  isplitl [H1 H2 H3 H4 H5 H6 H7 H8 H9 H10 H11 H12 H13]
  · iapply ((run (F := F) c i arg1 harg1 arg2 harg2 arg3 harg3 arg4 harg4 arg5 harg5 arg6 harg6 arg7 harg7 arg8 harg8 arg9 harg9 arg10 harg10 arg11 harg11 arg12 harg12 arg13 harg13 f1 f2 f3 f4 f5).2 Set.univ f6 f7 f8 f9 f10 f11 f12 f13)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %_ ⟨H1, H2, H3, H4, H5, H6, ⟨%g7, H7⟩, ⟨%g8, H8⟩, ⟨%g9, H9⟩, ⟨%g10, H10⟩, ⟨%g11, H11⟩, ⟨%g12, H12⟩, ⟨%g13, H13⟩⟩
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-! ## The proof data -/

/-- The output window, and no other, is forgotten. -/
def forgets0 : Fin 6 → Bool := fun w => decide (w = 5)

/-- The proof data on core `c`: the arrays as the region finds them; each input's buffer left at its block, what the output buffer holds unnamed;
    the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- Input window 0 is left at its block, and holds it when the body is called. -/
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
/-- Input window 1 is left at its block, and holds it when the body is called. -/
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
/-- Input window 2 is left at its block, and holds it when the body is called. -/
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
/-- Input window 3 is left at its block, and holds it when the body is called. -/
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
/-- Input window 4 is left at its block, and holds it when the body is called. -/
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

/-- The class invariant opened: the scratch buffers, each at some contents, and the generator register at some state. -/
theorem PhiA_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ d, owns (c : Thread nD τ) (st0_5 t) fullShare d))

/-- The body at any point of the grid. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
set_option maxHeartbeats 800000 in
/-- Every weakly fair execution of @main terminates without fault, the input arrays hold what they held, and every counter is back at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 3 rfl).trans ((A_eq m c 3).trans (V_main_arg4 m c))⟩, h.2⟩) (run_main m ρ)

end Cert.Kernel.Hand

end
-- ==== Proof.ILoops.lean ====
/-
  Hand-written, untrusted. The counted loops of `KernelIdeal` the generated module leaves to the certificate: for each, one trip run
  by `sl_exec` at a symbolic trip number with the pieces it writes listed, the pieces of all trips before `k`, and the loop's
  invariant (`@[sl_loop]`): what the loop reads is as it was, what it writes holds the pieces of the trips so far.
-/
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A whole memref's elements are all of its buffer's. -/
theorem view_set_univ {sp : Space} {S : Shape} {e : EltTy} {M : Memref sig .tc sp S e} (h : M.IsWhole) : M.view.set = Finset.univ := by
  obtain ⟨b, rfl, rfl, rfl, h⟩ := h; cases h; exact View.set_whole b

/-! ## the loop that lays the weight words of the low and the high codes out in rows of pitch 260 -/

/-- One trip's resources: what the loop reads at its contents, what it writes at any. -/
abbrev Trip_t1 (c : Dev nD) (arg1 : Memref sig .tc .vmem S32768x128 .i8) (arg2 : Memref sig .tc .vmem S16384x128 .i8) (arg7 : Memref sig .tc .vmem S8320x128 .i32) (arg8 : Memref sig .tc .vmem S4160x128 .i32) (X_arg1 : BufTy.Contents (Elt F) arg1.view.ty) (X_arg2 : BufTy.Contents (Elt F) arg2.view.ty) (f_arg7 : BufTy.Contents (Elt F) arg7.view.ty) (f_arg8 : BufTy.Contents (Elt F) arg8.view.ty) : sProp 𝕄G :=
  iprop((arg1.view.loc (c : Thread nD τ) ↦[arg1.view.set]{fullShare} X_arg1) ∗ (arg2.view.loc (c : Thread nD τ) ↦[arg2.view.set]{fullShare} X_arg2) ∗ (arg7.view.loc (c : Thread nD τ) ↦[arg7.view.set]{fullShare} f_arg7) ∗ (arg8.view.loc (c : Thread nD τ) ↦[arg8.view.set]{fullShare} f_arg8))

set_option sl_exec.squeezeSlice true in
set_option sl_exec.closedPieces true in
/-- One trip at a symbolic `k`: the pieces it writes, and the trip's triple. -/
@[irreducible] def trip_t1 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (X_arg1 : BufTy.Contents (Elt F) arg1.view.ty) (X_arg2 : BufTy.Contents (Elt F) arg2.view.ty) (k : Fin k0_t1_loop.trips) :
    Σ' L_arg7 : List (View.Piece (Elt F) S8320x128 .i32), { L_arg8 : List (View.Piece (Elt F) S4160x128 .i32) // ∀ (E : Set ℕ) (f_arg7 : BufTy.Contents (Elt F) arg7.view.ty) (f_arg8 : BufTy.Contents (Elt F) arg8.view.ty),
      Trip_t1 (F := F) c arg1 arg2 arg7 arg8 X_arg1 X_arg2 f_arg7 f_arg8
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 k PUnit.unit)
          (fun _ => Trip_t1 (F := F) c arg1 arg2 arg7 arg8 X_arg1 X_arg2 (arg7.view.writes (Elt F) f_arg7 L_arg7) (arg8.view.writes (Elt F) f_arg8 L_arg8)) } := by
  have hk : k.val < 256 := Nat.lt_of_lt_of_le k.isLt k0_t1_abs.2.1
  refine ⟨?_, ?_, fun E f_arg7 f_arg8 => ?run⟩
  case run =>
    unfold k0_t1_body
    iintro ⟨HR_arg1, HR_arg2, HW_arg7, HW_arg8⟩
    sl_exec
    sl_step
    sl_close

/-- The pieces the trips before `k` write into arg7, the last trip's first. -/
def pb_t1_arg7 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (X_arg1 : BufTy.Contents (Elt F) arg1.view.ty) (X_arg2 : BufTy.Contents (Elt F) arg2.view.ty) : Nat → List (View.Piece (Elt F) S8320x128 .i32)
  | 0 => []
  | k + 1 => if h : k < k0_t1_loop.trips then (trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨k, h⟩).1 ++ pb_t1_arg7 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k
      else pb_t1_arg7 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k

/-- The pieces before trip `k + 1` are trip `k`'s in front of those before it. -/
theorem pb_t1_arg7_succ (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (X_arg1 : BufTy.Contents (Elt F) arg1.view.ty) (X_arg2 : BufTy.Contents (Elt F) arg2.view.ty) (k : Fin k0_t1_loop.trips) :
    pb_t1_arg7 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 (k.val + 1) = (trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k).1 ++ pb_t1_arg7 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k.val := by
  rw [pb_t1_arg7.eq_2]; exact dif_pos k.isLt

/-- The pieces the trips before `k` write into arg8, the last trip's first. -/
def pb_t1_arg8 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (X_arg1 : BufTy.Contents (Elt F) arg1.view.ty) (X_arg2 : BufTy.Contents (Elt F) arg2.view.ty) : Nat → List (View.Piece (Elt F) S4160x128 .i32)
  | 0 => []
  | k + 1 => if h : k < k0_t1_loop.trips then (trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 ⟨k, h⟩).2.1 ++ pb_t1_arg8 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k
      else pb_t1_arg8 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k

/-- The pieces before trip `k + 1` are trip `k`'s in front of those before it. -/
theorem pb_t1_arg8_succ (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (X_arg1 : BufTy.Contents (Elt F) arg1.view.ty) (X_arg2 : BufTy.Contents (Elt F) arg2.view.ty) (k : Fin k0_t1_loop.trips) :
    pb_t1_arg8 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 (k.val + 1) = (trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k).2.1 ++ pb_t1_arg8 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k.val := by
  rw [pb_t1_arg8.eq_2]; exact dif_pos k.isLt

set_option warn.classDefReducibility false in
/-- The loop's invariant. -/
@[sl_loop] def loopInv_t1 (𝒱 : Variants) (c : Dev nD) (bd : Option 𝒱.V) (E : Set ℕ) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (X_arg1 : BufTy.Contents (Elt F) arg1.view.ty) (X_arg2 : BufTy.Contents (Elt F) arg2.view.ty) (G_arg7 : BufTy.Contents (Elt F) arg7.view.ty) (G_arg8 : BufTy.Contents (Elt F) arg8.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 where
  inv k _ := iprop((arg1.view.loc (c : Thread nD τ) ↦[arg1.view.set]{fullShare} X_arg1) ∗ (arg2.view.loc (c : Thread nD τ) ↦[arg2.view.set]{fullShare} X_arg2) ∗ (∃ f, (arg7.view.loc (c : Thread nD τ) ↦[arg7.view.set]{fullShare} f) ∗ ⌜f = arg7.view.writes (Elt F) G_arg7 (pb_t1_arg7 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k)⌝) ∗ (∃ f, (arg8.view.loc (c : Thread nD τ) ↦[arg8.view.set]{fullShare} f) ∗ ⌜f = arg8.view.writes (Elt F) G_arg8 (pb_t1_arg8 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k)⌝))
  step k acc := by
    iintro ⟨HR_arg1, HR_arg2, ⟨%f_arg7, HW_arg7, %h_arg7⟩, ⟨%f_arg8, HW_arg8, %h_arg8⟩⟩
    iapply (wp_wand_r _ _ _)
    isplitl [HR_arg1 HR_arg2 HW_arg7 HW_arg8]
    · iapply ((trip_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg1 X_arg2 k).2.2 E f_arg7 f_arg8)
      isplitl [HR_arg1]; · iexact HR_arg1
      isplitl [HR_arg2]; · iexact HR_arg2
      isplitl [HW_arg7]; · iexact HW_arg7
      iexact HW_arg8
    · iintro %_ ⟨HR_arg1, HR_arg2, HW_arg7, HW_arg8⟩
      isplitl [HR_arg1]; · iexact HR_arg1
      isplitl [HR_arg2]; · iexact HR_arg2
      isplitl [HW_arg7]
      · iexists _; isplitl [HW_arg7]; · iexact HW_arg7
        ipureintro; rw [h_arg7, pb_t1_arg7_succ]; exact (View.writes_append _ _ _ _).symm
      iexists _; isplitl [HW_arg8]; · iexact HW_arg8
      ipureintro; rw [h_arg8, pb_t1_arg8_succ]; exact (View.writes_append _ _ _ _).symm

/-! ## the loop that lays the scale words out in rows of pitch 260 -/

/-- One trip's resources: what the loop reads at its contents, what it writes at any. -/
abbrev Trip_t2 (c : Dev nD) (arg3 : Memref sig .tc .vmem S4096x128 .i8) (arg9 : Memref sig .tc .vmem S1040x128 .i32) (X_arg3 : BufTy.Contents (Elt F) arg3.view.ty) (f_arg9 : BufTy.Contents (Elt F) arg9.view.ty) : sProp 𝕄G :=
  iprop((arg3.view.loc (c : Thread nD τ) ↦[arg3.view.set]{fullShare} X_arg3) ∗ (arg9.view.loc (c : Thread nD τ) ↦[arg9.view.set]{fullShare} f_arg9))

set_option sl_exec.squeezeSlice true in
set_option sl_exec.closedPieces true in
/-- One trip at a symbolic `k`: the pieces it writes, and the trip's triple. -/
@[irreducible] def trip_t2 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (X_arg3 : BufTy.Contents (Elt F) arg3.view.ty) (k : Fin k0_t2_loop.trips) :
    { L_arg9 : List (View.Piece (Elt F) S1040x128 .i32) // ∀ (E : Set ℕ) (f_arg9 : BufTy.Contents (Elt F) arg9.view.ty),
      Trip_t2 (F := F) c arg3 arg9 X_arg3 f_arg9
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 k PUnit.unit)
          (fun _ => Trip_t2 (F := F) c arg3 arg9 X_arg3 (arg9.view.writes (Elt F) f_arg9 L_arg9)) } := by
  have hk : k.val < 128 := Nat.lt_of_lt_of_le k.isLt k0_t2_abs.2.1
  refine ⟨?_, fun E f_arg9 => ?run⟩
  case run =>
    unfold k0_t2_body
    iintro ⟨HR_arg3, HW_arg9⟩
    sl_exec
    sl_step
    sl_close

/-- The pieces the trips before `k` write into arg9, the last trip's first. -/
def pb_t2_arg9 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (X_arg3 : BufTy.Contents (Elt F) arg3.view.ty) : Nat → List (View.Piece (Elt F) S1040x128 .i32)
  | 0 => []
  | k + 1 => if h : k < k0_t2_loop.trips then (trip_t2 (F := F) 𝒱 c bd i arg1 harg1 arg2 harg2 arg3 harg3 arg4 harg4 arg5 harg5 arg6 harg6 arg7 harg7 arg8 harg8 arg9 harg9 arg10 harg10 arg11 harg11 arg12 harg12 arg13 harg13 X_arg3 ⟨k, h⟩).1 ++ pb_t2_arg9 𝒱 c bd i arg1 harg1 arg2 harg2 arg3 harg3 arg4 harg4 arg5 harg5 arg6 harg6 arg7 harg7 arg8 harg8 arg9 harg9 arg10 harg10 arg11 harg11 arg12 harg12 arg13 harg13 X_arg3 k
      else pb_t2_arg9 𝒱 c bd i arg1 harg1 arg2 harg2 arg3 harg3 arg4 harg4 arg5 harg5 arg6 harg6 arg7 harg7 arg8 harg8 arg9 harg9 arg10 harg10 arg11 harg11 arg12 harg12 arg13 harg13 X_arg3 k

/-- The pieces before trip `k + 1` are trip `k`'s in front of those before it. -/
theorem pb_t2_arg9_succ (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (X_arg3 : BufTy.Contents (Elt F) arg3.view.ty) (k : Fin k0_t2_loop.trips) :
    pb_t2_arg9 (F := F) 𝒱 c bd i arg1 harg1 arg2 harg2 arg3 harg3 arg4 harg4 arg5 harg5 arg6 harg6 arg7 harg7 arg8 harg8 arg9 harg9 arg10 harg10 arg11 harg11 arg12 harg12 arg13 harg13 X_arg3 (k.val + 1) = (trip_t2 (F := F) 𝒱 c bd i arg1 harg1 arg2 harg2 arg3 harg3 arg4 harg4 arg5 harg5 arg6 harg6 arg7 harg7 arg8 harg8 arg9 harg9 arg10 harg10 arg11 harg11 arg12 harg12 arg13 harg13 X_arg3 k).1 ++ pb_t2_arg9 (F := F) 𝒱 c bd i arg1 harg1 arg2 harg2 arg3 harg3 arg4 harg4 arg5 harg5 arg6 harg6 arg7 harg7 arg8 harg8 arg9 harg9 arg10 harg10 arg11 harg11 arg12 harg12 arg13 harg13 X_arg3 k.val := by
  rw [pb_t2_arg9.eq_2]; exact dif_pos k.isLt

set_option warn.classDefReducibility false in
/-- The loop's invariant. -/
@[sl_loop] def loopInv_t2 (𝒱 : Variants) (c : Dev nD) (bd : Option 𝒱.V) (E : Set ℕ) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (X_arg3 : BufTy.Contents (Elt F) arg3.view.ty) (G_arg9 : BufTy.Contents (Elt F) arg9.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 where
  inv k _ := iprop((arg3.view.loc (c : Thread nD τ) ↦[arg3.view.set]{fullShare} X_arg3) ∗ (∃ f, (arg9.view.loc (c : Thread nD τ) ↦[arg9.view.set]{fullShare} f) ∗ ⌜f = arg9.view.writes (Elt F) G_arg9 (pb_t2_arg9 (F := F) 𝒱 c bd i arg1 harg1 arg2 harg2 arg3 harg3 arg4 harg4 arg5 harg5 arg6 harg6 arg7 harg7 arg8 harg8 arg9 harg9 arg10 harg10 arg11 harg11 arg12 harg12 arg13 harg13 X_arg3 k)⌝))
  step k acc := by
    iintro ⟨HR_arg3, ⟨%f_arg9, HW_arg9, %h_arg9⟩⟩
    iapply (wp_wand_r _ _ _)
    isplitl [HR_arg3 HW_arg9]
    · iapply ((trip_t2 (F := F) 𝒱 c bd i arg1 harg1 arg2 harg2 arg3 harg3 arg4 harg4 arg5 harg5 arg6 harg6 arg7 harg7 arg8 harg8 arg9 harg9 arg10 harg10 arg11 harg11 arg12 harg12 arg13 harg13 X_arg3 k).2 E f_arg9)
      isplitl [HR_arg3]; · iexact HR_arg3
      iexact HW_arg9
    · iintro %_ ⟨HR_arg3, HW_arg9⟩
      isplitl [HR_arg3]; · iexact HR_arg3
      iexists _; isplitl [HW_arg9]; · iexact HW_arg9
      ipureintro; rw [h_arg9, pb_t2_arg9_succ]; exact (View.writes_append _ _ _ _).symm

/-! ## the loop that writes the first half of the effective scales -/

/-- One trip's resources: the scale words at their contents, the effective scales at any. -/
abbrev Trip_t5 (c : Dev nD) (arg9 : Memref sig .tc .vmem S1040x128 .i32) (arg12 : Memref sig .tc .vmem S16x2x256x2x128 .bf16) (X_arg9 : BufTy.Contents (Elt F) arg9.view.ty) (f_arg12 : BufTy.Contents (Elt F) arg12.view.ty) : sProp 𝕄G :=
  iprop((arg9.view.loc (c : Thread nD τ) ↦[arg9.view.set]{fullShare} X_arg9) ∗ (arg12.view.loc (c : Thread nD τ) ↦{fullShare} f_arg12))

/-- One trip at a symbolic `k`: what it leaves in the effective scales as a function of what it finds there, and the trip's triple. -/
@[irreducible] def trip_t5 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (v5 : IVec S128x128 32) (v7 : IVec S128x128 32) (v11 : IVec S128x128 32) (v18 : FVec F S128x128 .f32) (v25 : FVec F S128x128 .f32) (v26 : IVec S128x128 32) (X_arg9 : BufTy.Contents (Elt F) arg9.view.ty) (k : Fin k0_t5_loop.trips) :
    { L : BufTy.Contents (Elt F) arg12.view.ty → BufTy.Contents (Elt F) arg12.view.ty // ∀ (E : Set ℕ) (f : BufTy.Contents (Elt F) arg12.view.ty),
      Trip_t5 (F := F) c arg9 arg12 X_arg9 f
      ⊢ wp frame (wpE (defs₀ (F := F)) 𝒱 (c : Thread nD τ) bd) E (k0_t5_body (F := F) i arg1 harg1 arg2 harg2 arg3 harg3 arg4 harg4 arg5 harg5 arg6 harg6 arg7 harg7 arg8 harg8 arg9 harg9 arg10 harg10 arg11 harg11 arg12 harg12 arg13 harg13 v5 v7 v11 v18 v25 v26 k PUnit.unit)
          (fun _ => Trip_t5 (F := F) c arg9 arg12 X_arg9 (L f)) } := by
  have hk : k.val < 4 := Nat.lt_of_lt_of_le k.isLt k0_t5_abs.2.1
  refine ⟨?_, fun E f => ?run⟩
  case run =>
    unfold k0_t5_body
    iintro ⟨HR, HW⟩
    sl_exec
    sl_step
    sl_close

/-- What the effective scales hold before trip `k`, from `G` at loop entry. -/
def st_t5 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (v5 : IVec S128x128 32) (v7 : IVec S128x128 32) (v11 : IVec S128x128 32) (v18 : FVec F S128x128 .f32) (v25 : FVec F S128x128 .f32) (v26 : IVec S128x128 32) (X_arg9 : BufTy.Contents (Elt F) arg9.view.ty) (G : BufTy.Contents (Elt F) arg12.view.ty) : Nat → BufTy.Contents (Elt F) arg12.view.ty
  | 0 => G
  | k + 1 => if h : k < k0_t5_loop.trips then (trip_t5 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 ⟨k, h⟩).1 (st_t5 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 G k)
      else st_t5 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 G k

/-- Before trip `k + 1` they hold what trip `k` makes of what they held before it. -/
theorem st_t5_succ (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (v5 : IVec S128x128 32) (v7 : IVec S128x128 32) (v11 : IVec S128x128 32) (v18 : FVec F S128x128 .f32) (v25 : FVec F S128x128 .f32) (v26 : IVec S128x128 32) (X_arg9 : BufTy.Contents (Elt F) arg9.view.ty) (G : BufTy.Contents (Elt F) arg12.view.ty) (k : Fin k0_t5_loop.trips) :
    st_t5 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 G (k.val + 1) = (trip_t5 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 k).1 (st_t5 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 G k.val) := by
  rw [st_t5.eq_2]; exact dif_pos k.isLt

set_option warn.classDefReducibility false in
/-- The loop's invariant. -/
@[sl_loop] def loopInv_t5 (𝒱 : Variants) (c : Dev nD) (bd : Option 𝒱.V) (E : Set ℕ) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (v5 : IVec S128x128 32) (v7 : IVec S128x128 32) (v11 : IVec S128x128 32) (v18 : FVec F S128x128 .f32) (v25 : FVec F S128x128 .f32) (v26 : IVec S128x128 32) (X_arg9 : BufTy.Contents (Elt F) arg9.view.ty) (G : BufTy.Contents (Elt F) arg12.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v5 v7 v11 v18 v25 v26 where
  inv k _ := iprop((arg9.view.loc (c : Thread nD τ) ↦[arg9.view.set]{fullShare} X_arg9) ∗ (∃ f, (arg12.view.loc (c : Thread nD τ) ↦[arg12.view.set]{fullShare} f) ∗ ⌜f = st_t5 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 G k⌝))
  step k acc := by
    rw [view_set_univ harg12]
    iintro ⟨HR, ⟨%f, HW, %hf⟩⟩
    iapply (wp_wand_r _ _ _)
    isplitl [HR HW]
    · iapply ((trip_t5 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X_arg9 k).2 E f)
      isplitl [HR]; · iexact HR
      iexact HW
    · iintro %_ ⟨HR, HW⟩
      isplitl [HR]; · iexact HR
      iexists _; isplitl [HW]; · iexact HW
      ipureintro; rw [hf, st_t5_succ]

/-! ## the loop that writes the second half of the effective scales -/

/-- One trip's resources: the scale words at their contents, the effective scales at any. -/
abbrev Trip_t6 (c : Dev nD) (arg9 : Memref sig .tc .vmem S1040x128 .i32) (arg12 : Memref sig .tc .vmem S16x2x256x2x128 .bf16) (X_arg9 : BufTy.Contents (Elt F) arg9.view.ty) (f_arg12 : BufTy.Contents (Elt F) arg12.view.ty) : sProp 𝕄G :=
  iprop((arg9.view.loc (c : Thread nD τ) ↦[arg9.view.set]{fullShare} X_arg9) ∗ (arg12.view.loc (c : Thread nD τ) ↦{fullShare} f_arg12))

/-- One trip at a symbolic `k`: what it leaves in the effective scales as a function of what it finds there, and the trip's triple. -/
@[irreducible] def trip_t6 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (v47 : IVec S128x128 32) (v49 : IVec S128x128 32) (v53 : IVec S128x128 32) (v60 : FVec F S128x128 .f32) (v64 : IVec S128x128 32) (c2139095040_i32_30 : BitVec 32) (X_arg9 : BufTy.Contents (Elt F) arg9.view.ty) (k : Fin k0_t6_loop.trips) :
    { L : BufTy.Contents (Elt F) arg12.view.ty → BufTy.Contents (Elt F) arg12.view.ty // ∀ (E : Set ℕ) (f : BufTy.Contents (Elt F) arg12.view.ty),
      Trip_t6 (F := F) c arg9 arg12 X_arg9 f
      ⊢ wp frame (wpE (defs₀ (F := F)) 𝒱 (c : Thread nD τ) bd) E (k0_t6_body (F := F) i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 k PUnit.unit)
          (fun _ => Trip_t6 (F := F) c arg9 arg12 X_arg9 (L f)) } := by
  have hk : k.val < 4 := Nat.lt_of_lt_of_le k.isLt k0_t6_abs.2.1
  refine ⟨?_, fun E f => ?run⟩
  case run =>
    unfold k0_t6_body
    iintro ⟨HR, HW⟩
    sl_exec
    sl_step
    sl_close

/-- What the effective scales hold before trip `k`, from `G` at loop entry. -/
def st_t6 (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (v47 : IVec S128x128 32) (v49 : IVec S128x128 32) (v53 : IVec S128x128 32) (v60 : FVec F S128x128 .f32) (v64 : IVec S128x128 32) (c2139095040_i32_30 : BitVec 32) (X_arg9 : BufTy.Contents (Elt F) arg9.view.ty) (G : BufTy.Contents (Elt F) arg12.view.ty) : Nat → BufTy.Contents (Elt F) arg12.view.ty
  | 0 => G
  | k + 1 => if h : k < k0_t6_loop.trips then (trip_t6 (F := F) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 ⟨k, h⟩).1 (st_t6 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 G k)
      else st_t6 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 G k

/-- Before trip `k + 1` they hold what trip `k` makes of what they held before it. -/
theorem st_t6_succ (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (v47 : IVec S128x128 32) (v49 : IVec S128x128 32) (v53 : IVec S128x128 32) (v60 : FVec F S128x128 .f32) (v64 : IVec S128x128 32) (c2139095040_i32_30 : BitVec 32) (X_arg9 : BufTy.Contents (Elt F) arg9.view.ty) (G : BufTy.Contents (Elt F) arg12.view.ty) (k : Fin k0_t6_loop.trips) :
    st_t6 (F := F) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 G (k.val + 1) = (trip_t6 (F := F) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 k).1 (st_t6 (F := F) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 G k.val) := by
  rw [st_t6.eq_2]; exact dif_pos k.isLt

set_option warn.classDefReducibility false in
/-- The loop's invariant. -/
@[sl_loop] def loopInv_t6 (𝒱 : Variants) (c : Dev nD) (bd : Option 𝒱.V) (E : Set ℕ) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (v47 : IVec S128x128 32) (v49 : IVec S128x128 32) (v53 : IVec S128x128 32) (v60 : FVec F S128x128 .f32) (v64 : IVec S128x128 32) (c2139095040_i32_30 : BitVec 32) (X_arg9 : BufTy.Contents (Elt F) arg9.view.ty) (G : BufTy.Contents (Elt F) arg12.view.ty) :
    LoopInvTy_k0_t6 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 where
  inv k _ := iprop((arg9.view.loc (c : Thread nD τ) ↦[arg9.view.set]{fullShare} X_arg9) ∗ (∃ f, (arg12.view.loc (c : Thread nD τ) ↦[arg12.view.set]{fullShare} f) ∗ ⌜f = st_t6 (F := F) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 G k⌝))
  step k acc := by
    rw [view_set_univ harg12]
    iintro ⟨HR, ⟨%f, HW, %hf⟩⟩
    iapply (wp_wand_r _ _ _)
    isplitl [HR HW]
    · iapply ((trip_t6 (F := F) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 c2139095040_i32_30 X_arg9 k).2 E f)
      isplitl [HR]; · iexact HR
      iexact HW
    · iintro %_ ⟨HR, HW⟩
      isplitl [HR]; · iexact HR
      iexists _; isplitl [HW]; · iexact HW
      ipureintro; rw [hf, st_t6_succ]

end Cert.KernelIdeal.Hand

end
-- ==== Proof.IRun.lean ====
/-
  Hand-written, untrusted. The body of `KernelIdeal` run once by `sl_exec` through its seven loops: the five input blocks are as they
  were, the output block holds the listed pieces (functions of what the blocks and the scratch buffers held), the scratch
  buffers hold something.
-/
module

public import proofs.«01_k».proof.Proof.ILoops
public import proofs.«01_k».proof.Proof.Gen.KernelIdeal.Frame
public import proofs.«01_k».proof.Proof.Gen.KernelIdeal.Points
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What the body is handed: the input blocks at their contents, the output block and the scratch buffers at any. -/
abbrev RunPre (c : Dev nD) (arg1 : Memref sig .tc .vmem S32768x128 .i8) (arg2 : Memref sig .tc .vmem S16384x128 .i8) (arg3 : Memref sig .tc .vmem S4096x128 .i8) (arg4 : Memref sig .tc .vmem S256x128 .i16) (arg5 : Memref sig .tc .vmem S128x48x256 .bf16) (arg6 : Memref sig .tc .vmem S48x256 .bf16) (arg7 : Memref sig .tc .vmem S8320x128 .i32) (arg8 : Memref sig .tc .vmem S4160x128 .i32) (arg9 : Memref sig .tc .vmem S1040x128 .i32) (arg10 : Memref sig .tc .vmem S32x2x128x128 .i32) (arg11 : Memref sig .tc .vmem S16x2x128x128 .i32) (arg12 : Memref sig .tc .vmem S16x2x256x2x128 .bf16) (arg13 : Memref sig .tc .vmem S48x256 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13))

/-- What it hands back: the input blocks as they were, the output block at `g`, the scratch buffers at something. -/
abbrev RunPost (c : Dev nD) (arg1 : Memref sig .tc .vmem S32768x128 .i8) (arg2 : Memref sig .tc .vmem S16384x128 .i8) (arg3 : Memref sig .tc .vmem S4096x128 .i8) (arg4 : Memref sig .tc .vmem S256x128 .i16) (arg5 : Memref sig .tc .vmem S128x48x256 .bf16) (arg6 : Memref sig .tc .vmem S48x256 .bf16) (arg7 : Memref sig .tc .vmem S8320x128 .i32) (arg8 : Memref sig .tc .vmem S4160x128 .i32) (arg9 : Memref sig .tc .vmem S1040x128 .i32) (arg10 : Memref sig .tc .vmem S32x2x128x128 .i32) (arg11 : Memref sig .tc .vmem S16x2x128x128 .i32) (arg12 : Memref sig .tc .vmem S16x2x256x2x128 .bf16) (arg13 : Memref sig .tc .vmem S48x256 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (g : BufTy.Contents (Elt F) arg6.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} g) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))

set_option maxRecDepth 65536 in
/-- The body's run: the pieces it writes into the output block, and its triple. -/
@[irreducible] def run (c : Dev nD) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) :
    { L : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S48x256 .bf16) // ∀ (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty),
      RunPre (F := F) c arg1 arg2 arg3 arg4 arg5 arg6 arg7 arg8 arg9 arg10 arg11 arg12 arg13 X_arg1 X_arg2 X_arg3 X_arg4 X_arg5 f_arg6 f_arg7 f_arg8 f_arg9 f_arg10 f_arg11 f_arg12 f_arg13
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
          (fun _ => RunPost (F := F) c arg1 arg2 arg3 arg4 arg5 arg6 arg7 arg8 arg9 arg10 arg11 arg12 arg13 X_arg1 X_arg2 X_arg3 X_arg4 X_arg5 (arg6.view.writes (Elt F) f_arg6 (L f_arg7 f_arg8 f_arg9 f_arg10 f_arg11 f_arg12 f_arg13))) } := by
  refine ⟨?_, fun E f_arg6 f_arg7 f_arg8 f_arg9 f_arg10 f_arg11 f_arg12 f_arg13 => ?run⟩
  case run =>
    rw [cc0__body_eq_skeleton]; unfold cc0__body_skel
    iintro ⟨H1, H2, H3, H4, H5, H6, H7, H8, H9, H10, H11, H12, H13⟩
    sl_exec_parts
    sl_step
    sl_close

end Cert.KernelIdeal.Hand

end
-- ==== Proof.IFrame.lean ====
/-
  Hand-written, untrusted. The launch of `KernelIdeal`: the body's triple at the pipeline's staging memrefs (its run, Proof/IRun.lean),
  the proof data, the body obligation at every point of the grid, and the run of @main with every counter back at zero; nothing is said
  of what the output holds.
-/
module

public import proofs.«01_k».proof.Proof.IRun
public import proofs.«01_k».proof.Proof.Gen.KernelIdeal.Frame
public import proofs.«01_k».proof.Proof.Gen.KernelIdeal.Points
public import Idealize.ShloMosaic.Lib.Pipeline.Frame
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body's triple -/

/-- The body on whole memrefs, the input blocks at `x1 … x5` and the rest at anything, runs to a continuation that holds the
    input blocks as they were, the output block at something and the scratch buffers at something. -/
theorem sound_kernel (c : Dev nD) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (x1 : Vec F S32768x128 .i8) (x2 : Vec F S16384x128 .i8) (x3 : Vec F S4096x128 .i8) (x4 : Vec F S256x128 .i16) (x5 : Vec F S128x48x256 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) Set.univ (cc0__body (F := F) i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst h1; subst h2; subst h3; subst h4; subst h5
  iapply (wp_wand_r _ _ _)
  isplitl [H1 H2 H3 H4 H5 H6 H7 H8 H9 H10 H11 H12 H13]
  · iapply ((run (F := F) c i arg1 harg1 arg2 harg2 arg3 harg3 arg4 harg4 arg5 harg5 arg6 harg6 arg7 harg7 arg8 harg8 arg9 harg9 arg10 harg10 arg11 harg11 arg12 harg12 arg13 harg13 f1 f2 f3 f4 f5).2 Set.univ f6 f7 f8 f9 f10 f11 f12 f13)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %_ ⟨H1, H2, H3, H4, H5, H6, ⟨%g7, H7⟩, ⟨%g8, H8⟩, ⟨%g9, H9⟩, ⟨%g10, H10⟩, ⟨%g11, H11⟩, ⟨%g12, H12⟩, ⟨%g13, H13⟩⟩
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-! ## The proof data -/

/-- The output window, and no other, is forgotten. -/
def forgets0 : Fin 6 → Bool := fun w => decide (w = 5)

/-- The proof data on core `c`: the arrays as the region finds them; each input's buffer left at its block, what the output buffer holds unnamed;
    the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- Input window 0 is left at its block, and holds it when the body is called. -/
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
/-- Input window 1 is left at its block, and holds it when the body is called. -/
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
/-- Input window 2 is left at its block, and holds it when the body is called. -/
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
/-- Input window 3 is left at its block, and holds it when the body is called. -/
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
/-- Input window 4 is left at its block, and holds it when the body is called. -/
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

/-- The class invariant opened: the scratch buffers, each at some contents, and the generator register at some state. -/
theorem PhiA_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (∃ d, owns (c : Thread nD τ) (st0_5 t) fullShare d))

/-- The body at any point of the grid. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
set_option maxHeartbeats 800000 in
/-- Every weakly fair execution of @main terminates without fault, the input arrays hold what they held, and every counter is back at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 3 rfl).trans ((A_eq m c 3).trans (V_main_arg4 m c))⟩, h.2⟩) (run_main m ρ)

end Cert.KernelIdeal.Hand

end
-- ==== Proof.Bits.lean ====
/-
  Hand-written, untrusted. The arithmetic of the packed weights on words, programs apart: the four bytes of a 32-bit word, the six-bit
  code the kernel assembles in a byte (four times the code less 32, as a signed byte), a scale byte read with its sign, and the
  float16 number a 16-bit pattern denotes, decoded with float32 arithmetic.
-/
module

public import Idealize.ShloMosaic.Lib.BitcastFour
public import Idealize.ShloMosaic.Lib.Pointwise
public import Idealize.ShloMosaic.PureOps.Ideal

@[expose] public section

set_option maxRecDepth 16384

noncomputable section

namespace Cert.Q6K

open Idealize.ShloMosaic

/-- Byte `b` of a word. -/
def byteOf (w : BitVec 32) (b : ℕ) : BitVec 8 := w.extractLsb' (8 * b) 8

theorem byteOf_getLsbD (w : BitVec 32) (b i : ℕ) (hi : i < 8) : (byteOf w b).getLsbD i = w.getLsbD (8 * b + i) := by
  unfold byteOf
  rw [BitVec.getLsbD_extractLsb']
  simp [hi]

/-- Four byte rows read as word rows: byte `b` of word row `a` is byte row `4a + b`. -/
theorem byteOf_bitcast {R r n : Nat} (x : (⟨2, ![R, n]⟩ : Shape).Idx → BitVec 8)
    (h : (⟨2, ![R, n]⟩ : Shape).Bitcasts 8 ⟨2, ![r, n]⟩ 32) (a : Fin r) (l : Fin n) (b : ℕ) (hb : b < 4) (p : Fin R)
    (hp : p.val = 4 * a.val + b) : byteOf (bitcast ⟨2, ![r, n]⟩ 32 x h (ix2 a l)) b = x (ix2 p l) := by
  apply BitVec.eq_of_getLsbD_eq
  intro i hi
  rw [byteOf_getLsbD _ _ _ hi]
  refine (bitcast_8_32_getLsbD_ix2 x h a l (8 * b + i) (by omega) p (by omega)).trans ?_
  rw [show (8 * b + i) % 8 = i by omega]
  rfl

/-- Word rows read as byte rows: byte row `4a + b` is byte `b` of word row `a`. -/
theorem bitcast_32_8_ix2 {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = byteOf (x (ix2 a l)) (p.val % 4) := by
  apply BitVec.eq_of_getLsbD_eq
  intro i hi
  rw [byteOf_getLsbD _ _ _ hi, bitcast_getLsbD x h _ i hi (by decide)]
  have er : (⟨2, ![R, n]⟩ : Shape).row (ix2 p l) = p.val := rfl
  have e2 : (p.val * 8 + i) % 32 = 8 * (p.val % 4) + i := by omega
  have e1 : (p.val * 8 + i) / 32 = p.val / 4 := by omega
  have key : ∀ q hq, q = p.val / 4 → h.srcIdx (ix2 p l) q hq = ix2 a l := by
    intro q hq e
    funext c
    match c with
    | ⟨0, _⟩ => exact Fin.ext ((h.srcIdx_row _ _ _ ⟨0, Nat.zero_lt_two⟩ rfl).trans (e.trans ha.symm))
    | ⟨1, _⟩ => exact Fin.ext (h.srcIdx_other _ _ _ ⟨1, Nat.one_lt_two⟩ (by show ¬ 1 + 2 = 2; omega))
  rw [key _ _ (by rw [er]; exact e1), er, e2]

/-- The six-bit code of field `f`: four bits of the low byte, two of the high byte above them. -/
def code (f : ℕ) (lb hb : BitVec 8) : ℕ := (lb.toNat / 2 ^ (4 * (f / 2))) % 16 + 16 * ((hb.toNat / 2 ^ (2 * f)) % 4)

theorem code_lt (f : ℕ) (lb hb : BitVec 8) : code f lb hb < 64 := by unfold code; omega

/-- What the kernel puts in a byte for the code of field `f`: the code with its top bit flipped, two bits up. -/
def cbyte (f : ℕ) (lb hb : BitVec 8) : BitVec 8 :=
  (((((lb >>> (4 * (f / 2))) &&& 15#8) ||| (((hb >>> (2 * f)) &&& 3#8) <<< 4)) ^^^ 32#8) <<< 2)

theorem toInt_flip : ∀ c : Fin 64, (((BitVec.ofNat 8 c.val) ^^^ 32#8) <<< 2).toInt = 4 * ((c.val : ℤ) - 32) := by decide +kernel

theorem toInt_cbyte (f : ℕ) (hf : f < 4) (lb hb : BitVec 8) : (cbyte f lb hb).toInt = 4 * ((code f lb hb : ℤ) - 32) := by
  have h1 : ((lb >>> (4 * (f / 2))) &&& 15#8) ||| (((hb >>> (2 * f)) &&& 3#8) <<< 4) = BitVec.ofNat 8 (code f lb hb) := by
    apply BitVec.eq_of_toNat_eq
    have ha : ((lb >>> (4 * (f / 2))) &&& 15#8).toNat = (lb.toNat / 2 ^ (4 * (f / 2))) % 16 := by
      rw [BitVec.toNat_and, BitVec.toNat_ushiftRight, Nat.shiftRight_eq_div_pow]
      exact Nat.and_two_pow_sub_one_eq_mod _ 4
    have hb' : ((hb >>> (2 * f)) &&& 3#8).toNat = (hb.toNat / 2 ^ (2 * f)) % 4 := by
      rw [BitVec.toNat_and, BitVec.toNat_ushiftRight, Nat.shiftRight_eq_div_pow]
      exact Nat.and_two_pow_sub_one_eq_mod _ 2
    rw [BitVec.toNat_or, BitVec.toNat_shiftLeft, ha, hb', BitVec.toNat_ofNat, Nat.mod_eq_of_lt (lt_trans (code_lt f lb hb) (by decide))]
    have hm : (hb.toNat / 2 ^ (2 * f)) % 4 < 4 := Nat.mod_lt _ (by decide)
    have hn : (lb.toNat / 2 ^ (4 * (f / 2))) % 16 < 16 := Nat.mod_lt _ (by decide)
    unfold code
    generalize (hb.toNat / 2 ^ (2 * f)) % 4 = q at *
    generalize (lb.toNat / 2 ^ (4 * (f / 2))) % 16 = r at *
    rw [Nat.mod_eq_of_lt (by rw [Nat.shiftLeft_eq]; omega), Nat.or_comm, Nat.shiftLeft_eq, show q * 2 ^ 4 = 2 ^ 4 * q from Nat.mul_comm _ _, ← Nat.two_pow_add_eq_or_of_lt (by omega)]
    omega
  unfold cbyte
  rw [h1]
  exact toInt_flip ⟨_, code_lt f lb hb⟩

/-- The word the kernel assembles for field `f` out of a high word `hw` (its odd bits flipped) and a low word `lw`. -/
def fieldWord (f : ℕ) (hv lw : BitVec 32) : BitVec 32 :=
  ((if f < 3 then hv <<< (6 - 2 * f) else hv) &&& 0xC0C0C0C0#32) ||| ((if f < 2 then lw <<< 2 else lw >>> 2) &&& 0x3C3C3C3C#32)

/-- Each byte of the assembled word is the code's byte of the two words' bytes. -/
theorem byteOf_fieldWord (f : ℕ) (hf : f < 4) (hw lw : BitVec 32) (b : ℕ) (hb : b < 4) :
    byteOf (fieldWord f (hw ^^^ 0xAAAAAAAA#32) lw) b = cbyte f (byteOf lw b) (byteOf hw b) := by
  apply BitVec.eq_of_getLsbD_eq
  intro i hi
  rw [byteOf_getLsbD _ _ _ hi]
  unfold cbyte fieldWord byteOf
  interval_cases f <;> interval_cases b <;> interval_cases i <;> simp

/-- A scale word's byte `b`, moved to the top and back down with its sign, is the byte read with its sign. -/
theorem toInt_scale (w : BitVec 32) (b : ℕ) (hb : b < 4) :
    ((w <<< (24 - 8 * b)).sshiftRight 24).toInt = (byteOf w b).toInt := by
  have h : (w <<< (24 - 8 * b)).sshiftRight 24 = (byteOf w b).signExtend 32 := by
    apply BitVec.eq_of_getLsbD_eq
    intro i hi
    unfold byteOf
    rw [BitVec.getLsbD_sshiftRight, BitVec.getLsbD_signExtend]
    interval_cases b <;> interval_cases i <;> simp [BitVec.msb_eq_getLsbD_last]
  rw [h, BitVec.toInt_signExtend_of_le (by decide)]

end Cert.Q6K

end
-- ==== Proof.Mem.lean ====
/-
  Hand-written, untrusted. Reading a buffer a counted loop has written: an array at coordinates given as numbers (`at'`), a buffer after
  the pieces of all trips, a buffer after one write through a squeezed slice of it.
-/
module

public import Idealize.ShloMosaic.Lib.Writes
public import Idealize.ShloMosaic.Lib.Pointwise
public import proofs.«01_k».proof.Proof.Bits

@[expose] public section

set_option maxRecDepth 16384

noncomputable section

namespace Cert.Q6K

open Idealize.ShloMosaic

/-- An array at coordinates given as numbers (an arbitrary value out of range). -/
def at' {s : Shape} {α : Type} [Nonempty α] (X : s.Idx → α) (f : Fin s.rank → ℕ) : α :=
  open Classical in if h : ∀ a, f a < s.size a then X (fun a => ⟨f a, h a⟩) else Classical.arbitrary α

theorem at_eq {s : Shape} {α : Type} [Nonempty α] (X : s.Idx → α) (f : Fin s.rank → ℕ) (i : s.Idx) (h : ∀ a, f a = (i a).val) :
    at' X f = X i := by
  unfold at'
  rw [dif_pos (fun a => by rw [h a]; exact (i a).isLt)]
  congr 1
  funext a
  exact Fin.ext (h a)

/-- Four bytes in one word, the first lowest. -/
def wordOf (f : ℕ → BitVec 8) : BitVec 32 := f 3 ++ f 2 ++ f 1 ++ f 0

theorem byteOf_wordOf (f : ℕ → BitVec 8) (b : ℕ) (hb : b < 4) : byteOf (wordOf f) b = f b := by
  apply BitVec.eq_of_getLsbD_eq
  intro i hi
  rw [byteOf_getLsbD _ _ _ hi]
  unfold wordOf
  interval_cases b <;> interval_cases i <;> simp only [BitVec.getLsbD_append] <;> rfl

theorem word_ext {w w' : BitVec 32} (h : ∀ b, b < 4 → byteOf w b = byteOf w' b) : w = w' := by
  apply BitVec.eq_of_getLsbD_eq
  intro i hi
  have : (byteOf w (i / 8)).getLsbD (i % 8) = (byteOf w' (i / 8)).getLsbD (i % 8) := by rw [h (i / 8) (by omega)]
  rw [byteOf_getLsbD _ _ _ (by omega), byteOf_getLsbD _ _ _ (by omega)] at this
  rw [show 8 * (i / 8) + i % 8 = i by omega] at this
  exact this

section
variable {sig : RefSig} {κ : Kind} {sp : Space} {s : Shape} {e : EltTy} {Val : EltTy → Type}

/-- A buffer after all trips' pieces, read at an element some trip's piece covers, when every piece agrees with `G`. -/
theorem read_loop (v : View sig κ sp s e) (f : v.ty.Contents Val) (n : ℕ) (L : Fin n → List (View.Piece Val s e))
    (pb : ℕ → List (View.Piece Val s e)) (h0 : pb 0 = []) (hs : ∀ k : Fin n, pb (k.val + 1) = L k ++ pb k.val) (G : s.Idx → Val e)
    (hG : ∀ k, ∀ p ∈ L k, ∀ x, p.2 x = G (p.1.emb x)) (y : s.Idx) (k : Fin n) (hc : ∃ p ∈ L k, ∃ x, p.1.emb x = y) :
    v.read Val (v.writes Val f (pb n)) y = G y := by
  have mem : ∀ j, j ≤ n → ∀ p ∈ pb j, ∃ k, p ∈ L k := by
    intro j
    induction j with
    | zero => intro _ p hp; rw [h0] at hp; exact absurd hp List.not_mem_nil
    | succ j ih =>
      intro hj p hp
      rw [hs ⟨j, by omega⟩] at hp
      rcases List.mem_append.mp hp with hp | hp
      · exact ⟨_, hp⟩
      · exact ih (by omega) p hp
  have cov : ∀ j, k.val < j → j ≤ n → ∀ p ∈ L k, p ∈ pb j := by
    intro j
    induction j with
    | zero => intro h; omega
    | succ j ih =>
      intro hk hj p hp
      rw [hs ⟨j, by omega⟩]
      by_cases hkj : k.val = j
      · have : k = ⟨j, by omega⟩ := Fin.ext hkj
        exact List.mem_append_left _ (this ▸ hp)
      · exact List.mem_append_right _ (ih (by omega) (by omega) p hp)
  refine View.read_writes_apply_of_pieces v f G _ ?_ y ?_
  · intro p hp x
    obtain ⟨k, hk⟩ := mem n le_rfl p hp
    exact hG k p hk x
  · obtain ⟨p, hp, x, hx⟩ := hc
    refine ⟨p, cov n k.isLt le_rfl p hp, ?_⟩
    rw [← hx, ← Rect.map_emb_univ]
    exact Finset.mem_map_of_mem _ (Finset.mem_univ x)

/-- A buffer after one write through a rectangle of a squeezed slice of it: the payload where the rectangle places an index,
    the old contents elsewhere. -/
theorem read_write_squeezed (v : View sig κ sp s e) (R : Rect s) {s' : Shape} (h : s'.numel = R.shape.numel) (A : Rect s')
    (f : v.ty.Contents Val) (w : A.shape.Idx → Val e) (y : s.Idx) (a : Val e)
    (h1 : ∀ x, R.emb (Shape.reshapeEquiv h (A.emb x)) = y → w x = a)
    (h2 : (∀ x, R.emb (Shape.reshapeEquiv h (A.emb x)) ≠ y) → v.read Val f y = a) :
    v.read Val ((((v.slice R).reshape s' h).slice A).write Val f w Finset.univ) y = a := by
  by_cases hy : ∃ x, R.emb (Shape.reshapeEquiv h (A.emb x)) = y
  · obtain ⟨x, hx⟩ := hy
    rw [View.read_apply, ← hx, show v.emb (R.emb (Shape.reshapeEquiv h (A.emb x))) = (((v.slice R).reshape s' h).slice A).emb x from rfl,
      View.write_emb_of_mem _ _ (Finset.mem_univ _), cast_cast, cast_eq]
    exact h1 x hx
  · have hy' : ∀ x, R.emb (Shape.reshapeEquiv h (A.emb x)) ≠ y := fun x hx => hy ⟨x, hx⟩
    rw [← h2 hy', View.read_apply, View.read_apply, View.write_of_not_mem]
    intro hm
    obtain ⟨x, -, hx⟩ := Finset.mem_map.mp hm
    exact hy' x (v.emb.injective hx)

end

end Cert.Q6K

end
-- ==== Proof.Half.lean ====
/-
  Hand-written, untrusted. The number a 16-bit pattern denotes in IEEE half precision, decoded by the kernel with 32-bit arithmetic, is
  the one the half-precision format gives the pattern's magnitude.
-/
module

public import Idealize.ShloMosaic.Lib.Pointwise
public import Idealize.ShloMosaic.PureOps.Ideal

@[expose] public section

set_option maxRecDepth 16384

noncomputable section

namespace Cert.Q6K

open Idealize.ShloMosaic

/-- The magnitude of the pattern `b`: the half-precision number of its low fifteen bits. -/
def mag16 (b : BitVec 16) : EReal := Ideal.ofBits .f16 (b &&& 0x7FFF#16)

/-- The number the pattern `b` denotes, as the kernel decodes it: `h` the pattern in a 32-bit word. -/
def magK (h : BitVec 32) : EReal :=
  if (h.sshiftRight 10) &&& 31#32 = 0#32 then (((h &&& 1023#32).toInt : ℝ) : EReal) * Ideal.ofBits .f32 0x33800000#32
  else if (h.sshiftRight 10) &&& 31#32 = 31#32 then Ideal.ofBits .f32 (((h &&& 32767#32) <<< 13) ||| 2139095040#32)
  else Ideal.ofBits .f32 (((h &&& 32767#32) <<< 13) + 939524096#32)

theorem ofBits_2_24 : Ideal.ofBits .f32 0x33800000#32 = (((2 : ℝ) ^ (-24 : ℤ) : ℝ) : EReal) := by
  simp only [Ideal.ofBits, Ideal.ieee, show (BitVec.extractLsb' 23 8 0x33800000#32).toNat = 103 by decide,
    show (BitVec.extractLsb' 0 23 0x33800000#32).toNat = 0 by decide, show (BitVec.extractLsb' 31 1 0x33800000#32) = 0#1 by decide]
  norm_num

theorem ofBits_quarter : Ideal.ofBits .f32 0x3E800000#32 = (((1 / 4 : ℝ)) : EReal) := by
  simp only [Ideal.ofBits, Ideal.ieee, show (BitVec.extractLsb' 23 8 0x3E800000#32).toNat = 125 by decide,
    show (BitVec.extractLsb' 0 23 0x3E800000#32).toNat = 0 by decide, show (BitVec.extractLsb' 31 1 0x3E800000#32) = 0#1 by decide]
  norm_num

theorem ofBits_zero : Ideal.ofBits .f32 0#32 = 0 := by
  simp [Ideal.ofBits, Ideal.ieee]

/-- Every 16-bit pattern's magnitude is the kernel's decoding of it. -/
theorem magK_eq (b : BitVec 16) : magK (b.setWidth 32) = mag16 b := by
  have hb := b.isLt
  -- the two fields of the pattern
  have e1 : ((b.setWidth 32).sshiftRight 10) &&& 31#32 = BitVec.ofNat 32 (b.toNat / 1024 % 32) := by
    apply BitVec.eq_of_toNat_eq
    rw [BitVec.sshiftRight_eq_of_msb_false (by rw [BitVec.msb_setWidth]; simp), BitVec.toNat_and, BitVec.toNat_ushiftRight,
      Nat.shiftRight_eq_div_pow, BitVec.toNat_setWidth, Nat.mod_eq_of_lt (a := b.toNat) (by omega),
      show (31#32).toNat = 2 ^ 5 - 1 by rfl, Nat.and_two_pow_sub_one_eq_mod, BitVec.toNat_ofNat]
    omega
  have e2 : (b.setWidth 32) &&& 1023#32 = BitVec.ofNat 32 (b.toNat % 1024) := by
    apply BitVec.eq_of_toNat_eq
    rw [BitVec.toNat_and, BitVec.toNat_setWidth, Nat.mod_eq_of_lt (a := b.toNat) (by omega),
      show (1023#32).toNat = 2 ^ 10 - 1 by rfl, Nat.and_two_pow_sub_one_eq_mod, BitVec.toNat_ofNat]
    omega
  have e3 : (((b.setWidth 32) &&& 32767#32) <<< 13).toNat = (b.toNat % 32768) * 8192 := by
    rw [BitVec.toNat_shiftLeft, BitVec.toNat_and, BitVec.toNat_setWidth, Nat.mod_eq_of_lt (a := b.toNat) (by omega),
      show (32767#32).toNat = 2 ^ 15 - 1 by rfl, Nat.and_two_pow_sub_one_eq_mod, Nat.shiftLeft_eq]
    omega
  have m1 : (BitVec.extractLsb' 10 5 (b &&& 0x7FFF#16)).toNat = b.toNat / 1024 % 32 := by
    rw [BitVec.extractLsb'_toNat, BitVec.toNat_and, show (0x7FFF#16).toNat = 2 ^ 15 - 1 by rfl, Nat.and_two_pow_sub_one_eq_mod,
      Nat.shiftRight_eq_div_pow]
    omega
  have m2 : (BitVec.extractLsb' 0 10 (b &&& 0x7FFF#16)).toNat = b.toNat % 1024 := by
    rw [BitVec.extractLsb'_toNat, BitVec.toNat_and, show (0x7FFF#16).toNat = 2 ^ 15 - 1 by rfl, Nat.and_two_pow_sub_one_eq_mod,
      Nat.shiftRight_eq_div_pow]
    omega
  have m3 : (BitVec.extractLsb' 15 1 (b &&& 0x7FFF#16)) = 0#1 := by
    apply BitVec.eq_of_toNat_eq
    rw [BitVec.extractLsb'_toNat, BitVec.toNat_and, show (0x7FFF#16).toNat = 2 ^ 15 - 1 by rfl, Nat.and_two_pow_sub_one_eq_mod,
      Nat.shiftRight_eq_div_pow]
    show _ = 0
    omega
  -- the fields of a 32-bit pattern, by its number
  have x1 : ∀ w : BitVec 32, (BitVec.extractLsb' 23 8 w).toNat = w.toNat / 8388608 % 256 := fun w => by
    rw [BitVec.extractLsb'_toNat, Nat.shiftRight_eq_div_pow]
  have x2 : ∀ w : BitVec 32, (BitVec.extractLsb' 0 23 w).toNat = w.toNat % 8388608 := fun w => by
    rw [BitVec.extractLsb'_toNat, Nat.shiftRight_eq_div_pow]; simp
  have x3 : ∀ w : BitVec 32, w.toNat < 2147483648 → BitVec.extractLsb' 31 1 w = 0#1 := fun w h => by
    apply BitVec.eq_of_toNat_eq
    rw [BitVec.extractLsb'_toNat, Nat.shiftRight_eq_div_pow]; show _ = 0; omega
  have f32 : ∀ w : BitVec 32, Ideal.ofBits .f32 w = Ideal.ieee 8 23 w := fun _ => rfl
  have f16 : ∀ w : BitVec 16, Ideal.ofBits .f16 w = Ideal.ieee 5 10 w := fun _ => rfl
  unfold magK mag16
  rw [e1, e2, f16]
  by_cases c0 : b.toNat / 1024 % 32 = 0
  · rw [if_pos (by rw [c0]), ofBits_2_24]
    have t : (BitVec.ofNat 32 (b.toNat % 1024)).toInt = ((b.toNat % 1024 : ℕ) : ℤ) := by
      rw [BitVec.toInt_eq_toNat_of_lt (by rw [BitVec.toNat_ofNat]; omega), BitVec.toNat_ofNat, Nat.mod_eq_of_lt (by omega)]
    simp only [Ideal.ieee, m1, m2, m3, c0, t]
    rw [← EReal.coe_mul, Int.cast_natCast]
    generalize b.toNat % 1024 = M
    norm_num
  · rw [if_neg (fun h => c0 (by
      have := congrArg BitVec.toNat h
      rw [BitVec.toNat_ofNat] at this
      have z : (0#32).toNat = 0 := rfl
      omega))]
    by_cases c1 : b.toNat / 1024 % 32 = 31
    · rw [if_pos (by rw [c1]), f32]
      have w1 : ((((b.setWidth 32) &&& 32767#32) <<< 13) ||| 2139095040#32).toNat = 2139095040 + (b.toNat % 1024) * 8192 := by
        rw [BitVec.toNat_or, e3]
        have : b.toNat % 32768 = 31 * 1024 + b.toNat % 1024 := by omega
        rw [this, show (2139095040#32).toNat = 255 * 2 ^ 23 by rfl, show (31 * 1024 + b.toNat % 1024) * 8192 = 31 * 2 ^ 23 + (b.toNat % 1024) * 8192 by omega]
        rw [show 31 * 2 ^ 23 + (b.toNat % 1024) * 8192 = 2 ^ 23 * 31 + (b.toNat % 1024) * 8192 by omega, Nat.two_pow_add_eq_or_of_lt (by omega), Nat.or_assoc, Nat.or_comm (b.toNat % 1024 * 8192), ← Nat.or_assoc,
          show 2 ^ 23 * 31 ||| 255 * 2 ^ 23 = 2 ^ 23 * 255 by decide, ← Nat.two_pow_add_eq_or_of_lt (by omega)]
      simp only [Ideal.ieee, m1, m2, m3, x1, x2, x3 _ (by rw [w1]; omega), w1, c1]
      have q1 : (2139095040 + b.toNat % 1024 * 8192) / 8388608 % 256 = 255 := by omega
      have q2 : (2139095040 + b.toNat % 1024 * 8192) % 8388608 = b.toNat % 1024 * 8192 := by omega
      rw [q1, q2]
      by_cases c2 : b.toNat % 1024 = 0
      · simp [c2]
      · simp [c2]
    · rw [if_neg (fun h => c1 (by
        have := congrArg BitVec.toNat h
        rw [BitVec.toNat_ofNat] at this
        have z : (31#32).toNat = 31 := rfl
        omega)), f32]
      have w1 : ((((b.setWidth 32) &&& 32767#32) <<< 13) + 939524096#32).toNat = 939524096 + (b.toNat % 32768) * 8192 := by
        rw [BitVec.toNat_add, e3, show (939524096#32).toNat = 939524096 by rfl]
        omega
      have q0 : b.toNat % 32768 = (b.toNat / 1024 % 32) * 1024 + b.toNat % 1024 := by omega
      have hE : b.toNat / 1024 % 32 < 32 := Nat.mod_lt _ (by decide)
      have hM : b.toNat % 1024 < 1024 := Nat.mod_lt _ (by decide)
      simp only [Ideal.ieee, m1, m2, m3, x1, x2, x3 _ (by rw [w1]; omega), w1]
      rw [q0]
      generalize b.toNat / 1024 % 32 = E at *
      generalize b.toNat % 1024 = M at *
      have q1 : (939524096 + (E * 1024 + M) * 8192) / 8388608 % 256 = 112 + E := by clear e1 e2 e3 m1 m2 x1 x2 w1 q0 hb; omega
      have q2 : (939524096 + (E * 1024 + M) * 8192) % 8388608 = M * 8192 := by omega
      rw [q1, q2, if_neg (show ¬ 112 + E = 2 ^ 8 - 1 by omega), if_neg (show ¬ 112 + E = 0 by omega), if_neg (show ¬ E = 2 ^ 5 - 1 by omega), if_neg c0,
        EReal.coe_eq_coe_iff]
      have s : (((2 ^ 23 + M * 8192 : ℕ) : ℝ)) = ((2 ^ 10 + M : ℕ) : ℝ) * (2 : ℝ) ^ (13 : ℤ) := by push_cast; norm_num; ring
      rw [s]
      have z : ((112 + E : ℕ) : ℤ) - (2 ^ (8 - 1) - 1) - (23 : ℕ) = ((E : ℤ) - (2 ^ (5 - 1) - 1) - (10 : ℕ)) - 13 := by push_cast; norm_num; ring
      rw [z, zpow_sub₀ (by norm_num : (2 : ℝ) ≠ 0)]
      have p : (2 : ℝ) ^ (13 : ℤ) ≠ 0 := by positivity
      simp only [Bool.false_eq_true, if_false, BEq.rfl, beq_iff_eq, one_mul, reduceCtorEq]
      field_simp

end Cert.Q6K

end
-- ==== Proof.IPay.lean ====
/-
  Hand-written, untrusted. What the kernel's vector code computes, element by element, over the extended reals: the decoded scale of a
  superblock, the scales of four subblocks, a column of weights, one unit's eight products.
-/
module

public import proofs.«01_k».proof.Proof.Gen.KernelIdeal.Skeleton
public import proofs.«01_k».proof.Proof.Mem
public import proofs.«01_k».proof.Proof.Half

@[expose] public section

set_option maxRecDepth 16384

noncomputable section

namespace Cert.KernelIdeal.Hand

open Cert.KernelIdeal Cert.KernelIdeal.Gen Cert.Q6K
open Idealize.ShloMosaic

theorem shli_lit (x : BitVec 32) (n : ℕ) (h : n < 32) : IntOp.shli .vector x (BitVec.ofNat 32 n) = x <<< n := by
  have e : (BitVec.ofNat 32 n).toNat = n := by rw [BitVec.toNat_ofNat]; exact Nat.mod_eq_of_lt (by omega)
  unfold IntOp.shli
  rw [e, if_pos h]
  show x <<< (BitVec.ofNat 32 n).toNat = _
  rw [e]

theorem shrui_lit (x : BitVec 32) (n : ℕ) (h : n < 32) : IntOp.shrui .vector x (BitVec.ofNat 32 n) = x >>> n := by
  have e : (BitVec.ofNat 32 n).toNat = n := by rw [BitVec.toNat_ofNat]; exact Nat.mod_eq_of_lt (by omega)
  unfold IntOp.shrui
  rw [e, if_pos h]
  show x >>> (BitVec.ofNat 32 n).toNat = _
  rw [e]

theorem shrsi_lit (x : BitVec 32) (n : ℕ) (h : n < 32) : IntOp.shrsi .vector x (BitVec.ofNat 32 n) = x.sshiftRight n := by
  have e : (BitVec.ofNat 32 n).toNat = n := by rw [BitVec.toNat_ofNat]; exact Nat.mod_eq_of_lt (by omega)
  unfold IntOp.shrsi
  rw [e, if_pos h]
  show x.sshiftRight (BitVec.ofNat 32 n).toNat = _
  rw [e]

theorem select_eq {α : Type} (x y : BitVec 32) (a b : α) : Scalar.select (IntOp.cmpi .eq x y) a b = if x = y then a else b := by
  unfold Scalar.select IntOp.cmpi
  by_cases h : x = y
  · rw [if_pos h, if_pos (by rw [h]; simp)]
  · rw [if_neg h, if_neg]
    simp only [beq_eq_false_iff_ne.2 h]; decide

theorem select_ne {α : Type} (x y : BitVec 32) (a b : α) : Scalar.select (IntOp.cmpi .ne x y) a b = if x ≠ y then a else b := by
  unfold Scalar.select IntOp.cmpi
  by_cases h : x = y
  · rw [if_neg (not_not.2 h), if_neg]
    simp only [bne, beq_iff_eq.2 h]; decide
  · rw [if_pos h, if_pos]
    simp only [bne, beq_eq_false_iff_ne.2 h]; rfl

theorem sign_bit (b : BitVec 16) : (b.setWidth 32 &&& 32768#32 = 0#32) ↔ (b &&& 0x8000#16 = 0#16) := by
  have h : b.setWidth 32 &&& 32768#32 = (b &&& 0x8000#16).setWidth 32 := by
    rw [show (32768#32) = (0x8000#16).setWidth 32 by rfl, BitVec.setWidth_and]
  rw [h]
  constructor
  · intro e
    have := congrArg (BitVec.setWidth 16) e
    rwa [BitVec.setWidth_setWidth_of_le _ (by decide), BitVec.setWidth_eq] at this
  · intro e; rw [e]; rfl

/-- The number a 16-bit pattern denotes in half precision, its sign put on the magnitude of the low fifteen bits. -/
def halfOf (b : BitVec 16) : EReal := if b &&& 0x8000#16 ≠ 0#16 then -(mag16 b) else mag16 b

/-- The superblock scales of one lane half, decoded, divided by four and transposed. -/
abbrev dqV (h : Vec Ideal S128x128 .i16) : FVec Ideal S128x128 .f32 :=
  k0_pay101 (k0_pay95 h) (k0_pay96 h) (k0_pay97 h) (k0_pay98 (F := Ideal) h) (k0_pay99 (F := Ideal) h) k0_pay100

/-- The second lane half's decoding is the first's. -/
theorem dqV_snd (h : Vec Ideal S128x128 .i16) :
    k0_pay1 (F := Ideal) (k0_pay103 h) (k0_pay104 h) (k0_pay105 h) (k0_pay106 (F := Ideal) h) (k0_pay107 h) 2139095040#32 = dqV h := rfl

theorem dqV_apply (h : Vec Ideal S128x128 .i16) (n o : Fin 128) :
    dqV h (ix2 n o) = halfOf (h (ix2 o n)) * (((1 / 4 : ℝ)) : EReal) := by
  pointwise [dqV, k0_pay101, k0_pay95, k0_pay96, k0_pay97, k0_pay98, k0_pay99, k0_pay100]
  rw [select_ne, select_eq, select_eq, shrsi_lit _ 10 (by decide), shli_lit _ 13 (by decide), ofBits_quarter]
  have hm := magK_eq (h (ix2 o n))
  unfold magK at hm
  refine congrArg (· * _) ?_
  refine Eq.trans (b := if BitVec.setWidth 32 (h (ix2 o n)) &&& 32768#32 ≠ 0#32 then 0 - mag16 (h (ix2 o n)) else mag16 (h (ix2 o n))) ?_ ?_
  · rw [← hm]; rfl
  · unfold halfOf
    by_cases hs : h (ix2 o n) &&& 0x8000#16 = 0#16
    · rw [if_neg (not_not.2 ((sign_bit _).2 hs)), if_neg (not_not.2 hs)]
    · rw [if_pos (fun e => hs ((sign_bit _).1 e)), if_pos hs, zero_sub]

/-- The products of the superblock scales with byte `b` of the scale words, on both halves of a word's row pair. -/
def effV (b : ℕ) (dt : FVec Ideal S128x128 .f32) (w : Vec Ideal S128x128 .i32) : Vec Ideal S128x2x128 .bf16 :=
  have e : FVec Ideal S128x128 .bf16 := truncf .bf16 (mulf dt (sitofp .f32 (shrsi (shli (transpose S128x128 [1, 0] w transposes_S128x128_p1_0_S128x128) (broadcast S128x128 (BitVec.ofNat 32 (24 - 8 * b)))) (broadcast S128x128 24#32)))) bitsLt_bf16_f32
  interleaveRows S128x2x128 (shapeCast S128x1x128 e shapeCasts_S128x128_S128x1x128) (shapeCast S128x1x128 e shapeCasts_S128x128_S128x1x128) bitcasts_S128x2x128_w16_S128x1x128_w32

theorem pay16_eq (dt : FVec Ideal S128x128 .f32) (w : Vec Ideal S128x128 .i32) : k0_pay16 dt w = effV 0 dt w := rfl
theorem pay23_eq (dt : FVec Ideal S128x128 .f32) (w : Vec Ideal S128x128 .i32) : k0_pay23 dt (k0_pay18 (F := Ideal) w) k0_pay19 = effV 1 dt w := rfl
theorem pay102_eq (dt : FVec Ideal S128x128 .f32) (w : Vec Ideal S128x128 .i32) : k0_pay102 (F := Ideal) (k0_pay31 dt (k0_pay12 (F := Ideal) w)) (k0_pay32 dt (k0_pay12 (F := Ideal) w)) = effV 3 dt w := rfl

/-- A row pair interleaved with itself. -/
theorem interleave_same (e : FVec Ideal S128x1x128 .bf16) (n : Fin 128) (hf : Fin 2) (o : Fin 128) :
    interleaveRows S128x2x128 e e bitcasts_S128x2x128_w16_S128x1x128_w32 (ix3 n hf o) = e (ix3 n 0 o) := by
  pointwise
  rw [ite_self]
  congr 2
  exact Fin.ext (show hf.val / 2 = 0 by omega)

theorem effV_apply (b : ℕ) (hb : b < 4) (dt : FVec Ideal S128x128 .f32) (w : Vec Ideal S128x128 .i32) (n : Fin 128) (hf : Fin 2) (o : Fin 128) :
    effV b dt w (ix3 n hf o) = dt (ix2 n o) * (((byteOf (w (ix2 o n)) b).toInt : ℝ) : EReal) := by
  unfold effV
  rw [interleave_same]
  pointwise
  congr 1
  exact congrArg (fun z : Int => ((z : ℝ) : EReal)) (by
    obtain rfl | rfl | rfl | rfl : b = 0 ∨ b = 1 ∨ b = 2 ∨ b = 3 := by omega
    all_goals
      rw [shli_lit _ _ (by decide), shrsi_lit _ 24 (by decide)]
      exact toInt_scale _ _ (by decide))

/-- A column block of weights for field `f`: the codes of the words `hv`, `lv`, each times its scale. -/
def colV (f : ℕ) (hv lv : Vec Ideal S1x1x64x128 .i32) (e : Vec Ideal S1x1x128x2x128 .bf16) : FVec Ideal S256x128 .bf16 :=
  have h' : IVec S64x128 32 := shapeCast S64x128 hv shapeCasts_S1x1x64x128_S64x128
  have l' : IVec S64x128 32 := shapeCast S64x128 lv shapeCasts_S1x1x64x128_S64x128
  mulf (sitofp .bf16 (bitcast S256x128 8 (ori
      (andi (if f < 3 then shli h' (broadcast S64x128 (BitVec.ofNat 32 (6 - 2 * f))) else h') (broadcast S64x128 3233857728#32))
      (andi (if f < 2 then shli l' (broadcast S64x128 2#32) else shrui l' (broadcast S64x128 2#32)) (broadcast S64x128 1010580540#32)))
      bitcasts_S64x128_w32_S256x128_w8))
    (interleaveRows S256x128
      (shapeCast S128x128 (shapeCast S1x1x128x128 (rowsOfParity 0 S1x1x128x1x128 e bitcasts_S1x1x128x2x128_w16_S1x1x128x1x128_w32) shapeCasts_S1x1x128x1x128_S1x1x128x128) shapeCasts_S1x1x128x128_S128x128)
      (shapeCast S128x128 (shapeCast S1x1x128x128 (rowsOfParity 1 S1x1x128x1x128 e bitcasts_S1x1x128x2x128_w16_S1x1x128x1x128_w32) shapeCasts_S1x1x128x1x128_S1x1x128x128) shapeCasts_S1x1x128x128_S128x128)
      bitcasts_S256x128_w16_S128x128_w32)

theorem colV_apply (f : ℕ) (hf : f < 4) (hv lv : Vec Ideal S1x1x64x128 .i32) (e : Vec Ideal S1x1x128x2x128 .bf16) (r : Fin 256) (l : Fin 128) :
    colV f hv lv e (ix2 r l)
      = ((((byteOf (fieldWord f (hv (ix4 0 0 ⟨r.val / 4, by omega⟩ l)) (lv (ix4 0 0 ⟨r.val / 4, by omega⟩ l))) (r.val % 4)).toInt : ℝ)) : EReal)
        * e (ix5 0 0 ⟨r.val / 2, by omega⟩ ⟨r.val % 2, Nat.mod_lt _ (by decide)⟩ l) := by
  unfold colV
  pointwise
  refine congr (congrArg HMul.hMul (congrArg (fun z : BitVec 8 => ((z.toInt : ℝ) : EReal)) ?_)) ?_
  · refine (bitcast_32_8_ix2 _ bitcasts_S64x128_w32_S256x128_w8 r l ⟨r.val / 4, by omega⟩ rfl).trans ?_
    congr 1
    obtain rfl | rfl | rfl | rfl : f = 0 ∨ f = 1 ∨ f = 2 ∨ f = 3 := by omega
    all_goals
      simp only [fieldWord]
      pointwise
      simp only [shli_lit _ 6 (by decide), shli_lit _ 4 (by decide), shli_lit _ 2 (by decide), shrui_lit _ 2 (by decide)]
      rfl
  · rcases Nat.mod_two_eq_zero_or_one r.val with h | h
    · rw [if_pos h]; congr 2; exact Fin.ext h.symm
    · rw [if_neg (by omega)]; congr 2; exact Fin.ext h.symm

/-- One product: the activations' block times the two column blocks side by side. -/
def dotV (x : Vec Ideal S1x48x256 .bf16) (c0 c1 : FVec Ideal S256x128 .bf16) : FVec Ideal S48x256 .f32 :=
  matmul (φ₁ := .bf16) (φ₂ := .bf16) dot_S48x256_S256x256_S48x256_1_0_0_1_n_n none (shapeCast (α := Ideal .bf16) S48x256 x shapeCasts_S1x48x256_S48x256)
    (concatenate S256x256 1 [⟨S256x128, c0⟩, ⟨S256x128, c1⟩] concatenates_S256x128_S256x128_S256x256_d1) (constant S48x256 .f32 0x00000000#32)

theorem dotV_apply (x : Vec Ideal S1x48x256 .bf16) (c0 c1 : FVec Ideal S256x128 .bf16) (t : Fin 48) (o : Fin 256) :
    dotV x c0 c1 (ix2 t o) = ∑ r : Fin 256, x (ix3 0 t r) * (if h : o.val < 128 then c0 (ix2 r ⟨o.val, h⟩) else c1 (ix2 r ⟨o.val - 128, by omega⟩)) := by
  pointwise [dotV]

end Cert.KernelIdeal.Hand

end
-- ==== Proof.IUnit.lean ====
/-
  Hand-written, untrusted. One step of the accumulation: what a trip of the last loop adds, read element by element from the scratch.
-/
module

public import proofs.«01_k».proof.Proof.Gen.KernelIdeal.Loops
public import proofs.«01_k».proof.Proof.IPay

@[expose] public section

set_option maxRecDepth 16384

noncomputable section

namespace Cert.KernelIdeal.Hand

open Cert.KernelIdeal Cert.KernelIdeal.Gen Cert.Q6K
open Idealize.ShloMosaic

theorem off19_eq : ∀ (k : Fin k0_t7_loop.trips) (r : Fin 2), k0_off19 k (BitVec.ofNat 32 (8 * r.val)) = ![16 * (k.val / 8) + 8 * r.val + k.val % 8, 0, 0, 0] := by decide +kernel
theorem off22_eq : ∀ (k : Fin k0_t7_loop.trips) (r : Fin 2), k0_off22 k (BitVec.ofNat 32 (8 * r.val)) = ![16 * (k.val / 8) + 8 * r.val + k.val % 8, 1, 0, 0] := by decide +kernel
theorem off26_eq : ∀ (k : Fin k0_t7_loop.trips) (r : Fin 2), k0_off26 k (BitVec.ofNat 32 (8 * r.val)) = ![16 * (k.val / 8) + 8 * r.val + k.val % 8, 0, 64, 0] := by decide +kernel
theorem off29_eq : ∀ (k : Fin k0_t7_loop.trips) (r : Fin 2), k0_off29 k (BitVec.ofNat 32 (8 * r.val)) = ![16 * (k.val / 8) + 8 * r.val + k.val % 8, 1, 64, 0] := by decide +kernel
theorem off20_eq : ∀ (k : Fin k0_t7_loop.trips) (r : Fin 4), k0_off20 k (BitVec.ofNat 32 (2 * r.val)) = ![8 * (k.val / 8) + 2 * r.val + k.val % 8 / 4, 0, 0, 0, 0] := by decide +kernel
theorem off23_eq : ∀ (k : Fin k0_t7_loop.trips) (r : Fin 4), k0_off23 k (BitVec.ofNat 32 (2 * r.val)) = ![8 * (k.val / 8) + 2 * r.val + k.val % 8 / 4, 1, 0, 0, 0] := by decide +kernel
theorem off27_eq : ∀ (k : Fin k0_t7_loop.trips) (r : Fin 4), k0_off27 k (BitVec.ofNat 32 (2 * r.val)) = ![8 * (k.val / 8) + 2 * r.val + k.val % 8 / 4, 0, 128, 0, 0] := by decide +kernel
theorem off30_eq : ∀ (k : Fin k0_t7_loop.trips) (r : Fin 4), k0_off30 k (BitVec.ofNat 32 (2 * r.val)) = ![8 * (k.val / 8) + 2 * r.val + k.val % 8 / 4, 1, 128, 0, 0] := by decide +kernel

section Unit

variable (arg5 : Memref sig .tc .vmem S128x48x256 .bf16) (arg10 : Memref sig .tc .vmem S32x2x128x128 .i32) (arg11 : Memref sig .tc .vmem S16x2x128x128 .i32) (arg12 : Memref sig .tc .vmem S16x2x256x2x128 .bf16) (arg13 : Memref sig .tc .vmem S48x256 .f32)
  (X5 : BufTy.Contents (Elt Ideal) arg5.view.ty) (X10 : BufTy.Contents (Elt Ideal) arg10.view.ty) (X11 : BufTy.Contents (Elt Ideal) arg11.view.ty) (X12 : BufTy.Contents (Elt Ideal) arg12.view.ty)
  (k : Fin k0_t7_loop.trips)

/-- The activations one product takes. -/
abbrev ldX (f : Fin 4) (nh : Fin 2) : Vec Ideal S1x48x256 .bf16 :=
  View.readAt (Elt Ideal) arg5.view (Rect.unit (s := S128x48x256) (k0_off24 k (BitVec.ofNat 32 (2 * f.val)) (BitVec.ofNat 32 nh.val)) S1x48x256.size (k0_off24_inb k f nh)).toLoadRect X5

/-- The words of high bits one column block takes. -/
abbrev ldH : Fin 2 → Fin 2 → Vec Ideal S1x1x64x128 .i32
  | 0, 0 => View.readAt (Elt Ideal) arg11.view (Rect.unit (s := S16x2x128x128) (k0_off18 k) S1x1x64x128.size (k0_off18_inb k)).toLoadRect X11
  | 0, 1 => View.readAt (Elt Ideal) arg11.view (Rect.unit (s := S16x2x128x128) (k0_off21 k) S1x1x64x128.size (k0_off21_inb k)).toLoadRect X11
  | 1, 0 => View.readAt (Elt Ideal) arg11.view (Rect.unit (s := S16x2x128x128) (k0_off25 k) S1x1x64x128.size (k0_off25_inb k)).toLoadRect X11
  | 1, 1 => View.readAt (Elt Ideal) arg11.view (Rect.unit (s := S16x2x128x128) (k0_off28 k) S1x1x64x128.size (k0_off28_inb k)).toLoadRect X11

/-- The words of low bits one column block takes. -/
abbrev ldL (j : Fin 2) : Fin 2 → Fin 2 → Vec Ideal S1x1x64x128 .i32
  | 0, 0 => View.readAt (Elt Ideal) arg10.view (Rect.unit (s := S32x2x128x128) (k0_off19 k (BitVec.ofNat 32 (8 * j.val))) S1x1x64x128.size (k0_off19_inb k j)).toLoadRect X10
  | 0, 1 => View.readAt (Elt Ideal) arg10.view (Rect.unit (s := S32x2x128x128) (k0_off22 k (BitVec.ofNat 32 (8 * j.val))) S1x1x64x128.size (k0_off22_inb k j)).toLoadRect X10
  | 1, 0 => View.readAt (Elt Ideal) arg10.view (Rect.unit (s := S32x2x128x128) (k0_off26 k (BitVec.ofNat 32 (8 * j.val))) S1x1x64x128.size (k0_off26_inb k j)).toLoadRect X10
  | 1, 1 => View.readAt (Elt Ideal) arg10.view (Rect.unit (s := S32x2x128x128) (k0_off29 k (BitVec.ofNat 32 (8 * j.val))) S1x1x64x128.size (k0_off29_inb k j)).toLoadRect X10

/-- The scales one column block takes. -/
abbrev ldE (f : Fin 4) : Fin 2 → Fin 2 → Vec Ideal S1x1x128x2x128 .bf16
  | 0, 0 => View.readAt (Elt Ideal) arg12.view (Rect.unit (s := S16x2x256x2x128) (k0_off20 k (BitVec.ofNat 32 (2 * f.val))) S1x1x128x2x128.size (k0_off20_inb k f)).toLoadRect X12
  | 0, 1 => View.readAt (Elt Ideal) arg12.view (Rect.unit (s := S16x2x256x2x128) (k0_off23 k (BitVec.ofNat 32 (2 * f.val))) S1x1x128x2x128.size (k0_off23_inb k f)).toLoadRect X12
  | 1, 0 => View.readAt (Elt Ideal) arg12.view (Rect.unit (s := S16x2x256x2x128) (k0_off27 k (BitVec.ofNat 32 (2 * f.val))) S1x1x128x2x128.size (k0_off27_inb k f)).toLoadRect X12
  | 1, 1 => View.readAt (Elt Ideal) arg12.view (Rect.unit (s := S16x2x256x2x128) (k0_off30 k (BitVec.ofNat 32 (2 * f.val))) S1x1x128x2x128.size (k0_off30_inb k f)).toLoadRect X12

/-- One of a trip's eight products: field `f`, superblock half `nh`. -/
abbrev unitD (f : Fin 4) (j nh : Fin 2) : FVec Ideal S48x256 .f32 :=
  dotV (ldX arg5 X5 k f nh)
    (colV f.val (ldH arg11 X11 k nh 0) (ldL arg10 X10 k j nh 0) (ldE arg12 X12 k f nh 0))
    (colV f.val (ldH arg11 X11 k nh 1) (ldL arg10 X10 k j nh 1) (ldE arg12 X12 k f nh 1))

/-- What a trip leaves in the accumulator: what was there plus its eight products. -/
theorem unit_eq (f13 : BufTy.Contents (Elt Ideal) arg13.view.ty) :
    trip_k0_t7.sl.r_31 (F := Ideal) arg5 arg10 arg11 arg12 arg13 X5 X10 X11 X12 k f13
      = addf (φ := .f32) (View.readAt (Elt Ideal) arg13.view (Rect.unit (s := S48x256) ![0, 0] S48x256.size inb_S48x256_S48x256_0_0).toLoadRect f13)
        (addf (addf (addf (addf (addf (addf (addf (addf (broadcast S48x256 (Scalar.ofBits (F := Ideal) .f32 0x00000000#32)) (unitD arg5 arg10 arg11 arg12 X5 X10 X11 X12 k 0 0 0)) (unitD arg5 arg10 arg11 arg12 X5 X10 X11 X12 k 0 0 1)) (unitD arg5 arg10 arg11 arg12 X5 X10 X11 X12 k 1 1 0)) (unitD arg5 arg10 arg11 arg12 X5 X10 X11 X12 k 1 1 1)) (unitD arg5 arg10 arg11 arg12 X5 X10 X11 X12 k 2 0 0)) (unitD arg5 arg10 arg11 arg12 X5 X10 X11 X12 k 2 0 1)) (unitD arg5 arg10 arg11 arg12 X5 X10 X11 X12 k 3 1 0)) (unitD arg5 arg10 arg11 arg12 X5 X10 X11 X12 k 3 1 1)) := rfl

/-- A weight's signed code, four times over, from the words holding its high and low bits. -/
def wcode (f : ℕ) (hw lw : BitVec 32) (b : ℕ) : EReal := (((byteOf (fieldWord f hw lw) b).toInt : ℝ) : EReal)

theorem readAt_unit {sig : RefSig} {κ : Kind} {sp : Space} {s : Shape} {e : EltTy} {Val : EltTy → Type} [Nonempty (Val e)] (v : View sig κ sp s e) (X : v.ty.Contents Val)
    (off off' : Fin s.rank → ℕ) (size : Fin s.rank → ℕ) (inb : ∀ a, off a + size a ≤ s.size a) (h : off = off') (x : (⟨s.rank, size⟩ : Shape).Idx) (g : Fin s.rank → ℕ)
    (hg : ∀ a, g a = off' a + (x a).val) :
    View.readAt Val v (Rect.unit off size inb).toLoadRect X x = at' (α := Val e) (v.read Val X) g := by
  subst h
  refine (at_eq (α := Val e) (v.read Val X) _ _ fun a => ?_).symm
  rw [LoadRect.idx_apply, hg a]
  show _ = off a + 1 * (x a).val
  rw [Nat.one_mul]

theorem ldX_apply (f : Fin 4) (nh : Fin 2) (t : Fin 48) (r : Fin 256) :
    ldX arg5 X5 k f nh (ix3 0 t r) = at' (α := EReal) (arg5.view.read (Elt Ideal) X5) ![8 * k.val + 2 * f.val + nh.val, t.val, r.val] :=
  by refine readAt_unit (Val := Elt Ideal) arg5.view X5 _ _ _ _ (k0_off24_eq k f nh) _ _ ?_; intro a; fin_cases a <;> simp

theorem ldH_apply (nh lh : Fin 2) (a : Fin 64) (l : Fin 128) :
    ldH arg11 X11 k nh lh (ix4 0 0 a l) = at' (α := BitVec 32) (arg11.view.read (Elt Ideal) X11) ![k.val, lh.val, 64 * nh.val + a.val, l.val] :=
  match nh, lh with
  | 0, 0 => by refine readAt_unit (Val := Elt Ideal) arg11.view X11 _ _ _ _ (k0_off18_eq k) _ _ ?_; intro a; fin_cases a <;> simp
  | 0, 1 => by refine readAt_unit (Val := Elt Ideal) arg11.view X11 _ _ _ _ (k0_off21_eq k) _ _ ?_; intro a; fin_cases a <;> simp
  | 1, 0 => by refine readAt_unit (Val := Elt Ideal) arg11.view X11 _ _ _ _ (k0_off25_eq k) _ _ ?_; intro a; fin_cases a <;> simp
  | 1, 1 => by refine readAt_unit (Val := Elt Ideal) arg11.view X11 _ _ _ _ (k0_off28_eq k) _ _ ?_; intro a; fin_cases a <;> simp

theorem ldL_apply (j nh lh : Fin 2) (a : Fin 64) (l : Fin 128) :
    ldL arg10 X10 k j nh lh (ix4 0 0 a l)
      = at' (α := BitVec 32) (arg10.view.read (Elt Ideal) X10) ![16 * (k.val / 8) + 8 * j.val + k.val % 8, lh.val, 64 * nh.val + a.val, l.val] :=
  match nh, lh with
  | 0, 0 => by refine readAt_unit (Val := Elt Ideal) arg10.view X10 _ _ _ _ (off19_eq k j) _ _ ?_; intro a; fin_cases a <;> simp
  | 0, 1 => by refine readAt_unit (Val := Elt Ideal) arg10.view X10 _ _ _ _ (off22_eq k j) _ _ ?_; intro a; fin_cases a <;> simp
  | 1, 0 => by refine readAt_unit (Val := Elt Ideal) arg10.view X10 _ _ _ _ (off26_eq k j) _ _ ?_; intro a; fin_cases a <;> simp
  | 1, 1 => by refine readAt_unit (Val := Elt Ideal) arg10.view X10 _ _ _ _ (off29_eq k j) _ _ ?_; intro a; fin_cases a <;> simp

theorem ldE_apply (f : Fin 4) (nh lh : Fin 2) (a : Fin 128) (p : Fin 2) (l : Fin 128) :
    ldE arg12 X12 k f nh lh (ix5 0 0 a p l)
      = at' (α := EReal) (arg12.view.read (Elt Ideal) X12) ![8 * (k.val / 8) + 2 * f.val + k.val % 8 / 4, lh.val, 128 * nh.val + a.val, p.val, l.val] :=
  match nh, lh with
  | 0, 0 => by refine readAt_unit (Val := Elt Ideal) arg12.view X12 _ _ _ _ (off20_eq k f) _ _ ?_; intro a; fin_cases a <;> simp
  | 0, 1 => by refine readAt_unit (Val := Elt Ideal) arg12.view X12 _ _ _ _ (off23_eq k f) _ _ ?_; intro a; fin_cases a <;> simp
  | 1, 0 => by refine readAt_unit (Val := Elt Ideal) arg12.view X12 _ _ _ _ (off27_eq k f) _ _ ?_; intro a; fin_cases a <;> simp
  | 1, 1 => by refine readAt_unit (Val := Elt Ideal) arg12.view X12 _ _ _ _ (off30_eq k f) _ _ ?_; intro a; fin_cases a <;> simp

/-- One product, element by element. -/
theorem unitD_apply (f : Fin 4) (j nh : Fin 2) (t : Fin 48) (o : Fin 256) :
    unitD arg5 arg10 arg11 arg12 X5 X10 X11 X12 k f j nh (ix2 t o)
      = ∑ r : Fin 256, at' (α := EReal) (arg5.view.read (Elt Ideal) X5) ![8 * k.val + 2 * f.val + nh.val, t.val, r.val]
          * (wcode f.val (at' (α := BitVec 32) (arg11.view.read (Elt Ideal) X11) ![k.val, o.val / 128, 64 * nh.val + r.val / 4, o.val % 128])
                (at' (α := BitVec 32) (arg10.view.read (Elt Ideal) X10) ![16 * (k.val / 8) + 8 * j.val + k.val % 8, o.val / 128, 64 * nh.val + r.val / 4, o.val % 128])
                (r.val % 4)
              * at' (α := EReal) (arg12.view.read (Elt Ideal) X12) ![8 * (k.val / 8) + 2 * f.val + k.val % 8 / 4, o.val / 128, 128 * nh.val + r.val / 2, r.val % 2, o.val % 128]) := by
  refine (dotV_apply _ _ _ t o).trans (Finset.sum_congr rfl fun r _ => ?_)
  refine congr (congrArg HMul.hMul (ldX_apply arg5 X5 k f nh t r)) ?_
  have key (lh : Fin 2) (l : Fin 128) (e1 : lh.val = o.val / 128) (e2 : l.val = o.val % 128) :
      colV f.val (ldH arg11 X11 k nh lh) (ldL arg10 X10 k j nh lh) (ldE arg12 X12 k f nh lh) (ix2 r l) = _ :=
    (colV_apply f.val f.isLt _ _ _ r l).trans (by rw [ldH_apply, ldL_apply, ldE_apply, e1, e2])
  split
  · next h => exact key 0 ⟨o.val, h⟩ (by show 0 = _; omega) (by show o.val = _; omega)
  · next h => exact key 1 ⟨o.val - 128, by omega⟩ (by show 1 = _; omega) (by show o.val - 128 = _; omega)

end Unit

end Cert.KernelIdeal.Hand

end
-- ==== Proof.IStageA.lean ====
/-
  Hand-written, untrusted. The first scratch arrays: the packed bytes gathered four to a word, read from the input blocks.
-/
module

public import proofs.«01_k».proof.Proof.ILoops
public import proofs.«01_k».proof.Proof.IUnit

@[expose] public section

set_option maxRecDepth 16384

noncomputable section

namespace Cert.KernelIdeal.Hand

open Cert.KernelIdeal Cert.KernelIdeal.Gen Cert.Q6K
open Idealize.ShloMosaic

theorem ix2_eta {m n : ℕ} (x : (⟨2, ![m, n]⟩ : Shape).Idx) : ∃ (a : Fin m) (l : Fin n), x = ix2 a l :=
  ⟨x 0, x 1, funext fun q => by fin_cases q <;> rfl⟩

/-- Four rows of bytes in one row of words. -/
theorem pay88_apply (v : Vec Ideal S32x128 .i8) (a : Fin 8) (l : Fin 128) (g : ℕ → BitVec 8)
    (hg : ∀ b (hb : b < 4), v (ix2 ⟨4 * a.val + b, by omega⟩ l) = g b) : k0_pay88 v (ix2 a l) = wordOf g := by
  refine word_ext fun b hb => ?_
  rw [byteOf_wordOf _ _ hb, ← hg b hb]
  refine (byteOf_bitcast _ bitcasts_S32x128_w8_S8x128_w32 a l b hb ⟨4 * a.val + b, by omega⟩ rfl).trans ?_
  exact shapeCast_apply _ _ _ _ rfl

theorem pay6_apply (v : Vec Ideal S32x128 .i8) (a : Fin 8) (l : Fin 128) (g : ℕ → BitVec 8)
    (hg : ∀ b (hb : b < 4), v (ix2 ⟨4 * a.val + b, by omega⟩ l) = g b) : k0_pay6 v (ix2 a l) = wordOf g := by
  refine (shapeCast_apply (k0_pay88 (F := Ideal) v) shapeCasts_S8x128_S8x128 _ (ix2 a l) rfl).trans ?_
  exact pay88_apply v a l g hg

theorem pay89_apply (v : Vec Ideal S32x128 .i8) (a : Fin 4) (l : Fin 128) (g : ℕ → BitVec 8)
    (hg : ∀ b (hb : b < 4), v (ix2 ⟨4 * a.val + b, by omega⟩ l) = g b) : k0_pay89 v (ix2 a l) = wordOf g := by
  refine Eq.trans ?_ (pay88_apply v ⟨a.val, by omega⟩ l g hg)
  pointwise [k0_pay89]

theorem pay90_apply (v : Vec Ideal S32x128 .i8) (a : Fin 4) (l : Fin 128) (g : ℕ → BitVec 8)
    (hg : ∀ b (hb : b < 4), v (ix2 ⟨4 * (4 + a.val) + b, by omega⟩ l) = g b) : k0_pay90 v (ix2 a l) = wordOf g := by
  refine Eq.trans ?_ (pay88_apply v ⟨4 + a.val, by omega⟩ l g hg)
  pointwise [k0_pay90]

section
variable (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole)

/-- The rows one piece of a trip's writes goes to. -/
abbrev rc7 (k : Fin k0_t1_loop.trips) (r : Fin 4) : Rect S8320x128 :=
  ⟨⟨![k.val + 2080 * r.val, 0], S8x128.size, ![260, 1], by rw [← k0_off2_eq k r]; exact k0_off2_inb k r⟩, spos_260_1⟩

abbrev pc7 (X1 : BufTy.Contents (Elt Ideal) arg1.view.ty) (k : Fin k0_t1_loop.trips) (r : Fin 4) : View.Piece (Elt Ideal) S8320x128 .i32 :=
  ⟨rc7 k r, k0_pay6 (F := Ideal) (View.readAt (Elt Ideal) arg1.view (Rect.unit (s := S32768x128) (k0_off1 k (BitVec.ofNat 32 (32 * r.val))) S32x128.size (k0_off1_inb k r)).toLoadRect X1)⟩

theorem trip_t1_arg7 (X1 : BufTy.Contents (Elt Ideal) arg1.view.ty) (X2 : BufTy.Contents (Elt Ideal) arg2.view.ty) (k : Fin k0_t1_loop.trips) :
    (trip_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 k).1 = [pc7 arg1 X1 k 3, pc7 arg1 X1 k 2, pc7 arg1 X1 k 1, pc7 arg1 X1 k 0] := by
  delta trip_t1
  rfl

/-- What one of these scratch arrays holds: row `260 w + o`, the word of the four bytes at rows `128 o + 4 w …` of the block. -/
abbrev G7 (X1 : BufTy.Contents (Elt Ideal) arg1.view.ty) (y : S8320x128.Idx) : BitVec 32 :=
  wordOf fun b => at' (α := BitVec 8) (arg1.view.read (Elt Ideal) X1) ![128 * ((y 0).val % 260) + 4 * ((y 0).val / 260) + b, (y 1).val]

theorem pc7_eq (X1 : BufTy.Contents (Elt Ideal) arg1.view.ty) (k : Fin k0_t1_loop.trips) (r : Fin 4) (x : S8x128.Idx) :
    (pc7 arg1 X1 k r).2 x = G7 arg1 X1 ((rc7 k r).emb x) := by
  obtain ⟨a, l, rfl⟩ := ix2_eta x
  have hk : k.val < 256 := Nat.lt_of_lt_of_le k.isLt k0_t1_abs.2.1
  have e0 : ((rc7 k r).emb (ix2 a l) 0).val = k.val + 2080 * r.val + 260 * a.val := Rect.emb_apply _ _ _
  have e1 : ((rc7 k r).emb (ix2 a l) 1).val = l.val := (Rect.emb_apply _ _ _).trans (by show 0 + 1 * l.val = l.val; omega)
  refine pay6_apply _ a l _ fun b hb => ?_
  refine readAt_unit (Val := Elt Ideal) arg1.view X1 _ _ _ _ (k0_off1_eq k r) _ _ ?_
  intro q
  fin_cases q
  · show 128 * (_ % 260) + 4 * (_ / 260) + b = 128 * k.val + 32 * r.val + (4 * a.val + b)
    rw [e0]; omega
  · show ((rc7 k r).emb (ix2 a l) 1).val = 0 + l.val
    rw [e1]; omega

theorem read7 (X1 : BufTy.Contents (Elt Ideal) arg1.view.ty) (X2 : BufTy.Contents (Elt Ideal) arg2.view.ty) (f : BufTy.Contents (Elt Ideal) arg7.view.ty) (y : S8320x128.Idx) (hy : (y 0).val % 260 < 256) :
    arg7.view.read (Elt Ideal) (arg7.view.writes (Elt Ideal) f (pb_t1_arg7 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 k0_t1_loop.trips)) y = G7 arg1 X1 y := by
  have hy0 : (y 0).val < 8320 := (y 0).isLt
  obtain ⟨kk, hkk⟩ : ∃ kk : Fin k0_t1_loop.trips, kk.val = (y 0).val % 260 := ⟨⟨(y 0).val % 260, lt_of_lt_of_eq hy (by decide)⟩, rfl⟩
  refine read_loop (Val := Elt Ideal) arg7.view f k0_t1_loop.trips (fun k => (trip_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 k).1) _ rfl (fun k => pb_t1_arg7_succ 𝒱 c bd i arg1 harg1 arg2 harg2 arg3 harg3 arg4 harg4 arg5 harg5 arg6 harg6 arg7 harg7 arg8 harg8 arg9 harg9 arg10 harg10 arg11 harg11 arg12 harg12 arg13 harg13 X1 X2 k) (G7 arg1 X1) ?_ y kk ?_
  · intro k p hp x
    rw [trip_t1_arg7] at hp
    simp only [List.mem_cons, List.not_mem_nil, or_false] at hp
    rcases hp with rfl | rfl | rfl | rfl
    · exact pc7_eq arg1 X1 k 3 x
    · exact pc7_eq arg1 X1 k 2 x
    · exact pc7_eq arg1 X1 k 1 x
    · exact pc7_eq arg1 X1 k 0 x
  · have hr : (y 0).val / 260 / 8 < 4 := by omega
    refine ⟨pc7 arg1 X1 kk ⟨(y 0).val / 260 / 8, hr⟩, ?_, ix2 (⟨(y 0).val / 260 % 8, by omega⟩ : Fin 8) (⟨(y 1).val, (y 1).isLt⟩ : Fin 128), ?_⟩
    · show _ ∈ (trip_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 _).1
      rw [trip_t1_arg7]
      generalize (⟨(y 0).val / 260 / 8, hr⟩ : Fin 4) = r
      fin_cases r <;> simp
    · funext q
      apply Fin.ext
      refine (Rect.emb_apply _ _ _).trans ?_
      fin_cases q
      · show kk.val + 2080 * ((y 0).val / 260 / 8) + 260 * ((y 0).val / 260 % 8) = (y 0).val
        omega
      · show 0 + 1 * (y 1).val = (y 1).val
        omega

/-- The rows one piece of a trip's writes goes to. -/
abbrev rc8 (k : Fin k0_t1_loop.trips) (r : Fin 2) : Rect S4160x128 :=
  ⟨⟨![k.val + 2080 * r.val, 0], S8x128.size, ![260, 1], by rw [← k0_off4_eq k r]; exact k0_off4_inb k r⟩, spos_260_1⟩

abbrev pc8 (X2 : BufTy.Contents (Elt Ideal) arg2.view.ty) (k : Fin k0_t1_loop.trips) (r : Fin 2) : View.Piece (Elt Ideal) S4160x128 .i32 :=
  ⟨rc8 k r, k0_pay6 (F := Ideal) (View.readAt (Elt Ideal) arg2.view (Rect.unit (s := S16384x128) (k0_off3 k (BitVec.ofNat 32 (32 * r.val))) S32x128.size (k0_off3_inb k r)).toLoadRect X2)⟩

theorem trip_t1_arg8 (X1 : BufTy.Contents (Elt Ideal) arg1.view.ty) (X2 : BufTy.Contents (Elt Ideal) arg2.view.ty) (k : Fin k0_t1_loop.trips) :
    (trip_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 k).2.1 = [pc8 arg2 X2 k 1, pc8 arg2 X2 k 0] := by
  delta trip_t1
  rfl

/-- What one of these scratch arrays holds: row `260 w + o`, the word of the four bytes at rows `64 o + 4 w …` of the block. -/
abbrev G8 (X2 : BufTy.Contents (Elt Ideal) arg2.view.ty) (y : S4160x128.Idx) : BitVec 32 :=
  wordOf fun b => at' (α := BitVec 8) (arg2.view.read (Elt Ideal) X2) ![64 * ((y 0).val % 260) + 4 * ((y 0).val / 260) + b, (y 1).val]

theorem pc8_eq (X2 : BufTy.Contents (Elt Ideal) arg2.view.ty) (k : Fin k0_t1_loop.trips) (r : Fin 2) (x : S8x128.Idx) :
    (pc8 arg2 X2 k r).2 x = G8 arg2 X2 ((rc8 k r).emb x) := by
  obtain ⟨a, l, rfl⟩ := ix2_eta x
  have hk : k.val < 256 := Nat.lt_of_lt_of_le k.isLt k0_t1_abs.2.1
  have e0 : ((rc8 k r).emb (ix2 a l) 0).val = k.val + 2080 * r.val + 260 * a.val := Rect.emb_apply _ _ _
  have e1 : ((rc8 k r).emb (ix2 a l) 1).val = l.val := (Rect.emb_apply _ _ _).trans (by show 0 + 1 * l.val = l.val; omega)
  refine pay6_apply _ a l _ fun b hb => ?_
  refine readAt_unit (Val := Elt Ideal) arg2.view X2 _ _ _ _ (k0_off3_eq k r) _ _ ?_
  intro q
  fin_cases q
  · show 64 * (_ % 260) + 4 * (_ / 260) + b = 64 * k.val + 32 * r.val + (4 * a.val + b)
    rw [e0]; omega
  · show ((rc8 k r).emb (ix2 a l) 1).val = 0 + l.val
    rw [e1]; omega

theorem read8 (X1 : BufTy.Contents (Elt Ideal) arg1.view.ty) (X2 : BufTy.Contents (Elt Ideal) arg2.view.ty) (f : BufTy.Contents (Elt Ideal) arg8.view.ty) (y : S4160x128.Idx) (hy : (y 0).val % 260 < 256) :
    arg8.view.read (Elt Ideal) (arg8.view.writes (Elt Ideal) f (pb_t1_arg8 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 k0_t1_loop.trips)) y = G8 arg2 X2 y := by
  have hy0 : (y 0).val < 4160 := (y 0).isLt
  obtain ⟨kk, hkk⟩ : ∃ kk : Fin k0_t1_loop.trips, kk.val = (y 0).val % 260 := ⟨⟨(y 0).val % 260, lt_of_lt_of_eq hy (by decide)⟩, rfl⟩
  refine read_loop (Val := Elt Ideal) arg8.view f k0_t1_loop.trips (fun k => (trip_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 k).2.1) _ rfl (fun k => pb_t1_arg8_succ 𝒱 c bd i arg1 harg1 arg2 harg2 arg3 harg3 arg4 harg4 arg5 harg5 arg6 harg6 arg7 harg7 arg8 harg8 arg9 harg9 arg10 harg10 arg11 harg11 arg12 harg12 arg13 harg13 X1 X2 k) (G8 arg2 X2) ?_ y kk ?_
  · intro k p hp x
    rw [trip_t1_arg8] at hp
    simp only [List.mem_cons, List.not_mem_nil, or_false] at hp
    rcases hp with rfl | rfl
    · exact pc8_eq arg2 X2 k 1 x
    · exact pc8_eq arg2 X2 k 0 x
  · have hr : (y 0).val / 260 / 8 < 2 := by omega
    refine ⟨pc8 arg2 X2 kk ⟨(y 0).val / 260 / 8, hr⟩, ?_, ix2 (⟨(y 0).val / 260 % 8, by omega⟩ : Fin 8) (⟨(y 1).val, (y 1).isLt⟩ : Fin 128), ?_⟩
    · show _ ∈ (trip_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 X2 _).2.1
      rw [trip_t1_arg8]
      generalize (⟨(y 0).val / 260 / 8, hr⟩ : Fin 2) = r
      fin_cases r <;> simp
    · funext q
      apply Fin.ext
      refine (Rect.emb_apply _ _ _).trans ?_
      fin_cases q
      · show kk.val + 2080 * ((y 0).val / 260 / 8) + 260 * ((y 0).val / 260 % 8) = (y 0).val
        omega
      · show 0 + 1 * (y 1).val = (y 1).val
        omega

abbrev rc9 (k : Fin k0_t2_loop.trips) : Fin 2 → Rect S1040x128
  | 0 => ⟨⟨![2 * k.val, 0], S4x128.size, ![260, 1], by rw [← k0_off6_eq k]; exact k0_off6_inb k⟩, spos_260_1⟩
  | 1 => ⟨⟨![2 * k.val + 1, 0], S4x128.size, ![260, 1], by rw [← k0_off7_eq k]; exact k0_off7_inb k⟩, spos_260_1⟩

abbrev ld9 (X3 : BufTy.Contents (Elt Ideal) arg3.view.ty) (k : Fin k0_t2_loop.trips) : Vec Ideal S32x128 .i8 :=
  View.readAt (Elt Ideal) arg3.view (Rect.unit (s := S4096x128) (k0_off5 k) S32x128.size (k0_off5_inb k)).toLoadRect X3

abbrev pc9 (X3 : BufTy.Contents (Elt Ideal) arg3.view.ty) (k : Fin k0_t2_loop.trips) : Fin 2 → View.Piece (Elt Ideal) S1040x128 .i32
  | 0 => ⟨rc9 k 0, k0_pay89 (F := Ideal) (ld9 arg3 X3 k)⟩
  | 1 => ⟨rc9 k 1, k0_pay90 (F := Ideal) (ld9 arg3 X3 k)⟩

theorem trip_t2_arg9 (X3 : BufTy.Contents (Elt Ideal) arg3.view.ty) (k : Fin k0_t2_loop.trips) :
    (trip_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X3 k).1 = [pc9 arg3 X3 k 1, pc9 arg3 X3 k 0] := by
  delta trip_t2
  rfl

/-- What the scale words' scratch array holds: row `260 w + o`, the word of the four bytes at rows `16 o + 4 w …` of the block. -/
abbrev G9 (X3 : BufTy.Contents (Elt Ideal) arg3.view.ty) (y : S1040x128.Idx) : BitVec 32 :=
  wordOf fun b => at' (α := BitVec 8) (arg3.view.read (Elt Ideal) X3) ![16 * ((y 0).val % 260) + 4 * ((y 0).val / 260) + b, (y 1).val]

theorem rc9_emb (k : Fin k0_t2_loop.trips) (r : Fin 2) (a : Fin 4) (l : Fin 128) :
    ∀ (y : S1040x128.Idx), (∀ q, (y q).val = ![2 * k.val + r.val + 260 * a.val, l.val] q) →
      ∃ x, (rc9 k r).emb x = y := by
  intro y hy
  match r with
  | 0 =>
    refine ⟨ix2 a l, funext fun q => Fin.ext ((Rect.emb_apply _ _ _).trans ?_)⟩
    rw [hy q]
    fin_cases q
    · show 2 * k.val + 260 * a.val = _; rfl
    · show 0 + 1 * l.val = l.val; omega
  | 1 =>
    refine ⟨ix2 a l, funext fun q => Fin.ext ((Rect.emb_apply _ _ _).trans ?_)⟩
    rw [hy q]
    fin_cases q
    · show 2 * k.val + 1 + 260 * a.val = _; rfl
    · show 0 + 1 * l.val = l.val; omega

theorem pc9_eq0 (X3 : BufTy.Contents (Elt Ideal) arg3.view.ty) (k : Fin k0_t2_loop.trips) (x : S4x128.Idx) :
    k0_pay89 (F := Ideal) (ld9 arg3 X3 k) x = G9 arg3 X3 ((rc9 k 0).emb x) := by
  obtain ⟨a, l, rfl⟩ := ix2_eta x
  have hk : k.val < 128 := Nat.lt_of_lt_of_le k.isLt k0_t2_abs.2.1
  have e0 : ((rc9 k 0).emb (ix2 a l) 0).val = 2 * k.val + 260 * a.val := (Rect.emb_apply _ _ _)
  have e1 : ((rc9 k 0).emb (ix2 a l) 1).val = l.val := (Rect.emb_apply _ _ _).trans (by show 0 + 1 * l.val = l.val; omega)
  refine pay89_apply _ a l _ fun b hb => ?_
  refine readAt_unit (Val := Elt Ideal) arg3.view X3 _ _ _ _ (k0_off5_eq k) _ _ ?_
  intro q
  fin_cases q
  · show 16 * (((rc9 k 0).emb (ix2 a l) 0).val % 260) + 4 * (((rc9 k 0).emb (ix2 a l) 0).val / 260) + b = 32 * k.val + (4 * a.val + b)
    rw [e0]; omega
  · show ((rc9 k 0).emb (ix2 a l) 1).val = 0 + l.val
    rw [e1]; omega

theorem pc9_eq1 (X3 : BufTy.Contents (Elt Ideal) arg3.view.ty) (k : Fin k0_t2_loop.trips) (x : S4x128.Idx) :
    k0_pay90 (F := Ideal) (ld9 arg3 X3 k) x = G9 arg3 X3 ((rc9 k 1).emb x) := by
  obtain ⟨a, l, rfl⟩ := ix2_eta x
  have hk : k.val < 128 := Nat.lt_of_lt_of_le k.isLt k0_t2_abs.2.1
  have e0 : ((rc9 k 1).emb (ix2 a l) 0).val = 2 * k.val + 1 + 260 * a.val := (Rect.emb_apply _ _ _)
  have e1 : ((rc9 k 1).emb (ix2 a l) 1).val = l.val := (Rect.emb_apply _ _ _).trans (by show 0 + 1 * l.val = l.val; omega)
  refine pay90_apply _ a l _ fun b hb => ?_
  refine readAt_unit (Val := Elt Ideal) arg3.view X3 _ _ _ _ (k0_off5_eq k) _ _ ?_
  intro q
  fin_cases q
  · show 16 * (((rc9 k 1).emb (ix2 a l) 0).val % 260) + 4 * (((rc9 k 1).emb (ix2 a l) 0).val / 260) + b = 32 * k.val + (4 * (4 + a.val) + b)
    rw [e0]; omega
  · show ((rc9 k 1).emb (ix2 a l) 1).val = 0 + l.val
    rw [e1]; omega

theorem read9 (X3 : BufTy.Contents (Elt Ideal) arg3.view.ty) (f : BufTy.Contents (Elt Ideal) arg9.view.ty) (y : S1040x128.Idx) (hy : (y 0).val % 260 < 256) :
    arg9.view.read (Elt Ideal) (arg9.view.writes (Elt Ideal) f (pb_t2_arg9 (F := Ideal) 𝒱 c bd i arg1 harg1 arg2 harg2 arg3 harg3 arg4 harg4 arg5 harg5 arg6 harg6 arg7 harg7 arg8 harg8 arg9 harg9 arg10 harg10 arg11 harg11 arg12 harg12 arg13 harg13 X3 k0_t2_loop.trips)) y = G9 arg3 X3 y := by
  have hy0 : (y 0).val < 1040 := (y 0).isLt
  refine read_loop (Val := Elt Ideal) arg9.view f k0_t2_loop.trips (fun k => (trip_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X3 k).1) _ rfl (fun k => pb_t2_arg9_succ 𝒱 c bd i arg1 harg1 arg2 harg2 arg3 harg3 arg4 harg4 arg5 harg5 arg6 harg6 arg7 harg7 arg8 harg8 arg9 harg9 arg10 harg10 arg11 harg11 arg12 harg12 arg13 harg13 X3 k) (G9 arg3 X3) ?_ y
    ⟨(y 0).val % 260 / 2, lt_of_lt_of_eq (show (y 0).val % 260 / 2 < 128 by omega) (by decide)⟩ ?_
  · intro k p hp x
    rw [trip_t2_arg9] at hp
    simp only [List.mem_cons, List.not_mem_nil, or_false] at hp
    rcases hp with rfl | rfl
    · exact pc9_eq1 arg3 X3 k x
    · exact pc9_eq0 arg3 X3 k x
  · have hr : (y 0).val % 260 % 2 < 2 := by omega
    obtain ⟨x, hx⟩ := rc9_emb ⟨(y 0).val % 260 / 2, lt_of_lt_of_eq (show (y 0).val % 260 / 2 < 128 by omega) (by decide)⟩ ⟨(y 0).val % 260 % 2, hr⟩
      ⟨(y 0).val / 260, by omega⟩ ⟨(y 1).val, (y 1).isLt⟩ y (by
        intro q
        fin_cases q
        · show (y 0).val = 2 * ((y 0).val % 260 / 2) + (y 0).val % 260 % 2 + 260 * ((y 0).val / 260)
          omega
        · rfl)
    have hm (k : Fin k0_t2_loop.trips) (r : Fin 2) (hx : ∃ x, (rc9 k r).emb x = y) : ∃ p ∈ (trip_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X3 k).1, ∃ x, p.1.emb x = y := by
      rw [trip_t2_arg9]
      match r, hx with
      | 0, ⟨x, hx⟩ => exact ⟨pc9 arg3 X3 k 0, by simp, x, hx⟩
      | 1, ⟨x, hx⟩ => exact ⟨pc9 arg3 X3 k 1, by simp, x, hx⟩
    exact hm _ _ ⟨x, hx⟩

end

end Cert.KernelIdeal.Hand

end
-- ==== Proof.IStageB.lean ====
/-
  Hand-written, untrusted. The transposed word arrays: what the loops over the word rows leave.
-/
module

public import proofs.«01_k».proof.Proof.Gen.KernelIdeal.Loops
public import proofs.«01_k».proof.Proof.IUnit

@[expose] public section

set_option maxRecDepth 16384

noncomputable section

namespace Cert.KernelIdeal.Hand

open Cert.KernelIdeal Cert.KernelIdeal.Gen Cert.Q6K
open Idealize.ShloMosaic

theorem ix4_eta (x : S1x1x128x128.Idx) : ∃ (a l : Fin 128), x = ix4 0 0 a l :=
  ⟨x 2, x 3, funext fun q => match q with
    | ⟨0, _⟩ => Subsingleton.elim (α := Fin 1) _ _ | ⟨1, _⟩ => Subsingleton.elim (α := Fin 1) _ _ | ⟨2, _⟩ => rfl | ⟨3, _⟩ => rfl⟩

theorem pay91_apply (v : Vec Ideal S128x128 .i32) (a l : Fin 128) : k0_pay91 (F := Ideal) v (ix4 0 0 a l) = v (ix2 l a) := by
  pointwise [k0_pay91]

theorem pay93_apply (v : Vec Ideal S128x128 .i32) (a l : Fin 128) : k0_pay93 (F := Ideal) v (ix4 0 0 a l) = v (ix2 l a) ^^^ 0xAAAAAAAA#32 := by
  pointwise [k0_pay93]
  rfl

section
variable (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole)

abbrev rc10 (k : Fin k0_t3_loop.trips) : Fin 2 → Rect S32x2x128x128
  | 0 => Rect.unit (k0_off9 k) S1x1x128x128.size (k0_off9_inb k)
  | 1 => Rect.unit (k0_off10 k) S1x1x128x128.size (k0_off10_inb k)

abbrev ld10 (X7 : BufTy.Contents (Elt Ideal) arg7.view.ty) (k : Fin k0_t3_loop.trips) (r : Fin 2) : Vec Ideal S128x128 .i32 :=
  View.readAt (Elt Ideal) arg7.view (Rect.unit (s := S8320x128) (k0_off8 k (BitVec.ofNat 32 (128 * r.val))) S128x128.size (k0_off8_inb k r)).toLoadRect X7

abbrev pc10 (X7 : BufTy.Contents (Elt Ideal) arg7.view.ty) (k : Fin k0_t3_loop.trips) : Fin 2 → View.Piece (Elt Ideal) S32x2x128x128 .i32
  | 0 => ⟨rc10 k 0, k0_pay91 (F := Ideal) (ld10 arg7 X7 k 0)⟩
  | 1 => ⟨rc10 k 1, k0_pay91 (F := Ideal) (ld10 arg7 X7 k 1)⟩

theorem trip_t3_list (X7 : BufTy.Contents (Elt Ideal) arg7.view.ty) (k : Fin k0_t3_loop.trips) :
    tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 X7 k = [pc10 arg7 X7 k 1, pc10 arg7 X7 k 0] := by
  delta tripL_k0_t3 trip_k0_t3
  rfl

/-- What this transposed array holds: at word row `w`, lane half `h`, superblock `n`, output `o`, the word at row `260 w + 128 h + o`, lane `n`. -/
abbrev G10 (X7 : BufTy.Contents (Elt Ideal) arg7.view.ty) (y : S32x2x128x128.Idx) : BitVec 32 :=
  at' (α := BitVec 32) (arg7.view.read (Elt Ideal) X7) ![260 * (y 0).val + 128 * (y 1).val + (y 3).val, (y 2).val]

theorem rc10_emb (k : Fin k0_t3_loop.trips) (r : Fin 2) (a l : Fin 128) (y : S32x2x128x128.Idx) (hy : ∀ q, (y q).val = ![k.val, r.val, a.val, l.val] q) :
    ∃ x, (rc10 k r).emb x = y := by
  match r with
  | 0 =>
    refine ⟨ix4 0 0 a l, funext fun q => Fin.ext ((Rect.emb_apply _ _ _).trans ?_)⟩
    rw [hy q]; show k0_off9 k q + _ = _; rw [k0_off9_eq]
    fin_cases q <;> simp
  | 1 =>
    refine ⟨ix4 0 0 a l, funext fun q => Fin.ext ((Rect.emb_apply _ _ _).trans ?_)⟩
    rw [hy q]; show k0_off10 k q + _ = _; rw [k0_off10_eq]
    fin_cases q <;> simp

theorem rc10_val (k : Fin k0_t3_loop.trips) (r : Fin 2) (a l : Fin 128) :
    (match r with | 0 => ∀ q, (((rc10 k 0).emb (ix4 0 0 a l)) q).val = ![k.val, 0, a.val, l.val] q
                  | 1 => ∀ q, (((rc10 k 1).emb (ix4 0 0 a l)) q).val = ![k.val, 1, a.val, l.val] q : Prop) := by
  match r with
  | 0 =>
    intro q
    refine (Rect.emb_apply _ _ _).trans ?_
    show k0_off9 k q + _ = _; rw [k0_off9_eq]
    fin_cases q <;> simp
  | 1 =>
    intro q
    refine (Rect.emb_apply _ _ _).trans ?_
    show k0_off10 k q + _ = _; rw [k0_off10_eq]
    fin_cases q <;> simp

theorem ld10_apply (X7 : BufTy.Contents (Elt Ideal) arg7.view.ty) (k : Fin k0_t3_loop.trips) (r : Fin 2) (a l : Fin 128) (y : S32x2x128x128.Idx)
    (hy : ∀ q, (y q).val = ![k.val, r.val, a.val, l.val] q) : k0_pay91 (F := Ideal) (ld10 arg7 X7 k r) (ix4 0 0 a l) = G10 arg7 X7 y := by
  refine (pay91_apply _ a l).trans ?_
  refine congrArg id (readAt_unit (Val := Elt Ideal) arg7.view X7 _ _ _ _ (k0_off8_eq k r) _ _ ?_)
  have h0 : (y 0).val = k.val := hy 0
  have h1 : (y 1).val = r.val := hy 1
  have h2 : (y 2).val = a.val := hy 2
  have h3 : (y 3).val = l.val := hy 3
  intro q
  fin_cases q
  · show 260 * (y 0).val + 128 * (y 1).val + (y 3).val = 260 * k.val + 128 * r.val + l.val
    rw [h0, h1, h3]
  · show (y 2).val = 0 + a.val
    rw [h2]; omega

theorem read10 (X7 : BufTy.Contents (Elt Ideal) arg7.view.ty) (f : BufTy.Contents (Elt Ideal) arg10.view.ty) (y : S32x2x128x128.Idx) :
    arg10.view.read (Elt Ideal) (arg10.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 X7 k0_t3_loop.trips)) y = G10 arg7 X7 y := by
  obtain ⟨kk, hkk⟩ : ∃ kk : Fin k0_t3_loop.trips, kk.val = (y 0).val := ⟨⟨(y 0).val, lt_of_lt_of_eq (show (y 0).val < 32 from (y 0).isLt) (by decide)⟩, rfl⟩
  refine read_loop (Val := Elt Ideal) arg10.view f k0_t3_loop.trips (fun k => tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 X7 k) _ rfl (fun k => pb_k0_t3_succ 𝒱 c bd i arg1 harg1 arg2 harg2 arg3 harg3 arg4 harg4 arg5 harg5 arg6 harg6 arg7 harg7 arg8 harg8 arg9 harg9 arg10 harg10 arg11 harg11 arg12 harg12 arg13 harg13 X7 k) (G10 arg7 X7) ?_ y kk ?_
  · intro k p hp x
    rw [trip_t3_list] at hp
    simp only [List.mem_cons, List.not_mem_nil, or_false] at hp
    rcases hp with rfl | rfl
    · obtain ⟨a, l, rfl⟩ := ix4_eta x
      exact ld10_apply arg7 X7 k 1 a l _ (rc10_val k 1 a l)
    · obtain ⟨a, l, rfl⟩ := ix4_eta x
      exact ld10_apply arg7 X7 k 0 a l _ (rc10_val k 0 a l)
  · have hm (r : Fin 2) (hx : ∃ x, (rc10 kk r).emb x = y) : ∃ p ∈ tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 X7 kk, ∃ x, p.1.emb x = y := by
      rw [trip_t3_list]
      match r, hx with
      | 0, ⟨x, hx⟩ => exact ⟨pc10 arg7 X7 kk 0, by simp, x, hx⟩
      | 1, ⟨x, hx⟩ => exact ⟨pc10 arg7 X7 kk 1, by simp, x, hx⟩
    refine hm _ (rc10_emb kk ⟨(y 1).val, (y 1).isLt⟩ ⟨(y 2).val, (y 2).isLt⟩ ⟨(y 3).val, (y 3).isLt⟩ y ?_)
    intro q
    fin_cases q
    · exact hkk.symm
    · rfl
    · rfl
    · rfl

abbrev rc11 (k : Fin k0_t4_loop.trips) : Fin 2 → Rect S16x2x128x128
  | 0 => Rect.unit (k0_off12 k) S1x1x128x128.size (k0_off12_inb k)
  | 1 => Rect.unit (k0_off13 k) S1x1x128x128.size (k0_off13_inb k)

abbrev ld11 (X8 : BufTy.Contents (Elt Ideal) arg8.view.ty) (k : Fin k0_t4_loop.trips) (r : Fin 2) : Vec Ideal S128x128 .i32 :=
  View.readAt (Elt Ideal) arg8.view (Rect.unit (s := S4160x128) (k0_off11 k (BitVec.ofNat 32 (128 * r.val))) S128x128.size (k0_off11_inb k r)).toLoadRect X8

abbrev pc11 (X8 : BufTy.Contents (Elt Ideal) arg8.view.ty) (k : Fin k0_t4_loop.trips) : Fin 2 → View.Piece (Elt Ideal) S16x2x128x128 .i32
  | 0 => ⟨rc11 k 0, k0_pay93 (F := Ideal) (ld11 arg8 X8 k 0)⟩
  | 1 => ⟨rc11 k 1, k0_pay93 (F := Ideal) (ld11 arg8 X8 k 1)⟩

theorem trip_t4_list (X8 : BufTy.Contents (Elt Ideal) arg8.view.ty) (k : Fin k0_t4_loop.trips) :
    tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X8 k = [pc11 arg8 X8 k 1, pc11 arg8 X8 k 0] := by
  delta tripL_k0_t4 trip_k0_t4
  rfl

/-- What this transposed array holds: at word row `w`, lane half `h`, superblock `n`, output `o`, the word at row `260 w + 128 h + o`, lane `n`. -/
abbrev G11 (X8 : BufTy.Contents (Elt Ideal) arg8.view.ty) (y : S16x2x128x128.Idx) : BitVec 32 :=
  at' (α := BitVec 32) (arg8.view.read (Elt Ideal) X8) ![260 * (y 0).val + 128 * (y 1).val + (y 3).val, (y 2).val] ^^^ 0xAAAAAAAA#32

theorem rc11_emb (k : Fin k0_t4_loop.trips) (r : Fin 2) (a l : Fin 128) (y : S16x2x128x128.Idx) (hy : ∀ q, (y q).val = ![k.val, r.val, a.val, l.val] q) :
    ∃ x, (rc11 k r).emb x = y := by
  match r with
  | 0 =>
    refine ⟨ix4 0 0 a l, funext fun q => Fin.ext ((Rect.emb_apply _ _ _).trans ?_)⟩
    rw [hy q]; show k0_off12 k q + _ = _; rw [k0_off12_eq]
    fin_cases q <;> simp
  | 1 =>
    refine ⟨ix4 0 0 a l, funext fun q => Fin.ext ((Rect.emb_apply _ _ _).trans ?_)⟩
    rw [hy q]; show k0_off13 k q + _ = _; rw [k0_off13_eq]
    fin_cases q <;> simp

theorem rc11_val (k : Fin k0_t4_loop.trips) (r : Fin 2) (a l : Fin 128) :
    (match r with | 0 => ∀ q, (((rc11 k 0).emb (ix4 0 0 a l)) q).val = ![k.val, 0, a.val, l.val] q
                  | 1 => ∀ q, (((rc11 k 1).emb (ix4 0 0 a l)) q).val = ![k.val, 1, a.val, l.val] q : Prop) := by
  match r with
  | 0 =>
    intro q
    refine (Rect.emb_apply _ _ _).trans ?_
    show k0_off12 k q + _ = _; rw [k0_off12_eq]
    fin_cases q <;> simp
  | 1 =>
    intro q
    refine (Rect.emb_apply _ _ _).trans ?_
    show k0_off13 k q + _ = _; rw [k0_off13_eq]
    fin_cases q <;> simp

theorem ld11_apply (X8 : BufTy.Contents (Elt Ideal) arg8.view.ty) (k : Fin k0_t4_loop.trips) (r : Fin 2) (a l : Fin 128) (y : S16x2x128x128.Idx)
    (hy : ∀ q, (y q).val = ![k.val, r.val, a.val, l.val] q) : k0_pay93 (F := Ideal) (ld11 arg8 X8 k r) (ix4 0 0 a l) = G11 arg8 X8 y := by
  refine (pay93_apply _ a l).trans ?_
  refine congrArg (· ^^^ 0xAAAAAAAA#32) (readAt_unit (Val := Elt Ideal) arg8.view X8 _ _ _ _ (k0_off11_eq k r) _ _ ?_)
  have h0 : (y 0).val = k.val := hy 0
  have h1 : (y 1).val = r.val := hy 1
  have h2 : (y 2).val = a.val := hy 2
  have h3 : (y 3).val = l.val := hy 3
  intro q
  fin_cases q
  · show 260 * (y 0).val + 128 * (y 1).val + (y 3).val = 260 * k.val + 128 * r.val + l.val
    rw [h0, h1, h3]
  · show (y 2).val = 0 + a.val
    rw [h2]; omega

theorem read11 (X8 : BufTy.Contents (Elt Ideal) arg8.view.ty) (f : BufTy.Contents (Elt Ideal) arg11.view.ty) (y : S16x2x128x128.Idx) :
    arg11.view.read (Elt Ideal) (arg11.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X8 k0_t4_loop.trips)) y = G11 arg8 X8 y := by
  obtain ⟨kk, hkk⟩ : ∃ kk : Fin k0_t4_loop.trips, kk.val = (y 0).val := ⟨⟨(y 0).val, lt_of_lt_of_eq (show (y 0).val < 16 from (y 0).isLt) (by decide)⟩, rfl⟩
  refine read_loop (Val := Elt Ideal) arg11.view f k0_t4_loop.trips (fun k => tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X8 k) _ rfl (fun k => pb_k0_t4_succ 𝒱 c bd i arg1 harg1 arg2 harg2 arg3 harg3 arg4 harg4 arg5 harg5 arg6 harg6 arg7 harg7 arg8 harg8 arg9 harg9 arg10 harg10 arg11 harg11 arg12 harg12 arg13 harg13 X8 k) (G11 arg8 X8) ?_ y kk ?_
  · intro k p hp x
    rw [trip_t4_list] at hp
    simp only [List.mem_cons, List.not_mem_nil, or_false] at hp
    rcases hp with rfl | rfl
    · obtain ⟨a, l, rfl⟩ := ix4_eta x
      exact ld11_apply arg8 X8 k 1 a l _ (rc11_val k 1 a l)
    · obtain ⟨a, l, rfl⟩ := ix4_eta x
      exact ld11_apply arg8 X8 k 0 a l _ (rc11_val k 0 a l)
  · have hm (r : Fin 2) (hx : ∃ x, (rc11 kk r).emb x = y) : ∃ p ∈ tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 X8 kk, ∃ x, p.1.emb x = y := by
      rw [trip_t4_list]
      match r, hx with
      | 0, ⟨x, hx⟩ => exact ⟨pc11 arg8 X8 kk 0, by simp, x, hx⟩
      | 1, ⟨x, hx⟩ => exact ⟨pc11 arg8 X8 kk 1, by simp, x, hx⟩
    refine hm _ (rc11_emb kk ⟨(y 1).val, (y 1).isLt⟩ ⟨(y 2).val, (y 2).isLt⟩ ⟨(y 3).val, (y 3).isLt⟩ y ?_)
    intro q
    fin_cases q
    · exact hkk.symm
    · rfl
    · rfl
    · rfl

end

end Cert.KernelIdeal.Hand

end
-- ==== Proof.IStageC.lean ====
/-
  Hand-written, untrusted. The scales array: what the two loops over the scale words leave, read element by element.
-/
module

public import proofs.«01_k».proof.Proof.ILoops
public import proofs.«01_k».proof.Proof.IUnit

@[expose] public section

set_option maxRecDepth 16384

noncomputable section

namespace Cert.KernelIdeal.Hand

open Cert.KernelIdeal Cert.KernelIdeal.Gen Cert.Q6K
open Idealize.ShloMosaic

theorem ix3_eta (x : S128x2x128.Idx) : ∃ (a : Fin 128) (p : Fin 2) (l : Fin 128), x = ix3 a p l :=
  ⟨x 0, x 1, x 2, funext fun q => by fin_cases q <;> rfl⟩

/-- Every other row of a slice, from the first or from the second. -/
abbrev rcP : Fin 2 → Rect S256x2x128
  | 0 => ⟨⟨![0, 0, 0], S128x2x128.size, ![2, 1, 1], inb_S256x2x128_S128x2x128_0_0_0_s_2_1_1⟩, spos_2_1_1⟩
  | 1 => ⟨⟨![1, 0, 0], S128x2x128.size, ![2, 1, 1], inb_S256x2x128_S128x2x128_1_0_0_s_2_1_1⟩, spos_2_1_1⟩

abbrev rcS (off : Fin 5 → ℕ) (inb : ∀ a, off a + S1x1x256x2x128.size a ≤ S16x2x256x2x128.size a) : Rect S16x2x256x2x128 :=
  Rect.unit (s := S16x2x256x2x128) off S1x1x256x2x128.size inb

theorem numel_sq : S256x2x128.numel = S1x1x256x2x128.numel := by decide +kernel

theorem rcS_val (off : Fin 5 → ℕ) (inb : ∀ a, off a + S1x1x256x2x128.size a ≤ S16x2x256x2x128.size a) (s lh : ℕ) (h : off = ![s, lh, 0, 0, 0])
    (R : Fin 256) (p : Fin 2) (l : Fin 128) (q : Fin 5) :
    ((rcS off inb).emb (Shape.reshapeEquiv numel_sq (ix3 R p l)) q).val = ![s, lh, R.val, p.val, l.val] q := by
  have e : Shape.reshapeEquiv numel_sq (ix3 R p l) = (ix5 0 0 R p l : S1x1x256x2x128.Idx) := by
    apply Shape.reshapeEquiv_eq_of_rowMajor
    rw [Shape.rowMajor_val_three, Shape.rowMajor_val_five]
    show (((0 * 1 + 0) * 256 + R.val) * 2 + p.val) * 128 + l.val = (R.val * 2 + p.val) * 128 + l.val
    omega
  rw [e]
  refine (Rect.emb_apply _ _ _).trans ?_
  subst h
  fin_cases q <;> simp

theorem rcP_val (par : Fin 2) (a : Fin 128) (p : Fin 2) (l : Fin 128) :
    match par with | 0 => (rcP 0).emb (ix3 a p l) = ix3 ⟨2 * a.val, by omega⟩ p l | 1 => (rcP 1).emb (ix3 a p l) = ix3 ⟨2 * a.val + 1, by omega⟩ p l := by
  match par with
  | 0 =>
    funext q
    refine Fin.ext ((Rect.emb_apply _ _ _).trans ?_)
    fin_cases q <;> simp
  | 1 =>
    funext q
    refine Fin.ext ((Rect.emb_apply _ _ _).trans ?_)
    fin_cases q <;> simp
    omega

section
variable (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole)

/-- One strided write into the slice of one subblock and lane half. -/
abbrev w12 (off : Fin 5 → ℕ) (inb : ∀ a, off a + S1x1x256x2x128.size a ≤ S16x2x256x2x128.size a) (f : BufTy.Contents (Elt Ideal) arg12.view.ty) (w : Vec Ideal S128x2x128 .bf16) :
    Fin 2 → BufTy.Contents (Elt Ideal) arg12.view.ty
  | 0 => (((arg12.view.slice (rcS off inb)).reshape S256x2x128 numel_sq).slice (rcP 0)).write (Elt Ideal) f w Finset.univ
  | 1 => (((arg12.view.slice (rcS off inb)).reshape S256x2x128 numel_sq).slice (rcP 1)).write (Elt Ideal) f w Finset.univ

theorem read_w12 (off : Fin 5 → ℕ) (inb : ∀ a, off a + S1x1x256x2x128.size a ≤ S16x2x256x2x128.size a) (s lh : ℕ) (h : off = ![s, lh, 0, 0, 0])
    (f : BufTy.Contents (Elt Ideal) arg12.view.ty) (w : Vec Ideal S128x2x128 .bf16) (par : Fin 2) (y : S16x2x256x2x128.Idx) (g : EReal)
    (hg : (y 0).val = s → (y 1).val = lh → (w (ix3 ⟨(y 2).val / 2, by have : (y 2).val < 256 := (y 2).isLt; omega⟩ ⟨(y 3).val, (y 3).isLt⟩ ⟨(y 4).val, (y 4).isLt⟩) : EReal) = g) :
    (arg12.view.read (Elt Ideal) (w12 arg12 off inb f w par) y : EReal)
      = if (y 0).val = s ∧ (y 1).val = lh ∧ (y 2).val % 2 = par.val then g else arg12.view.read (Elt Ideal) f y := by
  have hy2 : (y 2).val < 256 := (y 2).isLt
  have key (A : Rect S256x2x128) (pv : ℕ) (hp : pv < 2) (w : A.shape.Idx → EReal) (mk : Fin 128 → Fin 2 → Fin 128 → A.shape.Idx)
      (eta : ∀ x : A.shape.Idx, ∃ a p l, x = mk a p l)
      (hA : ∀ a p l, A.emb (mk a p l) = ix3 (⟨2 * a.val + pv, by omega⟩ : Fin 256) p l)
      (hg : (y 0).val = s → (y 1).val = lh → w (mk ⟨(y 2).val / 2, by omega⟩ ⟨(y 3).val, (y 3).isLt⟩ ⟨(y 4).val, (y 4).isLt⟩) = g) :
      (arg12.view.read (Elt Ideal) ((((arg12.view.slice (rcS off inb)).reshape S256x2x128 numel_sq).slice A).write (Elt Ideal) f w Finset.univ) y : EReal)
        = if (y 0).val = s ∧ (y 1).val = lh ∧ (y 2).val % 2 = pv then g else arg12.view.read (Elt Ideal) f y := by
    refine read_write_squeezed (Val := Elt Ideal) arg12.view (rcS off inb) numel_sq A f w y _ ?_ ?_
    · intro x hx
      obtain ⟨a, p, l, rfl⟩ := eta x
      rw [hA] at hx
      have e := rcS_val off inb s lh h ⟨2 * a.val + pv, by omega⟩ p l
      rw [hx] at e
      have e0 : (y 0).val = s := e 0
      have e1 : (y 1).val = lh := e 1
      have e2 : (y 2).val = 2 * a.val + pv := e 2
      have e3 : (y 3).val = p.val := e 3
      have e4 : (y 4).val = l.val := e 4
      rw [if_pos ⟨e0, e1, by omega⟩, ← hg e0 e1]
      congr 2
      · exact Fin.ext (by show a.val = (y 2).val / 2; omega)
      · exact Fin.ext e3.symm
      · exact Fin.ext e4.symm
    · intro hx
      rw [if_neg]
      rintro ⟨e0, e1, e2⟩
      refine hx (mk ⟨(y 2).val / 2, by omega⟩ ⟨(y 3).val, (y 3).isLt⟩ ⟨(y 4).val, (y 4).isLt⟩) ?_
      rw [hA]
      funext q
      refine Fin.ext ((rcS_val off inb s lh h _ _ _ q).trans ?_)
      fin_cases q
      · exact e0.symm
      · exact e1.symm
      · show 2 * ((y 2).val / 2) + pv = (y 2).val
        omega
      · rfl
      · rfl
  match par with
  | 0 => exact key (rcP 0) 0 (by omega) w ix3 ix3_eta (fun a p l => (rcP_val 0 a p l).trans rfl) hg
  | 1 => exact key (rcP 1) 1 (by omega) w ix3 ix3_eta (fun a p l => (rcP_val 1 a p l).trans rfl) hg

abbrev ldW5 (X9 : BufTy.Contents (Elt Ideal) arg9.view.ty) (k : Fin k0_t5_loop.trips) : Vec Ideal S128x128 .i32 :=
  View.readAt (Elt Ideal) arg9.view (Rect.unit (s := S1040x128) (k0_off14 k) S128x128.size (k0_off14_inb k)).toLoadRect X9

theorem trip_t5_list (v5 : IVec S128x128 32) (v7 : IVec S128x128 32) (v11 : IVec S128x128 32) (v18 : FVec Ideal S128x128 .f32) (v25 : FVec Ideal S128x128 .f32) (v26 : IVec S128x128 32) (X9 : BufTy.Contents (Elt Ideal) arg9.view.ty) (k : Fin k0_t5_loop.trips) (f : BufTy.Contents (Elt Ideal) arg12.view.ty) :
    (trip_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X9 k).1 f
      = (w12 arg12 (k0_off15 k (BitVec.ofNat 32 3)) (k0_off15_inb k 3) (w12 arg12 (k0_off15 k (BitVec.ofNat 32 3)) (k0_off15_inb k 3) (w12 arg12 (k0_off15 k (BitVec.ofNat 32 2)) (k0_off15_inb k 2) (w12 arg12 (k0_off15 k (BitVec.ofNat 32 2)) (k0_off15_inb k 2) (w12 arg12 (k0_off15 k (BitVec.ofNat 32 1)) (k0_off15_inb k 1) (w12 arg12 (k0_off15 k (BitVec.ofNat 32 1)) (k0_off15_inb k 1) (w12 arg12 (k0_off15 k (BitVec.ofNat 32 0)) (k0_off15_inb k 0) (w12 arg12 (k0_off15 k (BitVec.ofNat 32 0)) (k0_off15_inb k 0) f (effV 0 (k0_pay101 v5 v7 v11 v18 v25 v26) (ldW5 arg9 X9 k)) 0) (effV 0 (k0_pay101 v5 v7 v11 v18 v25 v26) (ldW5 arg9 X9 k)) 1) (effV 1 (k0_pay101 v5 v7 v11 v18 v25 v26) (ldW5 arg9 X9 k)) 0) (effV 1 (k0_pay101 v5 v7 v11 v18 v25 v26) (ldW5 arg9 X9 k)) 1) (effV 2 (k0_pay101 v5 v7 v11 v18 v25 v26) (ldW5 arg9 X9 k)) 0) (effV 2 (k0_pay101 v5 v7 v11 v18 v25 v26) (ldW5 arg9 X9 k)) 1) (effV 3 (k0_pay101 v5 v7 v11 v18 v25 v26) (ldW5 arg9 X9 k)) 0) (effV 3 (k0_pay101 v5 v7 v11 v18 v25 v26) (ldW5 arg9 X9 k)) 1) := by
  delta trip_t5
  rfl

/-- What this loop writes at an element of the scales array. -/
abbrev V5 (dt : FVec Ideal S128x128 .f32) (X9 : BufTy.Contents (Elt Ideal) arg9.view.ty) (y : S16x2x256x2x128.Idx) : EReal :=
  dt (ix2 ⟨(y 2).val / 2, by have : (y 2).val < 256 := (y 2).isLt; omega⟩ ⟨(y 4).val, (y 4).isLt⟩)
    * (((byteOf (at' (α := BitVec 32) (arg9.view.read (Elt Ideal) X9) ![260 * ((y 0).val / 4) + 0 + (y 4).val, (y 2).val / 2]) ((y 0).val % 4)).toInt : ℝ) : EReal)

theorem effV5_eq (dt : FVec Ideal S128x128 .f32) (X9 : BufTy.Contents (Elt Ideal) arg9.view.ty) (k : Fin k0_t5_loop.trips) (b : ℕ) (hb : b < 4) (y : S16x2x256x2x128.Idx)
    (h : (y 0).val = 4 * k.val + b) :
    (effV b dt (ldW5 arg9 X9 k) (ix3 ⟨(y 2).val / 2, by have : (y 2).val < 256 := (y 2).isLt; omega⟩ ⟨(y 3).val, (y 3).isLt⟩ ⟨(y 4).val, (y 4).isLt⟩) : EReal) = V5 arg9 dt X9 y := by
  refine (effV_apply b hb dt _ _ _ _).trans ?_
  have e : ldW5 arg9 X9 k (ix2 ⟨(y 4).val, (y 4).isLt⟩ ⟨(y 2).val / 2, by have : (y 2).val < 256 := (y 2).isLt; omega⟩)
      = at' (α := BitVec 32) (arg9.view.read (Elt Ideal) X9) ![260 * ((y 0).val / 4) + 0 + (y 4).val, (y 2).val / 2] := by
    refine readAt_unit (Val := Elt Ideal) arg9.view X9 _ _ _ _ (k0_off14_eq k) _ _ ?_
    intro q
    fin_cases q
    · show 260 * ((y 0).val / 4) + 0 + (y 4).val = 260 * k.val + (y 4).val
      omega
    · show (y 2).val / 2 = 0 + (y 2).val / 2
      omega
  rw [e, show b = (y 0).val % 4 by omega]

theorem read_trip5 (v5 : IVec S128x128 32) (v7 : IVec S128x128 32) (v11 : IVec S128x128 32) (v18 : FVec Ideal S128x128 .f32) (v25 : FVec Ideal S128x128 .f32) (v26 : IVec S128x128 32) (X9 : BufTy.Contents (Elt Ideal) arg9.view.ty) (k : Fin k0_t5_loop.trips) (f : BufTy.Contents (Elt Ideal) arg12.view.ty) (y : S16x2x256x2x128.Idx) :
    (arg12.view.read (Elt Ideal) ((trip_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X9 k).1 f) y : EReal)
      = if (y 1).val = 0 ∧ (y 0).val / 4 = k.val then V5 arg9 (k0_pay101 v5 v7 v11 v18 v25 v26) X9 y else arg12.view.read (Elt Ideal) f y := by
  rw [trip_t5_list]
  have e (b : Fin 4) : k0_off15 k (BitVec.ofNat 32 b.val) = ![4 * k.val + b.val, 0, 0, 0, 0] := k0_off15_eq k b
  have g (b : Fin 4) (f : BufTy.Contents (Elt Ideal) arg12.view.ty) (p : Fin 2) :
      (arg12.view.read (Elt Ideal) (w12 arg12 (k0_off15 k (BitVec.ofNat 32 b.val)) (k0_off15_inb k b) f (effV b.val (k0_pay101 v5 v7 v11 v18 v25 v26) (ldW5 arg9 X9 k)) p) y : EReal)
        = if (y 0).val = 4 * k.val + b.val ∧ (y 1).val = 0 ∧ (y 2).val % 2 = p.val then V5 arg9 (k0_pay101 v5 v7 v11 v18 v25 v26) X9 y else arg12.view.read (Elt Ideal) f y :=
    read_w12 arg12 _ _ _ _ (e b) f _ p y _ (fun h0 _ => effV5_eq arg9 _ X9 k b.val b.isLt y h0)
  refine (g 3 _ 1).trans ?_
  rw [show ∀ f, (arg12.view.read (Elt Ideal) (w12 arg12 (k0_off15 k (BitVec.ofNat 32 3)) (k0_off15_inb k 3) f (effV 3 (k0_pay101 v5 v7 v11 v18 v25 v26) (ldW5 arg9 X9 k)) 0) y : EReal) = _ from fun f => g 3 f 0]
  rw [show ∀ f, (arg12.view.read (Elt Ideal) (w12 arg12 (k0_off15 k (BitVec.ofNat 32 2)) (k0_off15_inb k 2) f (effV 2 (k0_pay101 v5 v7 v11 v18 v25 v26) (ldW5 arg9 X9 k)) 1) y : EReal) = _ from fun f => g 2 f 1]
  rw [show ∀ f, (arg12.view.read (Elt Ideal) (w12 arg12 (k0_off15 k (BitVec.ofNat 32 2)) (k0_off15_inb k 2) f (effV 2 (k0_pay101 v5 v7 v11 v18 v25 v26) (ldW5 arg9 X9 k)) 0) y : EReal) = _ from fun f => g 2 f 0]
  rw [show ∀ f, (arg12.view.read (Elt Ideal) (w12 arg12 (k0_off15 k (BitVec.ofNat 32 1)) (k0_off15_inb k 1) f (effV 1 (k0_pay101 v5 v7 v11 v18 v25 v26) (ldW5 arg9 X9 k)) 1) y : EReal) = _ from fun f => g 1 f 1]
  rw [show ∀ f, (arg12.view.read (Elt Ideal) (w12 arg12 (k0_off15 k (BitVec.ofNat 32 1)) (k0_off15_inb k 1) f (effV 1 (k0_pay101 v5 v7 v11 v18 v25 v26) (ldW5 arg9 X9 k)) 0) y : EReal) = _ from fun f => g 1 f 0]
  rw [show ∀ f, (arg12.view.read (Elt Ideal) (w12 arg12 (k0_off15 k (BitVec.ofNat 32 0)) (k0_off15_inb k 0) f (effV 0 (k0_pay101 v5 v7 v11 v18 v25 v26) (ldW5 arg9 X9 k)) 1) y : EReal) = _ from fun f => g 0 f 1]
  rw [show ∀ f, (arg12.view.read (Elt Ideal) (w12 arg12 (k0_off15 k (BitVec.ofNat 32 0)) (k0_off15_inb k 0) f (effV 0 (k0_pay101 v5 v7 v11 v18 v25 v26) (ldW5 arg9 X9 k)) 0) y : EReal) = _ from fun f => g 0 f 0]
  clear g e
  generalize V5 arg9 (k0_pay101 v5 v7 v11 v18 v25 v26) X9 y = u
  generalize (arg12.view.read (Elt Ideal) f y : EReal) = v
  generalize (y 0).val = y0
  generalize (y 1).val = y1
  generalize (y 2).val = y2
  by_cases h : y1 = 0 ∧ y0 / 4 = k.val
  · rw [if_pos h]
    have hv : ∃ b p : ℕ, b < 4 ∧ p < 2 ∧ y0 = 4 * k.val + b ∧ y2 % 2 = p := ⟨y0 % 4, y2 % 2, by omega, by omega, by omega, rfl⟩
    obtain ⟨b, p, hb, hp, hb', hp'⟩ := hv
    rw [hb', hp', h.1]
    interval_cases b <;> interval_cases p <;> simp
  · rw [if_neg h]
    have hn (b : Fin 4) (p : Fin 2) : ¬ (y0 = 4 * k.val + b.val ∧ y1 = 0 ∧ y2 % 2 = p.val) := by
      rintro ⟨h0, h1, -⟩
      exact h ⟨h1, by omega⟩
    rw [if_neg (hn 3 1), if_neg (hn 3 0), if_neg (hn 2 1), if_neg (hn 2 0), if_neg (hn 1 1), if_neg (hn 1 0), if_neg (hn 0 1), if_neg (hn 0 0)]

theorem read_st5 (v5 : IVec S128x128 32) (v7 : IVec S128x128 32) (v11 : IVec S128x128 32) (v18 : FVec Ideal S128x128 .f32) (v25 : FVec Ideal S128x128 .f32) (v26 : IVec S128x128 32) (X9 : BufTy.Contents (Elt Ideal) arg9.view.ty) (G : BufTy.Contents (Elt Ideal) arg12.view.ty) (y : S16x2x256x2x128.Idx) (n : ℕ) (hn : n ≤ k0_t5_loop.trips) :
    (arg12.view.read (Elt Ideal) (st_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X9 G n) y : EReal)
      = if (y 1).val = 0 ∧ (y 0).val / 4 < n then V5 arg9 (k0_pay101 v5 v7 v11 v18 v25 v26) X9 y else arg12.view.read (Elt Ideal) G y := by
  induction n with
  | zero => rw [if_neg (by omega)]; rfl
  | succ n ih =>
    rw [st_t5_succ 𝒱 c bd i arg1 harg1 arg2 harg2 arg3 harg3 arg4 harg4 arg5 harg5 arg6 harg6 arg7 harg7 arg8 harg8 arg9 harg9 arg10 harg10 arg11 harg11 arg12 harg12 arg13 harg13 v5 v7 v11 v18 v25 v26 X9 G ⟨n, by omega⟩, read_trip5]
    rw [ih (by omega)]
    show (if _ ∧ _ = n then _ else _) = _
    split_ifs <;> first | rfl | omega

abbrev ldW6 (X9 : BufTy.Contents (Elt Ideal) arg9.view.ty) (k : Fin k0_t6_loop.trips) : Vec Ideal S128x128 .i32 :=
  View.readAt (Elt Ideal) arg9.view (Rect.unit (s := S1040x128) (k0_off16 k) S128x128.size (k0_off16_inb k)).toLoadRect X9

theorem trip_t6_list (v47 : IVec S128x128 32) (v49 : IVec S128x128 32) (v53 : IVec S128x128 32) (v60 : FVec Ideal S128x128 .f32) (v64 : IVec S128x128 32) (w : BitVec 32) (X9 : BufTy.Contents (Elt Ideal) arg9.view.ty) (k : Fin k0_t6_loop.trips) (f : BufTy.Contents (Elt Ideal) arg12.view.ty) :
    (trip_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 w X9 k).1 f
      = (w12 arg12 (k0_off17 k (BitVec.ofNat 32 3)) (k0_off17_inb k 3) (w12 arg12 (k0_off17 k (BitVec.ofNat 32 3)) (k0_off17_inb k 3) (w12 arg12 (k0_off17 k (BitVec.ofNat 32 2)) (k0_off17_inb k 2) (w12 arg12 (k0_off17 k (BitVec.ofNat 32 2)) (k0_off17_inb k 2) (w12 arg12 (k0_off17 k (BitVec.ofNat 32 1)) (k0_off17_inb k 1) (w12 arg12 (k0_off17 k (BitVec.ofNat 32 1)) (k0_off17_inb k 1) (w12 arg12 (k0_off17 k (BitVec.ofNat 32 0)) (k0_off17_inb k 0) (w12 arg12 (k0_off17 k (BitVec.ofNat 32 0)) (k0_off17_inb k 0) f (effV 0 (k0_pay1 v47 v49 v53 v60 v64 w) (ldW6 arg9 X9 k)) 0) (effV 0 (k0_pay1 v47 v49 v53 v60 v64 w) (ldW6 arg9 X9 k)) 1) (effV 1 (k0_pay1 v47 v49 v53 v60 v64 w) (ldW6 arg9 X9 k)) 0) (effV 1 (k0_pay1 v47 v49 v53 v60 v64 w) (ldW6 arg9 X9 k)) 1) (effV 2 (k0_pay1 v47 v49 v53 v60 v64 w) (ldW6 arg9 X9 k)) 0) (effV 2 (k0_pay1 v47 v49 v53 v60 v64 w) (ldW6 arg9 X9 k)) 1) (effV 3 (k0_pay1 v47 v49 v53 v60 v64 w) (ldW6 arg9 X9 k)) 0) (effV 3 (k0_pay1 v47 v49 v53 v60 v64 w) (ldW6 arg9 X9 k)) 1) := by
  delta trip_t6
  rfl

/-- What this loop writes at an element of the scales array. -/
abbrev V6 (dt : FVec Ideal S128x128 .f32) (X9 : BufTy.Contents (Elt Ideal) arg9.view.ty) (y : S16x2x256x2x128.Idx) : EReal :=
  dt (ix2 ⟨(y 2).val / 2, by have : (y 2).val < 256 := (y 2).isLt; omega⟩ ⟨(y 4).val, (y 4).isLt⟩)
    * (((byteOf (at' (α := BitVec 32) (arg9.view.read (Elt Ideal) X9) ![260 * ((y 0).val / 4) + 128 + (y 4).val, (y 2).val / 2]) ((y 0).val % 4)).toInt : ℝ) : EReal)

theorem effV6_eq (dt : FVec Ideal S128x128 .f32) (X9 : BufTy.Contents (Elt Ideal) arg9.view.ty) (k : Fin k0_t6_loop.trips) (b : ℕ) (hb : b < 4) (y : S16x2x256x2x128.Idx)
    (h : (y 0).val = 4 * k.val + b) :
    (effV b dt (ldW6 arg9 X9 k) (ix3 ⟨(y 2).val / 2, by have : (y 2).val < 256 := (y 2).isLt; omega⟩ ⟨(y 3).val, (y 3).isLt⟩ ⟨(y 4).val, (y 4).isLt⟩) : EReal) = V6 arg9 dt X9 y := by
  refine (effV_apply b hb dt _ _ _ _).trans ?_
  have e : ldW6 arg9 X9 k (ix2 ⟨(y 4).val, (y 4).isLt⟩ ⟨(y 2).val / 2, by have : (y 2).val < 256 := (y 2).isLt; omega⟩)
      = at' (α := BitVec 32) (arg9.view.read (Elt Ideal) X9) ![260 * ((y 0).val / 4) + 128 + (y 4).val, (y 2).val / 2] := by
    refine readAt_unit (Val := Elt Ideal) arg9.view X9 _ _ _ _ (k0_off16_eq k) _ _ ?_
    intro q
    fin_cases q
    · show 260 * ((y 0).val / 4) + 128 + (y 4).val = 260 * k.val + 128 + (y 4).val
      omega
    · show (y 2).val / 2 = 0 + (y 2).val / 2
      omega
  rw [e, show b = (y 0).val % 4 by omega]

theorem read_trip6 (v47 : IVec S128x128 32) (v49 : IVec S128x128 32) (v53 : IVec S128x128 32) (v60 : FVec Ideal S128x128 .f32) (v64 : IVec S128x128 32) (w : BitVec 32) (X9 : BufTy.Contents (Elt Ideal) arg9.view.ty) (k : Fin k0_t6_loop.trips) (f : BufTy.Contents (Elt Ideal) arg12.view.ty) (y : S16x2x256x2x128.Idx) :
    (arg12.view.read (Elt Ideal) ((trip_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 w X9 k).1 f) y : EReal)
      = if (y 1).val = 1 ∧ (y 0).val / 4 = k.val then V6 arg9 (k0_pay1 v47 v49 v53 v60 v64 w) X9 y else arg12.view.read (Elt Ideal) f y := by
  rw [trip_t6_list]
  have e (b : Fin 4) : k0_off17 k (BitVec.ofNat 32 b.val) = ![4 * k.val + b.val, 1, 0, 0, 0] := k0_off17_eq k b
  have g (b : Fin 4) (f : BufTy.Contents (Elt Ideal) arg12.view.ty) (p : Fin 2) :
      (arg12.view.read (Elt Ideal) (w12 arg12 (k0_off17 k (BitVec.ofNat 32 b.val)) (k0_off17_inb k b) f (effV b.val (k0_pay1 v47 v49 v53 v60 v64 w) (ldW6 arg9 X9 k)) p) y : EReal)
        = if (y 0).val = 4 * k.val + b.val ∧ (y 1).val = 1 ∧ (y 2).val % 2 = p.val then V6 arg9 (k0_pay1 v47 v49 v53 v60 v64 w) X9 y else arg12.view.read (Elt Ideal) f y :=
    read_w12 arg12 _ _ _ _ (e b) f _ p y _ (fun h0 _ => effV6_eq arg9 _ X9 k b.val b.isLt y h0)
  refine (g 3 _ 1).trans ?_
  rw [show ∀ f, (arg12.view.read (Elt Ideal) (w12 arg12 (k0_off17 k (BitVec.ofNat 32 3)) (k0_off17_inb k 3) f (effV 3 (k0_pay1 v47 v49 v53 v60 v64 w) (ldW6 arg9 X9 k)) 0) y : EReal) = _ from fun f => g 3 f 0]
  rw [show ∀ f, (arg12.view.read (Elt Ideal) (w12 arg12 (k0_off17 k (BitVec.ofNat 32 2)) (k0_off17_inb k 2) f (effV 2 (k0_pay1 v47 v49 v53 v60 v64 w) (ldW6 arg9 X9 k)) 1) y : EReal) = _ from fun f => g 2 f 1]
  rw [show ∀ f, (arg12.view.read (Elt Ideal) (w12 arg12 (k0_off17 k (BitVec.ofNat 32 2)) (k0_off17_inb k 2) f (effV 2 (k0_pay1 v47 v49 v53 v60 v64 w) (ldW6 arg9 X9 k)) 0) y : EReal) = _ from fun f => g 2 f 0]
  rw [show ∀ f, (arg12.view.read (Elt Ideal) (w12 arg12 (k0_off17 k (BitVec.ofNat 32 1)) (k0_off17_inb k 1) f (effV 1 (k0_pay1 v47 v49 v53 v60 v64 w) (ldW6 arg9 X9 k)) 1) y : EReal) = _ from fun f => g 1 f 1]
  rw [show ∀ f, (arg12.view.read (Elt Ideal) (w12 arg12 (k0_off17 k (BitVec.ofNat 32 1)) (k0_off17_inb k 1) f (effV 1 (k0_pay1 v47 v49 v53 v60 v64 w) (ldW6 arg9 X9 k)) 0) y : EReal) = _ from fun f => g 1 f 0]
  rw [show ∀ f, (arg12.view.read (Elt Ideal) (w12 arg12 (k0_off17 k (BitVec.ofNat 32 0)) (k0_off17_inb k 0) f (effV 0 (k0_pay1 v47 v49 v53 v60 v64 w) (ldW6 arg9 X9 k)) 1) y : EReal) = _ from fun f => g 0 f 1]
  rw [show ∀ f, (arg12.view.read (Elt Ideal) (w12 arg12 (k0_off17 k (BitVec.ofNat 32 0)) (k0_off17_inb k 0) f (effV 0 (k0_pay1 v47 v49 v53 v60 v64 w) (ldW6 arg9 X9 k)) 0) y : EReal) = _ from fun f => g 0 f 0]
  clear g e
  generalize V6 arg9 (k0_pay1 v47 v49 v53 v60 v64 w) X9 y = u
  generalize (arg12.view.read (Elt Ideal) f y : EReal) = v
  generalize (y 0).val = y0
  generalize (y 1).val = y1
  generalize (y 2).val = y2
  by_cases h : y1 = 1 ∧ y0 / 4 = k.val
  · rw [if_pos h]
    have hv : ∃ b p : ℕ, b < 4 ∧ p < 2 ∧ y0 = 4 * k.val + b ∧ y2 % 2 = p := ⟨y0 % 4, y2 % 2, by omega, by omega, by omega, rfl⟩
    obtain ⟨b, p, hb, hp, hb', hp'⟩ := hv
    rw [hb', hp', h.1]
    interval_cases b <;> interval_cases p <;> simp
  · rw [if_neg h]
    have hn (b : Fin 4) (p : Fin 2) : ¬ (y0 = 4 * k.val + b.val ∧ y1 = 1 ∧ y2 % 2 = p.val) := by
      rintro ⟨h0, h1, -⟩
      exact h ⟨h1, by omega⟩
    rw [if_neg (hn 3 1), if_neg (hn 3 0), if_neg (hn 2 1), if_neg (hn 2 0), if_neg (hn 1 1), if_neg (hn 1 0), if_neg (hn 0 1), if_neg (hn 0 0)]

theorem read_st6 (v47 : IVec S128x128 32) (v49 : IVec S128x128 32) (v53 : IVec S128x128 32) (v60 : FVec Ideal S128x128 .f32) (v64 : IVec S128x128 32) (w : BitVec 32) (X9 : BufTy.Contents (Elt Ideal) arg9.view.ty) (G : BufTy.Contents (Elt Ideal) arg12.view.ty) (y : S16x2x256x2x128.Idx) (n : ℕ) (hn : n ≤ k0_t6_loop.trips) :
    (arg12.view.read (Elt Ideal) (st_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 w X9 G n) y : EReal)
      = if (y 1).val = 1 ∧ (y 0).val / 4 < n then V6 arg9 (k0_pay1 v47 v49 v53 v60 v64 w) X9 y else arg12.view.read (Elt Ideal) G y := by
  induction n with
  | zero => rw [if_neg (by omega)]; rfl
  | succ n ih =>
    rw [st_t6_succ 𝒱 c bd i arg1 harg1 arg2 harg2 arg3 harg3 arg4 harg4 arg5 harg5 arg6 harg6 arg7 harg7 arg8 harg8 arg9 harg9 arg10 harg10 arg11 harg11 arg12 harg12 arg13 harg13 v47 v49 v53 v60 v64 w X9 G ⟨n, by omega⟩, read_trip6]
    rw [ih (by omega)]
    show (if _ ∧ _ = n then _ else _) = _
    split_ifs <;> first | rfl | omega

end

end Cert.KernelIdeal.Hand

end
-- ==== Proof.IAcc.lean ====
/-
  Hand-written, untrusted. The accumulator: what the last loop leaves in it, a sum over its trips.
-/
module

public import proofs.«01_k».proof.Proof.Gen.KernelIdeal.Loops
public import proofs.«01_k».proof.Proof.IUnit

@[expose] public section

set_option maxRecDepth 16384

noncomputable section

namespace Cert.KernelIdeal.Hand

open Cert.KernelIdeal Cert.KernelIdeal.Gen Cert.Q6K
open Idealize.ShloMosaic

/-- One product of a trip, in coordinates given as numbers: unit `k`, field `f`, superblock half `nh`, token `t`, output `o`. -/
def prodN (R5 : S128x48x256.Idx → EReal) (R10 : S32x2x128x128.Idx → BitVec 32) (R11 : S16x2x128x128.Idx → BitVec 32) (R12 : S16x2x256x2x128.Idx → EReal)
    (k f nh t o : ℕ) : EReal :=
  ∑ r : Fin 256, at' R5 ![8 * k + 2 * f + nh, t, r.val]
    * (wcode f (at' R11 ![k, o / 128, 64 * nh + r.val / 4, o % 128]) (at' R10 ![16 * (k / 8) + 8 * (f % 2) + k % 8, o / 128, 64 * nh + r.val / 4, o % 128]) (r.val % 4)
        * at' R12 ![8 * (k / 8) + 2 * f + k % 8 / 4, o / 128, 128 * nh + r.val / 2, r.val % 2, o % 128])

theorem write_whole {sig : RefSig} {κ : Kind} {sp : Space} (v : View sig κ sp S48x256 .f32) (f : v.ty.Contents (Elt Ideal)) (w : Vec Ideal S48x256 .f32) (y : S48x256.Idx) :
    v.read (Elt Ideal) (v.writes (Elt Ideal) f [⟨Rect.unit (s := S48x256) ![0, 0] S48x256.size inb_S48x256_S48x256_0_0, w⟩]) y = w y := by
  have he : ∀ x : S48x256.Idx, (Rect.unit (s := S48x256) ![0, 0] S48x256.size inb_S48x256_S48x256_0_0).emb x = x := fun x => funext fun q => Fin.ext (by
    refine (Rect.emb_apply _ _ _).trans ?_
    fin_cases q <;> simp [Rect.unit])
  refine View.read_writes_apply_of_pieces v f w _ ?_ y ?_
  · intro p hp x
    obtain rfl := List.mem_singleton.mp hp
    exact congrArg w (he x).symm
  · refine ⟨_, List.mem_singleton.mpr rfl, ?_⟩
    rw [← Rect.map_emb_univ]
    exact Finset.mem_map.mpr ⟨y, Finset.mem_univ _, he y⟩

theorem readAt_whole {sig : RefSig} {κ : Kind} {sp : Space} (v : View sig κ sp S48x256 .f32) (f : v.ty.Contents (Elt Ideal)) (y : S48x256.Idx) :
    View.readAt (Elt Ideal) v (Rect.unit (s := S48x256) ![0, 0] S48x256.size inb_S48x256_S48x256_0_0).toLoadRect f y = v.read (Elt Ideal) f y := by
  show v.read (Elt Ideal) f _ = _
  congr 1
  funext q
  apply Fin.ext
  refine (LoadRect.idx_apply _ _ _).trans ?_
  fin_cases q <;> simp [Rect.unit]

section
variable (𝒱 : Variants) (c : Dev nD) (bd : Option 𝒱.V) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole)

theorem trip_t7_list (X5 : BufTy.Contents (Elt Ideal) arg5.view.ty) (X10 : BufTy.Contents (Elt Ideal) arg10.view.ty) (X11 : BufTy.Contents (Elt Ideal) arg11.view.ty) (X12 : BufTy.Contents (Elt Ideal) arg12.view.ty)
    (k : Fin k0_t7_loop.trips) (f13 : BufTy.Contents (Elt Ideal) arg13.view.ty) :
    tripL_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 X5 X10 X11 X12 k f13
      = [⟨Rect.unit (s := S48x256) ![0, 0] S48x256.size inb_S48x256_S48x256_0_0, k0_pay4 (trip_k0_t7.sl.r_31 (F := Ideal) arg5 arg10 arg11 arg12 arg13 X5 X10 X11 X12 k f13)⟩] := by
  delta tripL_k0_t7 trip_k0_t7
  rfl

/-- The accumulator after the trips before `n`: what it held plus the trips' products. -/
theorem read13 (X5 : BufTy.Contents (Elt Ideal) arg5.view.ty) (X10 : BufTy.Contents (Elt Ideal) arg10.view.ty) (X11 : BufTy.Contents (Elt Ideal) arg11.view.ty) (X12 : BufTy.Contents (Elt Ideal) arg12.view.ty)
    (G : BufTy.Contents (Elt Ideal) arg13.view.ty) (t : Fin 48) (o : Fin 256) (n : ℕ) (hn : n ≤ k0_t7_loop.trips) :
    (arg13.view.read (Elt Ideal) (arg13.view.writes (Elt Ideal) G (pb_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 X5 X10 X11 X12 G n)) (ix2 t o) : EReal)
      = arg13.view.read (Elt Ideal) G (ix2 t o)
        + ∑ k ∈ Finset.range n, ∑ f : Fin 4, ∑ nh : Fin 2, prodN (arg5.view.read (Elt Ideal) X5) (arg10.view.read (Elt Ideal) X10) (arg11.view.read (Elt Ideal) X11) (arg12.view.read (Elt Ideal) X12) k f.val nh.val t.val o.val := by
  induction n with
  | zero => rw [Finset.sum_range_zero, add_zero]; rfl
  | succ n ih =>
    rw [Finset.sum_range_succ, ← add_assoc, ← ih (by omega)]
    rw [pb_k0_t7_succ 𝒱 c bd i arg1 harg1 arg2 harg2 arg3 harg3 arg4 harg4 arg5 harg5 arg6 harg6 arg7 harg7 arg8 harg8 arg9 harg9 arg10 harg10 arg11 harg11 arg12 harg12 arg13 harg13 X5 X10 X11 X12 G ⟨n, by omega⟩, View.writes_append, trip_t7_list, write_whole]
    refine (shapeCast_apply (trip_k0_t7.sl.r_31 (F := Ideal) arg5 arg10 arg11 arg12 arg13 X5 X10 X11 X12 _ _) _ _ (ix2 t o) rfl).trans ?_
    rw [unit_eq]
    have hD (f : Fin 4) (j nh : Fin 2) (hj : j.val = f.val % 2) :
        (unitD arg5 arg10 arg11 arg12 X5 X10 X11 X12 ⟨n, by omega⟩ f j nh (ix2 t o) : EReal)
          = prodN (arg5.view.read (Elt Ideal) X5) (arg10.view.read (Elt Ideal) X10) (arg11.view.read (Elt Ideal) X11) (arg12.view.read (Elt Ideal) X12) n f.val nh.val t.val o.val :=
      (unitD_apply arg5 arg10 arg11 arg12 X5 X10 X11 X12 ⟨n, by omega⟩ f j nh t o).trans (by rw [hj]; rfl)
    refine congr (congrArg HAdd.hAdd (readAt_whole arg13.view _ (ix2 t o))) ?_
    show (((((((((Ideal.ofBits .f32 0#32 : EReal) + _) + _) + _) + _) + _) + _) + _) + _) = _
    rw [hD 0 0 0 rfl, hD 0 0 1 rfl, hD 1 1 0 rfl, hD 1 1 1 rfl, hD 2 0 0 rfl, hD 2 0 1 rfl, hD 3 1 0 rfl, hD 3 1 1 rfl]
    rw [ofBits_zero]
    simp only [Fin.sum_univ_four, Fin.sum_univ_two, zero_add, add_assoc]

end

end Cert.KernelIdeal.Hand

end
-- ==== Proof.IBlock.lean ====
/-
  Hand-written, untrusted. One output block in closed form: what a run of the kernel body leaves in its output window, from the input blocks alone.
-/
module

public import proofs.«01_k».proof.Proof.IRun
public import proofs.«01_k».proof.Proof.IStageA
public import proofs.«01_k».proof.Proof.IStageB
public import proofs.«01_k».proof.Proof.IStageC
public import proofs.«01_k».proof.Proof.IAcc

@[expose] public section

set_option maxRecDepth 16384

noncomputable section

namespace Cert.KernelIdeal.Hand

open Cert.KernelIdeal Cert.KernelIdeal.Gen Cert.Q6K
open Idealize.ShloMosaic

/-- The transposed words of low bits, from the block of packed bytes. -/
def Q10 (x1 : S32768x128.Idx → BitVec 8) (y : S32x2x128x128.Idx) : BitVec 32 :=
  wordOf fun b => at' x1 ![128 * (128 * (y 1).val + (y 3).val) + 4 * (y 0).val + b, (y 2).val]

/-- The transposed words of high bits, each two-bit field's top bit flipped. -/
def Q11 (x2 : S16384x128.Idx → BitVec 8) (y : S16x2x128x128.Idx) : BitVec 32 :=
  (wordOf fun b => at' x2 ![64 * (128 * (y 1).val + (y 3).val) + 4 * (y 0).val + b, (y 2).val]) ^^^ 0xAAAAAAAA#32

/-- The scales: a quarter of the superblock's, times the subblock's. -/
def Q12 (x3 : S4096x128.Idx → BitVec 8) (x4 : S256x128.Idx → BitVec 16) (y : S16x2x256x2x128.Idx) : EReal :=
  halfOf (at' x4 ![128 * (y 1).val + (y 4).val, (y 2).val / 2]) * (((1 / 4 : ℝ)) : EReal)
    * (((at' x3 ![16 * (128 * (y 1).val + (y 4).val) + (y 0).val, (y 2).val / 2]).toInt : ℝ) : EReal)

/-- One output block, from the input blocks: the sum over the units, the fields and the superblock halves. -/
def outB (x1 : Vec Ideal S32768x128 .i8) (x2 : Vec Ideal S16384x128 .i8) (x3 : Vec Ideal S4096x128 .i8) (x4 : Vec Ideal S256x128 .i16) (x5 : Vec Ideal S128x48x256 .bf16) : Vec Ideal S48x256 .bf16 :=
  fun y => (∑ k ∈ Finset.range 16, ∑ f : Fin 4, ∑ nh : Fin 2, prodN x5 (Q10 x1) (Q11 x2) (Q12 x3 x4) k f.val nh.val (y 0).val (y 1).val : EReal)

theorem write_whole16 {sig : RefSig} {κ : Kind} {sp : Space} (v : View sig κ sp S48x256 .bf16) (f : v.ty.Contents (Elt Ideal)) (w : Vec Ideal S48x256 .bf16) (y : S48x256.Idx) :
    v.read (Elt Ideal) (v.writes (Elt Ideal) f [⟨Rect.unit (s := S48x256) ![0, 0] S48x256.size inb_S48x256_S48x256_0_0, w⟩]) y = w y := by
  have he : ∀ x : S48x256.Idx, (Rect.unit (s := S48x256) ![0, 0] S48x256.size inb_S48x256_S48x256_0_0).emb x = x := fun x => funext fun q => Fin.ext (by
    refine (Rect.emb_apply _ _ _).trans ?_
    fin_cases q <;> simp [Rect.unit])
  refine View.read_writes_apply_of_pieces v f w _ ?_ y ?_
  · intro p hp x
    obtain rfl := List.mem_singleton.mp hp
    exact congrArg w (he x).symm
  · refine ⟨_, List.mem_singleton.mpr rfl, ?_⟩
    rw [← Rect.map_emb_univ]
    exact Finset.mem_map.mpr ⟨y, Finset.mem_univ _, he y⟩

/-- Row arithmetic of the repitched scratches: a group of 260 rows and a row below it. -/
theorem pitch_mod (q u v : ℕ) (h : u + v < 260) : (260 * q + u + v) % 260 = u + v := by
  rw [Nat.add_assoc, Nat.mul_add_mod, Nat.mod_eq_of_lt h]

theorem pitch_div (q u v : ℕ) (h : u + v < 260) : (260 * q + u + v) / 260 = q := by
  rw [Nat.add_assoc, Nat.mul_add_div (by omega), Nat.div_eq_of_lt h, Nat.add_zero]

section
variable (c : Dev nD) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole)
variable (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)

theorem read10_eq : arg10.view.read (Elt Ideal) (arg10.view.writes (Elt Ideal) f10 (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 (arg7.view.writes (Elt Ideal) f7 (pb_t1_arg7 (F := Ideal) Variants.none c none i arg1 harg1 arg2 harg2 arg3 harg3 arg4 harg4 arg5 harg5 arg6 harg6 arg7 harg7 arg8 harg8 arg9 harg9 arg10 harg10 arg11 harg11 arg12 harg12 arg13 harg13 f1 f2 k0_t1_loop.trips)) k0_t3_loop.trips)) = Q10 (arg1.view.read (Elt Ideal) f1) := by
  funext y
  have h0 : (y 0).val < 32 := (y 0).isLt
  have h1 : (y 1).val < 2 := (y 1).isLt
  have h2 : (y 2).val < 128 := (y 2).isLt
  have h3 : (y 3).val < 128 := (y 3).isLt
  rw [read10 Variants.none c none i arg1 harg1 arg2 harg2 arg3 harg3 arg4 harg4 arg5 harg5 arg6 harg6 arg7 harg7 arg8 harg8 arg9 harg9 arg10 harg10 arg11 harg11 arg12 harg12 arg13 harg13]
  refine (at_eq (α := BitVec 32) _ _ (ix2 (⟨260 * (y 0).val + 128 * (y 1).val + (y 3).val, by omega⟩ : Fin 8320) (⟨(y 2).val, h2⟩ : Fin 128)) ?_).trans ?_
  · intro q; fin_cases q <;> rfl
  refine (read7 Variants.none c none i arg1 harg1 arg2 harg2 arg3 harg3 arg4 harg4 arg5 harg5 arg6 harg6 arg7 harg7 arg8 harg8 arg9 harg9 arg10 harg10 arg11 harg11 arg12 harg12 arg13 harg13 f1 f2 f7 _ (show (260 * (y 0).val + 128 * (y 1).val + (y 3).val) % 260 < 256 by rw [pitch_mod _ _ _ (by omega)]; omega)).trans ?_
  show wordOf (fun b => at' (α := BitVec 8) (arg1.view.read (Elt Ideal) f1) ![128 * ((260 * (y 0).val + 128 * (y 1).val + (y 3).val) % 260) + 4 * ((260 * (y 0).val + 128 * (y 1).val + (y 3).val) / 260) + b, (y 2).val]) = _
  rw [pitch_mod _ _ _ (by omega), pitch_div _ _ _ (by omega)]
  rfl

theorem read11_eq : arg11.view.read (Elt Ideal) (arg11.view.writes (Elt Ideal) f11 (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 (arg8.view.writes (Elt Ideal) f8 (pb_t1_arg8 (F := Ideal) Variants.none c none i arg1 harg1 arg2 harg2 arg3 harg3 arg4 harg4 arg5 harg5 arg6 harg6 arg7 harg7 arg8 harg8 arg9 harg9 arg10 harg10 arg11 harg11 arg12 harg12 arg13 harg13 f1 f2 k0_t1_loop.trips)) k0_t4_loop.trips)) = Q11 (arg2.view.read (Elt Ideal) f2) := by
  funext y
  have h0 : (y 0).val < 16 := (y 0).isLt
  have h1 : (y 1).val < 2 := (y 1).isLt
  have h2 : (y 2).val < 128 := (y 2).isLt
  have h3 : (y 3).val < 128 := (y 3).isLt
  rw [read11 Variants.none c none i arg1 harg1 arg2 harg2 arg3 harg3 arg4 harg4 arg5 harg5 arg6 harg6 arg7 harg7 arg8 harg8 arg9 harg9 arg10 harg10 arg11 harg11 arg12 harg12 arg13 harg13]
  refine congrArg (· ^^^ 0xAAAAAAAA#32) ?_
  refine (at_eq (α := BitVec 32) _ _ (ix2 (⟨260 * (y 0).val + 128 * (y 1).val + (y 3).val, by omega⟩ : Fin 4160) (⟨(y 2).val, h2⟩ : Fin 128)) ?_).trans ?_
  · intro q; fin_cases q <;> rfl
  refine (read8 Variants.none c none i arg1 harg1 arg2 harg2 arg3 harg3 arg4 harg4 arg5 harg5 arg6 harg6 arg7 harg7 arg8 harg8 arg9 harg9 arg10 harg10 arg11 harg11 arg12 harg12 arg13 harg13 f1 f2 f8 _ (show (260 * (y 0).val + 128 * (y 1).val + (y 3).val) % 260 < 256 by rw [pitch_mod _ _ _ (by omega)]; omega)).trans ?_
  show wordOf (fun b => at' (α := BitVec 8) (arg2.view.read (Elt Ideal) f2) ![64 * ((260 * (y 0).val + 128 * (y 1).val + (y 3).val) % 260) + 4 * ((260 * (y 0).val + 128 * (y 1).val + (y 3).val) / 260) + b, (y 2).val]) = _
  rw [pitch_mod _ _ _ (by omega), pitch_div _ _ _ (by omega)]

/-- A byte of the scale words, at the row a subblock, lane half and output give. -/
theorem byte9q (q r lh o n : ℕ) (hq : q < 4) (hr : r < 4) (hl : lh < 2) (ho : o < 128) (hn : n < 128) :
    byteOf (at' (α := BitVec 32) (arg9.view.read (Elt Ideal) (arg9.view.writes (Elt Ideal) f9 (pb_t2_arg9 (F := Ideal) Variants.none c none i arg1 harg1 arg2 harg2 arg3 harg3 arg4 harg4 arg5 harg5 arg6 harg6 arg7 harg7 arg8 harg8 arg9 harg9 arg10 harg10 arg11 harg11 arg12 harg12 arg13 harg13 f3 k0_t2_loop.trips))) ![260 * q + 128 * lh + o, n]) r
      = at' (α := BitVec 8) (arg3.view.read (Elt Ideal) f3) ![16 * (128 * lh + o) + 4 * q + r, n] := by
  rw [at_eq (α := BitVec 32) _ _ (ix2 (⟨260 * q + 128 * lh + o, by omega⟩ : Fin 1040) (⟨n, hn⟩ : Fin 128)) (by intro a; fin_cases a <;> rfl)]
  rw [read9 Variants.none c none i arg1 harg1 arg2 harg2 arg3 harg3 arg4 harg4 arg5 harg5 arg6 harg6 arg7 harg7 arg8 harg8 arg9 harg9 arg10 harg10 arg11 harg11 arg12 harg12 arg13 harg13 f3 f9 _ (show (260 * q + 128 * lh + o) % 260 < 256 by rw [pitch_mod _ _ _ (by omega)]; omega)]
  refine (byteOf_wordOf _ _ hr).trans ?_
  show at' (α := BitVec 8) (arg3.view.read (Elt Ideal) f3) ![16 * ((260 * q + 128 * lh + o) % 260) + 4 * ((260 * q + 128 * lh + o) / 260) + r, n] = _
  rw [pitch_mod _ _ _ (by omega), pitch_div _ _ _ (by omega)]

/-- The same, by the subblock's number. -/
theorem byte9 (s lh o n : ℕ) (hs : s < 16) (hl : lh < 2) (ho : o < 128) (hn : n < 128) :
    byteOf (at' (α := BitVec 32) (arg9.view.read (Elt Ideal) (arg9.view.writes (Elt Ideal) f9 (pb_t2_arg9 (F := Ideal) Variants.none c none i arg1 harg1 arg2 harg2 arg3 harg3 arg4 harg4 arg5 harg5 arg6 harg6 arg7 harg7 arg8 harg8 arg9 harg9 arg10 harg10 arg11 harg11 arg12 harg12 arg13 harg13 f3 k0_t2_loop.trips))) ![260 * (s / 4) + 128 * lh + o, n]) (s % 4)
      = at' (α := BitVec 8) (arg3.view.read (Elt Ideal) f3) ![16 * (128 * lh + o) + s, n] := by
  refine (byte9q c i arg1 harg1 arg2 harg2 arg3 harg3 arg4 harg4 arg5 harg5 arg6 harg6 arg7 harg7 arg8 harg8 arg9 harg9 arg10 harg10 arg11 harg11 arg12 harg12 arg13 harg13 f3 f9 (s / 4) (s % 4) lh o n (by omega) (by omega) hl ho hn).trans ?_
  rw [show 16 * (128 * lh + o) + 4 * (s / 4) + s % 4 = 16 * (128 * lh + o) + s by omega]

theorem half4_0 (n o : Fin 128) : (dqV (View.readAt (Elt Ideal) arg4.view (Rect.unit (s := S256x128) ![0, 0] S128x128.size inb_S256x128_S128x128_0_0).toLoadRect f4) (ix2 n o) : EReal) = halfOf (at' (α := BitVec 16) (arg4.view.read (Elt Ideal) f4) ![128 * 0 + o.val, n.val]) * (((1 / 4 : ℝ)) : EReal) := by
  rw [dqV_apply]
  refine congrArg (fun z => halfOf z * _) (readAt_unit (Val := Elt Ideal) arg4.view f4 _ _ _ _ rfl _ _ ?_)
  intro q; fin_cases q <;> simp

theorem half4_1 (n o : Fin 128) : (dqV (View.readAt (Elt Ideal) arg4.view (Rect.unit (s := S256x128) ![128, 0] S128x128.size inb_S256x128_S128x128_128_0).toLoadRect f4) (ix2 n o) : EReal) = halfOf (at' (α := BitVec 16) (arg4.view.read (Elt Ideal) f4) ![128 * 1 + o.val, n.val]) * (((1 / 4 : ℝ)) : EReal) := by
  rw [dqV_apply]
  refine congrArg (fun z => halfOf z * _) (readAt_unit (Val := Elt Ideal) arg4.view f4 _ _ _ _ rfl _ _ ?_)
  intro q; fin_cases q <;> simp

theorem read12_eq : (arg12.view.read (Elt Ideal) (st_t6 (F := Ideal) Variants.none c none i arg1 harg1 arg2 harg2 arg3 harg3 arg4 harg4 arg5 harg5 arg6 harg6 arg7 harg7 arg8 harg8 arg9 harg9 arg10 harg10 arg11 harg11 arg12 harg12 arg13 harg13 (k0_pay103 (F := Ideal) (View.readAt (Elt Ideal) arg4.view (Rect.unit (s := S256x128) ![128, 0] S128x128.size inb_S256x128_S128x128_128_0).toLoadRect f4)) (k0_pay104 (F := Ideal) (View.readAt (Elt Ideal) arg4.view (Rect.unit (s := S256x128) ![128, 0] S128x128.size inb_S256x128_S128x128_128_0).toLoadRect f4)) (k0_pay105 (F := Ideal) (View.readAt (Elt Ideal) arg4.view (Rect.unit (s := S256x128) ![128, 0] S128x128.size inb_S256x128_S128x128_128_0).toLoadRect f4)) (k0_pay106 (F := Ideal) (View.readAt (Elt Ideal) arg4.view (Rect.unit (s := S256x128) ![128, 0] S128x128.size inb_S256x128_S128x128_128_0).toLoadRect f4)) (k0_pay107 (F := Ideal) (View.readAt (Elt Ideal) arg4.view (Rect.unit (s := S256x128) ![128, 0] S128x128.size inb_S256x128_S128x128_128_0).toLoadRect f4)) 2139095040#32 (arg9.view.writes (Elt Ideal) f9 (pb_t2_arg9 (F := Ideal) Variants.none c none i arg1 harg1 arg2 harg2 arg3 harg3 arg4 harg4 arg5 harg5 arg6 harg6 arg7 harg7 arg8 harg8 arg9 harg9 arg10 harg10 arg11 harg11 arg12 harg12 arg13 harg13 f3 k0_t2_loop.trips)) (st_t5 (F := Ideal) Variants.none c none i arg1 harg1 arg2 harg2 arg3 harg3 arg4 harg4 arg5 harg5 arg6 harg6 arg7 harg7 arg8 harg8 arg9 harg9 arg10 harg10 arg11 harg11 arg12 harg12 arg13 harg13 (k0_pay95 (F := Ideal) (View.readAt (Elt Ideal) arg4.view (Rect.unit (s := S256x128) ![0, 0] S128x128.size inb_S256x128_S128x128_0_0).toLoadRect f4)) (k0_pay96 (F := Ideal) (View.readAt (Elt Ideal) arg4.view (Rect.unit (s := S256x128) ![0, 0] S128x128.size inb_S256x128_S128x128_0_0).toLoadRect f4)) (k0_pay97 (F := Ideal) (View.readAt (Elt Ideal) arg4.view (Rect.unit (s := S256x128) ![0, 0] S128x128.size inb_S256x128_S128x128_0_0).toLoadRect f4)) (k0_pay98 (F := Ideal) (View.readAt (Elt Ideal) arg4.view (Rect.unit (s := S256x128) ![0, 0] S128x128.size inb_S256x128_S128x128_0_0).toLoadRect f4)) (k0_pay99 (F := Ideal) (View.readAt (Elt Ideal) arg4.view (Rect.unit (s := S256x128) ![0, 0] S128x128.size inb_S256x128_S128x128_0_0).toLoadRect f4)) k0_pay100 (arg9.view.writes (Elt Ideal) f9 (pb_t2_arg9 (F := Ideal) Variants.none c none i arg1 harg1 arg2 harg2 arg3 harg3 arg4 harg4 arg5 harg5 arg6 harg6 arg7 harg7 arg8 harg8 arg9 harg9 arg10 harg10 arg11 harg11 arg12 harg12 arg13 harg13 f3 k0_t2_loop.trips)) f12 k0_t5_loop.trips) k0_t6_loop.trips) : S16x2x256x2x128.Idx → EReal) = Q12 (arg3.view.read (Elt Ideal) f3) (arg4.view.read (Elt Ideal) f4) := by
  funext y
  have h0 : (y 0).val < 16 := (y 0).isLt
  have h1 : (y 1).val < 2 := (y 1).isLt
  have h2 : (y 2).val < 256 := (y 2).isLt
  have h4 : (y 4).val < 128 := (y 4).isLt
  rw [read_st6 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _ _ y _ le_rfl, read_st5 Variants.none c none i arg1 harg1 arg2 harg2 arg3 harg3 arg4 harg4 arg5 harg5 arg6 harg6 arg7 harg7 arg8 harg8 arg9 harg9 arg10 harg10 arg11 harg11 arg12 harg12 arg13 harg13 _ _ _ _ _ _ _ _ y _ le_rfl]
  have t6 : k0_t6_loop.trips = 4 := by decide
  have t5 : k0_t5_loop.trips = 4 := by decide
  by_cases hl : (y 1).val = 1
  · rw [if_pos ⟨hl, by rw [t6]; omega⟩, dqV_snd]
    unfold Q12 V6
    rw [hl]
    exact congrArg₂ (fun u v : EReal => u * v) (half4_1 arg4 f4 _ _) (congrArg (fun z : BitVec 8 => ((z.toInt : ℝ) : EReal)) (byte9 c i arg1 harg1 arg2 harg2 arg3 harg3 arg4 harg4 arg5 harg5 arg6 harg6 arg7 harg7 arg8 harg8 arg9 harg9 arg10 harg10 arg11 harg11 arg12 harg12 arg13 harg13 f3 f9 (y 0).val 1 (y 4).val ((y 2).val / 2) h0 (by omega) h4 (by omega)))
  · have hl0 : (y 1).val = 0 := by omega
    rw [if_neg (fun h => hl h.1), if_pos ⟨hl0, by rw [t5]; omega⟩]
    unfold Q12 V5
    rw [hl0]
    exact congrArg₂ (fun u v : EReal => u * v) (half4_0 arg4 f4 _ _) (congrArg (fun z : BitVec 8 => ((z.toInt : ℝ) : EReal)) (byte9 c i arg1 harg1 arg2 harg2 arg3 harg3 arg4 harg4 arg5 harg5 arg6 harg6 arg7 harg7 arg8 harg8 arg9 harg9 arg10 harg10 arg11 harg11 arg12 harg12 arg13 harg13 f3 f9 (y 0).val 0 (y 4).val ((y 2).val / 2) h0 (by omega) h4 (by omega)))

theorem run_list : (run (F := Ideal) c i arg1 harg1 arg2 harg2 arg3 harg3 arg4 harg4 arg5 harg5 arg6 harg6 arg7 harg7 arg8 harg8 arg9 harg9 arg10 harg10 arg11 harg11 arg12 harg12 arg13 harg13 f1 f2 f3 f4 f5).1 f7 f8 f9 f10 f11 f12 f13
    = [⟨Rect.unit (s := S48x256) ![0, 0] S48x256.size inb_S48x256_S48x256_0_0,
        k0_pay5 (F := Ideal) (View.readAt (Elt Ideal) arg13.view (Rect.unit (s := S48x256) ![0, 0] S48x256.size inb_S48x256_S48x256_0_0).toLoadRect
          (arg13.view.writes (Elt Ideal) arg13.view.junk
            (pb_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 f5 (arg10.view.writes (Elt Ideal) f10 (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 (arg7.view.writes (Elt Ideal) f7 (pb_t1_arg7 (F := Ideal) Variants.none c none i arg1 harg1 arg2 harg2 arg3 harg3 arg4 harg4 arg5 harg5 arg6 harg6 arg7 harg7 arg8 harg8 arg9 harg9 arg10 harg10 arg11 harg11 arg12 harg12 arg13 harg13 f1 f2 k0_t1_loop.trips)) k0_t3_loop.trips)) (arg11.view.writes (Elt Ideal) f11 (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 (arg8.view.writes (Elt Ideal) f8 (pb_t1_arg8 (F := Ideal) Variants.none c none i arg1 harg1 arg2 harg2 arg3 harg3 arg4 harg4 arg5 harg5 arg6 harg6 arg7 harg7 arg8 harg8 arg9 harg9 arg10 harg10 arg11 harg11 arg12 harg12 arg13 harg13 f1 f2 k0_t1_loop.trips)) k0_t4_loop.trips)) (st_t6 (F := Ideal) Variants.none c none i arg1 harg1 arg2 harg2 arg3 harg3 arg4 harg4 arg5 harg5 arg6 harg6 arg7 harg7 arg8 harg8 arg9 harg9 arg10 harg10 arg11 harg11 arg12 harg12 arg13 harg13 (k0_pay103 (F := Ideal) (View.readAt (Elt Ideal) arg4.view (Rect.unit (s := S256x128) ![128, 0] S128x128.size inb_S256x128_S128x128_128_0).toLoadRect f4)) (k0_pay104 (F := Ideal) (View.readAt (Elt Ideal) arg4.view (Rect.unit (s := S256x128) ![128, 0] S128x128.size inb_S256x128_S128x128_128_0).toLoadRect f4)) (k0_pay105 (F := Ideal) (View.readAt (Elt Ideal) arg4.view (Rect.unit (s := S256x128) ![128, 0] S128x128.size inb_S256x128_S128x128_128_0).toLoadRect f4)) (k0_pay106 (F := Ideal) (View.readAt (Elt Ideal) arg4.view (Rect.unit (s := S256x128) ![128, 0] S128x128.size inb_S256x128_S128x128_128_0).toLoadRect f4)) (k0_pay107 (F := Ideal) (View.readAt (Elt Ideal) arg4.view (Rect.unit (s := S256x128) ![128, 0] S128x128.size inb_S256x128_S128x128_128_0).toLoadRect f4)) 2139095040#32 (arg9.view.writes (Elt Ideal) f9 (pb_t2_arg9 (F := Ideal) Variants.none c none i arg1 harg1 arg2 harg2 arg3 harg3 arg4 harg4 arg5 harg5 arg6 harg6 arg7 harg7 arg8 harg8 arg9 harg9 arg10 harg10 arg11 harg11 arg12 harg12 arg13 harg13 f3 k0_t2_loop.trips)) (st_t5 (F := Ideal) Variants.none c none i arg1 harg1 arg2 harg2 arg3 harg3 arg4 harg4 arg5 harg5 arg6 harg6 arg7 harg7 arg8 harg8 arg9 harg9 arg10 harg10 arg11 harg11 arg12 harg12 arg13 harg13 (k0_pay95 (F := Ideal) (View.readAt (Elt Ideal) arg4.view (Rect.unit (s := S256x128) ![0, 0] S128x128.size inb_S256x128_S128x128_0_0).toLoadRect f4)) (k0_pay96 (F := Ideal) (View.readAt (Elt Ideal) arg4.view (Rect.unit (s := S256x128) ![0, 0] S128x128.size inb_S256x128_S128x128_0_0).toLoadRect f4)) (k0_pay97 (F := Ideal) (View.readAt (Elt Ideal) arg4.view (Rect.unit (s := S256x128) ![0, 0] S128x128.size inb_S256x128_S128x128_0_0).toLoadRect f4)) (k0_pay98 (F := Ideal) (View.readAt (Elt Ideal) arg4.view (Rect.unit (s := S256x128) ![0, 0] S128x128.size inb_S256x128_S128x128_0_0).toLoadRect f4)) (k0_pay99 (F := Ideal) (View.readAt (Elt Ideal) arg4.view (Rect.unit (s := S256x128) ![0, 0] S128x128.size inb_S256x128_S128x128_0_0).toLoadRect f4)) k0_pay100 (arg9.view.writes (Elt Ideal) f9 (pb_t2_arg9 (F := Ideal) Variants.none c none i arg1 harg1 arg2 harg2 arg3 harg3 arg4 harg4 arg5 harg5 arg6 harg6 arg7 harg7 arg8 harg8 arg9 harg9 arg10 harg10 arg11 harg11 arg12 harg12 arg13 harg13 f3 k0_t2_loop.trips)) f12 k0_t5_loop.trips) k0_t6_loop.trips) (arg13.view.writes (Elt Ideal) arg13.view.junk [⟨Rect.unit (s := S48x256) ![0, 0] S48x256.size inb_S48x256_S48x256_0_0, k0_pay3 (F := Ideal)⟩]) k0_t7_loop.trips
              ++ [⟨Rect.unit (s := S48x256) ![0, 0] S48x256.size inb_S48x256_S48x256_0_0, k0_pay3 (F := Ideal)⟩])))⟩] := by
  delta run
  rfl

/-- The output block a run of the body leaves is `outB` of the input blocks. -/
theorem outB_eq : arg6.view.read (Elt Ideal) (arg6.view.writes (Elt Ideal) f6 ((run (F := Ideal) c i arg1 harg1 arg2 harg2 arg3 harg3 arg4 harg4 arg5 harg5 arg6 harg6 arg7 harg7 arg8 harg8 arg9 harg9 arg10 harg10 arg11 harg11 arg12 harg12 arg13 harg13 f1 f2 f3 f4 f5).1 f7 f8 f9 f10 f11 f12 f13))
    = outB (arg1.view.read (Elt Ideal) f1) (arg2.view.read (Elt Ideal) f2) (arg3.view.read (Elt Ideal) f3) (arg4.view.read (Elt Ideal) f4) (arg5.view.read (Elt Ideal) f5) := by
  funext y
  obtain ⟨t, o, rfl⟩ := ix2_eta y
  rw [run_list, write_whole16]
  refine (readAt_whole _ _ _).trans ?_
  rw [View.writes_append]
  refine (read13 Variants.none c none i arg1 harg1 arg2 harg2 arg3 harg3 arg4 harg4 arg5 harg5 arg6 harg6 arg7 harg7 arg8 harg8 arg9 harg9 arg10 harg10 arg11 harg11 arg12 harg12 arg13 harg13 f5 _ _ _ _ t o k0_t7_loop.trips le_rfl).trans ?_
  rw [write_whole, read10_eq c i arg1 harg1 arg2 harg2 arg3 harg3 arg4 harg4 arg5 harg5 arg6 harg6 arg7 harg7 arg8 harg8 arg9 harg9 arg10 harg10 arg11 harg11 arg12 harg12 arg13 harg13 f1 f2 f7 f10, read11_eq c i arg1 harg1 arg2 harg2 arg3 harg3 arg4 harg4 arg5 harg5 arg6 harg6 arg7 harg7 arg8 harg8 arg9 harg9 arg10 harg10 arg11 harg11 arg12 harg12 arg13 harg13 f1 f2 f8 f11, read12_eq c i arg1 harg1 arg2 harg2 arg3 harg3 arg4 harg4 arg5 harg5 arg6 harg6 arg7 harg7 arg8 harg8 arg9 harg9 arg10 harg10 arg11 harg11 arg12 harg12 arg13 harg13 f3 f4 f9 f12]
  have h3 : (k0_pay3 (F := Ideal) (ix2 t o) : EReal) = 0 := by
    refine Eq.trans ?_ ofBits_zero
    pointwise [k0_pay3]
  rw [h3, zero_add, show k0_t7_loop.trips = 16 by decide]
  rfl

end

end Cert.KernelIdeal.Hand

end
-- ==== Proof.IValue.lean ====
/-
  Hand-written, untrusted. The launch of `KernelIdeal` at the ideal values with its result named: the body's triple with the output block at
  `outB` of the input blocks (Proof/IBlock.lean), the proof data, the body obligation, and the run of @main to the result array the
  library computes from them.
-/
module

public import proofs.«01_k».proof.Proof.IRun
public import proofs.«01_k».proof.Proof.IBlock
public import proofs.«01_k».proof.Proof.Gen.KernelIdeal.Frame
public import proofs.«01_k».proof.Proof.Gen.KernelIdeal.Points
public import Idealize.ShloMosaic.Lib.Pipeline.Frame
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Value

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-! ## The body's triple -/

/-- The body on whole memrefs, the input blocks at `x1 … x5` and the rest at anything, runs to a continuation that holds the
    input blocks as they were, the output block at `outB` of them and the scratch buffers at something. -/
theorem sound_kernel (c : Dev nD) (i : grid0.Coords) (arg1 : Memref sig .tc .vmem S32768x128 .i8) (harg1 : arg1.IsWhole) (arg2 : Memref sig .tc .vmem S16384x128 .i8) (harg2 : arg2.IsWhole) (arg3 : Memref sig .tc .vmem S4096x128 .i8) (harg3 : arg3.IsWhole) (arg4 : Memref sig .tc .vmem S256x128 .i16) (harg4 : arg4.IsWhole) (arg5 : Memref sig .tc .vmem S128x48x256 .bf16) (harg5 : arg5.IsWhole) (arg6 : Memref sig .tc .vmem S48x256 .bf16) (harg6 : arg6.IsWhole) (arg7 : Memref sig .tc .vmem S8320x128 .i32) (harg7 : arg7.IsWhole) (arg8 : Memref sig .tc .vmem S4160x128 .i32) (harg8 : arg8.IsWhole) (arg9 : Memref sig .tc .vmem S1040x128 .i32) (harg9 : arg9.IsWhole) (arg10 : Memref sig .tc .vmem S32x2x128x128 .i32) (harg10 : arg10.IsWhole) (arg11 : Memref sig .tc .vmem S16x2x128x128 .i32) (harg11 : arg11.IsWhole) (arg12 : Memref sig .tc .vmem S16x2x256x2x128 .bf16) (harg12 : arg12.IsWhole) (arg13 : Memref sig .tc .vmem S48x256 .f32) (harg13 : arg13.IsWhole) (x1 : Vec Ideal S32768x128 .i8) (x2 : Vec Ideal S16384x128 .i8) (x3 : Vec Ideal S4096x128 .i8) (x4 : Vec Ideal S256x128 .i16) (x5 : Vec Ideal S128x48x256 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outB x1 x2 x3 x4 x5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none (c : Thread nD τ) none) Set.univ (cc0__body (F := Ideal) i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst h1; subst h2; subst h3; subst h4; subst h5
  iapply (wp_wand_r _ _ _)
  isplitl [H1 H2 H3 H4 H5 H6 H7 H8 H9 H10 H11 H12 H13]
  · iapply ((run (F := Ideal) c i arg1 harg1 arg2 harg2 arg3 harg3 arg4 harg4 arg5 harg5 arg6 harg6 arg7 harg7 arg8 harg8 arg9 harg9 arg10 harg10 arg11 harg11 arg12 harg12 arg13 harg13 f1 f2 f3 f4 f5).2 Set.univ f6 f7 f8 f9 f10 f11 f12 f13)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %_ ⟨H1, H2, H3, H4, H5, H6, ⟨%g7, H7⟩, ⟨%g8, H8⟩, ⟨%g9, H9⟩, ⟨%g10, H10⟩, ⟨%g11, H11⟩, ⟨%g12, H12⟩, ⟨%g13, H13⟩⟩
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; exact outB_eq c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-! ## The proof data -/

/-- The proof data on core `c`: the arrays as the region finds them; each input's buffer left at its block, the output's at `outB` of the input blocks;
    the class invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- Input window 0 is left at its block, and holds it when the body is called. -/
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
/-- Input window 1 is left at its block, and holds it when the body is called. -/
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
/-- Input window 2 is left at its block, and holds it when the body is called. -/
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
/-- Input window 3 is left at its block, and holds it when the body is called. -/
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
/-- Input window 4 is left at its block, and holds it when the body is called. -/
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

/-- The output window is left at `outB` of the input blocks. -/
theorem after0_5 (c : Dev nD) (t : Fin cfg0.N) : (dats m 0 c).after 5 t = outB (iblk m c 0 t) (iblk m c 1 t) (iblk m c 2 t) (iblk m c 3 t) (iblk m c 4 t) := by
  dsimp only [dats]

/-- The class invariant opened: the scratch buffers, each at some contents, and the generator register at some state. -/
theorem PhiA_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

/-- The body at any point of the grid. -/
theorem sound_body (c : Dev nD) (t : Fin cfg0.N) :
    bodyPre m c t ⊢ wp frame (wpE (defs₀ (F := Ideal)) Variants.none (c : Thread nD τ) none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 800000 in
/-- Every weakly fair execution of @main terminates without fault, every array of the pipeline at what the library computes from the
    proof data and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Value

end
-- ==== Proof.RTerms.lean ====
/-
  Untrusted. The reference's host operations one at a time, as in the generated module of that purpose, less the index function of
  the rank-7 broadcast, which the kernel's checker does not get through in its time: `val_<buffer>` the value an operation
  writes, `val_<buffer>_apply` that value read at an index.
-/
module

public import proofs.«01_k».proof.Proof.Gen.ReferenceIdeal.Run
public import Idealize.ShloMosaic.Lib.Pipeline.Value
public import Idealize.ShloMosaic.Lib.ValueIdx
public import Idealize.ShloMosaic.PureOps.Ideal.Laws

@[expose] public section

noncomputable section

namespace Cert.ReferenceIdeal.Terms

open Cert.ReferenceIdeal Cert.ReferenceIdeal.Gen Idealize.ShloMosaic Idealize.ShloMosaic.TcCoe Idealize.SL.Sem Idealize.ShloMosaic.StableHlo

variable {F : FTy → Type} [FloatOps F]

-- %1 = stablehlo.broadcast_in_dim %0, dims = [0, 1] : (tensor<8192x128xf32>) -> tensor<8192x128x1xf32>
def val_main_v1 (r0 : (⟨S8192x128, .f32⟩ : BufTy).Contents (Elt F)) : (⟨S8192x128x1, .f32⟩ : BufTy).Contents (Elt F) :=
  broadcastInDim S8192x128x1 ![0, 1] bcast_S8192x128_S8192x128x1_0_1 (r0)
abbrev idx_main_v1 (i : S8192x128x1.Idx) : S8192x128.Idx := fun a => match a with
  | ⟨0, _⟩ => ⟨(i 0).val, (i 0).isLt⟩
  | ⟨1, _⟩ => ⟨(i 1).val, (i 1).isLt⟩
theorem val_main_v1_apply (r0 : (⟨S8192x128, .f32⟩ : BufTy).Contents (Elt F)) (i : S8192x128x1.Idx) :
    val_main_v1 (F := F) r0 i = r0 (idx_main_v1 i) := by
  unfold val_main_v1
  exact broadcastInDim_apply _ bcast_S8192x128_S8192x128x1_0_1 r0 i (idx_main_v1 i) (fun a => match a with
    | ⟨0, _⟩ => by show (i 0).val = if (8192 : Nat) = 1 then 0 else (i 0).val; rw [if_neg (by decide)]
    | ⟨1, _⟩ => by show (i 1).val = if (128 : Nat) = 1 then 0 else (i 1).val; rw [if_neg (by decide)])

-- %2 = stablehlo.convert %arg3 : (tensor<8192x128x16xi8>) -> tensor<8192x128x16xi32>
def val_main_v2 (x3 : (⟨S8192x128x16, .i8⟩ : BufTy).Contents (Elt F)) : (⟨S8192x128x16, .i32⟩ : BufTy).Contents (Elt F) :=
  extsi 32 (x3) natLt_8_32
theorem val_main_v2_apply (x3 : (⟨S8192x128x16, .i8⟩ : BufTy).Contents (Elt F)) (i : S8192x128x16.Idx) :
    val_main_v2 (F := F) x3 i = (x3 i).signExtend 32 := rfl

-- %3 = stablehlo.convert %2 : (tensor<8192x128x16xi32>) -> tensor<8192x128x16xf32>
def val_main_v3 (x3 : (⟨S8192x128x16, .i8⟩ : BufTy).Contents (Elt F)) : (⟨S8192x128x16, .f32⟩ : BufTy).Contents (Elt F) :=
  sitofp .f32 (val_main_v2 (F := F) x3)
theorem val_main_v3_apply (x3 : (⟨S8192x128x16, .i8⟩ : BufTy).Contents (Elt F)) (i : S8192x128x16.Idx) :
    val_main_v3 (F := F) x3 i = FloatOps.sitofp .f32 (val_main_v2 (F := F) x3 i) := rfl

-- %4 = stablehlo.broadcast_in_dim %1, dims = [0, 1, 2] : (tensor<8192x128x1xf32>) -> tensor<8192x128x16xf32>
def val_main_v4 (r0 : (⟨S8192x128, .f32⟩ : BufTy).Contents (Elt F)) : (⟨S8192x128x16, .f32⟩ : BufTy).Contents (Elt F) :=
  broadcastInDim S8192x128x16 ![0, 1, 2] bcast_S8192x128x1_S8192x128x16_0_1_2 (val_main_v1 (F := F) r0)
abbrev idx_main_v4 (i : S8192x128x16.Idx) : S8192x128x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v4_apply (r0 : (⟨S8192x128, .f32⟩ : BufTy).Contents (Elt F)) (i : S8192x128x16.Idx) :
    val_main_v4 (F := F) r0 i = val_main_v1 (F := F) r0 (idx_main_v4 i) := by
  unfold val_main_v4
  generalize val_main_v1 (F := F) r0 = y
  exact broadcastInDim_apply _ bcast_S8192x128x1_S8192x128x16_0_1_2 y i (idx_main_v4 i) (fun a => match a with
    | ⟨0, _⟩ => by show (i 0).val = if (8192 : Nat) = 1 then 0 else (i 0).val; rw [if_neg (by decide)]
    | ⟨1, _⟩ => by show (i 1).val = if (128 : Nat) = 1 then 0 else (i 1).val; rw [if_neg (by decide)]
    | ⟨2, _⟩ => by show 0 = if (1 : Nat) = 1 then 0 else (i 2).val; rw [if_pos rfl])

-- %5 = stablehlo.multiply %4, %3 : tensor<8192x128x16xf32>
def val_main_v5 (x3 : (⟨S8192x128x16, .i8⟩ : BufTy).Contents (Elt F)) (r0 : (⟨S8192x128, .f32⟩ : BufTy).Contents (Elt F)) : (⟨S8192x128x16, .f32⟩ : BufTy).Contents (Elt F) :=
  mulf (val_main_v4 (F := F) r0) (val_main_v3 (F := F) x3)
theorem val_main_v5_apply (x3 : (⟨S8192x128x16, .i8⟩ : BufTy).Contents (Elt F)) (r0 : (⟨S8192x128, .f32⟩ : BufTy).Contents (Elt F)) (i : S8192x128x16.Idx) :
    val_main_v5 (F := F) x3 r0 i = FloatOps.mulf (val_main_v4 (F := F) r0 i) (val_main_v3 (F := F) x3 i) := rfl

-- %6 = stablehlo.convert %5 : (tensor<8192x128x16xf32>) -> tensor<8192x128x16xbf16>
def val_main_v6 (x3 : (⟨S8192x128x16, .i8⟩ : BufTy).Contents (Elt F)) (r0 : (⟨S8192x128, .f32⟩ : BufTy).Contents (Elt F)) : (⟨S8192x128x16, .bf16⟩ : BufTy).Contents (Elt F) :=
  truncf .bf16 (val_main_v5 (F := F) x3 r0) bitsLt_bf16_f32
theorem val_main_v6_apply (x3 : (⟨S8192x128x16, .i8⟩ : BufTy).Contents (Elt F)) (r0 : (⟨S8192x128, .f32⟩ : BufTy).Contents (Elt F)) (i : S8192x128x16.Idx) :
    val_main_v6 (F := F) x3 r0 i = FloatOps.truncf .bf16 bitsLt_bf16_f32 (val_main_v5 (F := F) x3 r0 i) := rfl

-- %7 = stablehlo.reshape %6 : (tensor<8192x128x16xbf16>) -> tensor<8192x128x2x2x2x2x1xbf16>
def val_main_v7 (x3 : (⟨S8192x128x16, .i8⟩ : BufTy).Contents (Elt F)) (r0 : (⟨S8192x128, .f32⟩ : BufTy).Contents (Elt F)) : (⟨S8192x128x2x2x2x2x1, .bf16⟩ : BufTy).Contents (Elt F) :=
  shapeCast _ (val_main_v6 (F := F) x3 r0) shapeCasts_S8192x128x16_S8192x128x2x2x2x2x1

-- %8 = stablehlo.iota dim = 0 : tensor<2xi32>
def val_main_v8 : (⟨S2, .i32⟩ : BufTy).Contents (Elt F) :=
  iotaInDim S2 32 0
theorem val_main_v8_apply (i : S2.Idx) :
    val_main_v8 (F := F) i = BitVec.ofNat 32 (i 0).val := rfl

-- %c = stablehlo.constant dense<4> : tensor<i32>
def val_main_c : (⟨S_, .i32⟩ : BufTy).Contents (Elt F) :=
  constantI S_ 32 4#32
theorem val_main_c_apply (i : S_.Idx) :
    val_main_c (F := F) i = 4#32 := rfl

-- %9 = stablehlo.broadcast_in_dim %c, dims = [] : (tensor<i32>) -> tensor<2xi32>
def val_main_v9 : (⟨S2, .i32⟩ : BufTy).Contents (Elt F) :=
  broadcastInDim S2 ![] bcast_S_S2 (val_main_c (F := F))
abbrev idx_main_v9 (i : S2.Idx) : S_.Idx := fun a => a.elim0
theorem val_main_v9_apply (i : S2.Idx) :
    val_main_v9 (F := F) i = val_main_c (F := F) (idx_main_v9 i) := by
  unfold val_main_v9
  generalize val_main_c (F := F) = y
  exact broadcastInDim_apply _ bcast_S_S2 y i (idx_main_v9 i) (fun a => a.elim0)

-- %10 = stablehlo.multiply %8, %9 : tensor<2xi32>
def val_main_v10 : (⟨S2, .i32⟩ : BufTy).Contents (Elt F) :=
  muli (val_main_v8 (F := F)) (val_main_v9 (F := F))
theorem val_main_v10_apply (i : S2.Idx) :
    val_main_v10 (F := F) i = IntOp.muli (val_main_v8 (F := F) i) (val_main_v9 (F := F) i) := rfl

-- %11 = stablehlo.reshape %10 : (tensor<2xi32>) -> tensor<2x1x1xi32>
def val_main_v11 : (⟨S2x1x1, .i32⟩ : BufTy).Contents (Elt F) :=
  shapeCast _ (val_main_v10 (F := F)) shapeCasts_S2_S2x1x1
set_option backward.proofsInPublic true in
abbrev idx_main_v11 (i : S2x1x1.Idx) : S2.Idx := fun a => match a with
  | ⟨0, _⟩ => ⟨((i 0).val * 1 + (i 1).val) * 1 + (i 2).val, by have h0 : (i 0).val < 2 := (i 0).isLt; have h1 : (i 1).val < 1 := (i 1).isLt; have h2 : (i 2).val < 1 := (i 2).isLt; show ((i 0).val * 1 + (i 1).val) * 1 + (i 2).val < 2; omega⟩
theorem val_main_v11_apply (i : S2x1x1.Idx) :
    val_main_v11 (F := F) i = val_main_v10 (F := F) (idx_main_v11 i) := by
  unfold val_main_v11
  generalize val_main_v10 (F := F) = y
  exact shapeCast_apply y shapeCasts_S2_S2x1x1 i (idx_main_v11 i)
    (by rewrite [Shape.rowMajor_val_one, Shape.rowMajor_val_three]; have h0 : (i 0).val < 2 := (i 0).isLt; have h1 : (i 1).val < 1 := (i 1).isLt; have h2 : (i 2).val < 1 := (i 2).isLt; show ((i 0).val * 1 + (i 1).val) * 1 + (i 2).val = ((i 0).val * 1 + (i 1).val) * 1 + (i 2).val; omega)

-- %12 = stablehlo.convert %arg1 : (tensor<8192x128x2x64xui8>) -> tensor<8192x128x2x64xi32>
def val_main_v12 (x1 : (⟨S8192x128x2x64, .i8⟩ : BufTy).Contents (Elt F)) : (⟨S8192x128x2x64, .i32⟩ : BufTy).Contents (Elt F) :=
  extui 32 (x1) natLt_8_32
theorem val_main_v12_apply (x1 : (⟨S8192x128x2x64, .i8⟩ : BufTy).Contents (Elt F)) (i : S8192x128x2x64.Idx) :
    val_main_v12 (F := F) x1 i = (x1 i).setWidth 32 := rfl

-- %13 = stablehlo.reshape %12 : (tensor<8192x128x2x64xi32>) -> tensor<8192x128x2x1x2x32xi32>
def val_main_v13 (x1 : (⟨S8192x128x2x64, .i8⟩ : BufTy).Contents (Elt F)) : (⟨S8192x128x2x1x2x32, .i32⟩ : BufTy).Contents (Elt F) :=
  shapeCast _ (val_main_v12 (F := F) x1) shapeCasts_S8192x128x2x64_S8192x128x2x1x2x32

-- %14 = stablehlo.broadcast_in_dim %11, dims = [3, 4, 5] : (tensor<2x1x1xi32>) -> tensor<1x1x1x2x1x1xi32>
def val_main_v14 : (⟨S1x1x1x2x1x1, .i32⟩ : BufTy).Contents (Elt F) :=
  broadcastInDim S1x1x1x2x1x1 ![3, 4, 5] bcast_S2x1x1_S1x1x1x2x1x1_3_4_5 (val_main_v11 (F := F))
abbrev idx_main_v14 (i : S1x1x1x2x1x1.Idx) : S2x1x1.Idx := fun a => match a with
  | ⟨0, _⟩ => ⟨(i 3).val, (i 3).isLt⟩
  | ⟨1, _⟩ => ⟨0, Nat.one_pos⟩
  | ⟨2, _⟩ => ⟨0, Nat.one_pos⟩
theorem val_main_v14_apply (i : S1x1x1x2x1x1.Idx) :
    val_main_v14 (F := F) i = val_main_v11 (F := F) (idx_main_v14 i) := by
  unfold val_main_v14
  generalize val_main_v11 (F := F) = y
  exact broadcastInDim_apply _ bcast_S2x1x1_S1x1x1x2x1x1_3_4_5 y i (idx_main_v14 i) (fun a => match a with
    | ⟨0, _⟩ => by show (i 3).val = if (2 : Nat) = 1 then 0 else (i 3).val; rw [if_neg (by decide)]
    | ⟨1, _⟩ => by show 0 = if (1 : Nat) = 1 then 0 else (i 4).val; rw [if_pos rfl]
    | ⟨2, _⟩ => by show 0 = if (1 : Nat) = 1 then 0 else (i 5).val; rw [if_pos rfl])

-- %15 = stablehlo.broadcast_in_dim %13, dims = [0, 1, 2, 3, 4, 5] : (tensor<8192x128x2x1x2x32xi32>) -> tensor<8192x128x2x2x2x32xi32>
def val_main_v15 (x1 : (⟨S8192x128x2x64, .i8⟩ : BufTy).Contents (Elt F)) : (⟨S8192x128x2x2x2x32, .i32⟩ : BufTy).Contents (Elt F) :=
  broadcastInDim S8192x128x2x2x2x32 ![0, 1, 2, 3, 4, 5] bcast_S8192x128x2x1x2x32_S8192x128x2x2x2x32_0_1_2_3_4_5 (val_main_v13 (F := F) x1)
abbrev idx_main_v15 (i : S8192x128x2x2x2x32.Idx) : S8192x128x2x1x2x32.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
  | ⟨4, _⟩ => ⟨(i 4).val, (i 4).isLt⟩
  | ⟨5, _⟩ => ⟨(i 5).val, (i 5).isLt⟩
theorem val_main_v15_apply (x1 : (⟨S8192x128x2x64, .i8⟩ : BufTy).Contents (Elt F)) (i : S8192x128x2x2x2x32.Idx) :
    val_main_v15 (F := F) x1 i = val_main_v13 (F := F) x1 (idx_main_v15 i) := by
  unfold val_main_v15
  generalize val_main_v13 (F := F) x1 = y
  exact broadcastInDim_apply _ bcast_S8192x128x2x1x2x32_S8192x128x2x2x2x32_0_1_2_3_4_5 y i (idx_main_v15 i) (fun a => match a with
    | ⟨0, _⟩ => by show (i 0).val = if (8192 : Nat) = 1 then 0 else (i 0).val; rw [if_neg (by decide)]
    | ⟨1, _⟩ => by show (i 1).val = if (128 : Nat) = 1 then 0 else (i 1).val; rw [if_neg (by decide)]
    | ⟨2, _⟩ => by show (i 2).val = if (2 : Nat) = 1 then 0 else (i 2).val; rw [if_neg (by decide)]
    | ⟨3, _⟩ => by show 0 = if (1 : Nat) = 1 then 0 else (i 3).val; rw [if_pos rfl]
    | ⟨4, _⟩ => by show (i 4).val = if (2 : Nat) = 1 then 0 else (i 4).val; rw [if_neg (by decide)]
    | ⟨5, _⟩ => by show (i 5).val = if (32 : Nat) = 1 then 0 else (i 5).val; rw [if_neg (by decide)])

-- %16 = stablehlo.broadcast_in_dim %14, dims = [0, 1, 2, 3, 4, 5] : (tensor<1x1x1x2x1x1xi32>) -> tensor<8192x128x2x2x2x32xi32>
def val_main_v16 : (⟨S8192x128x2x2x2x32, .i32⟩ : BufTy).Contents (Elt F) :=
  broadcastInDim S8192x128x2x2x2x32 ![0, 1, 2, 3, 4, 5] bcast_S1x1x1x2x1x1_S8192x128x2x2x2x32_0_1_2_3_4_5 (val_main_v14 (F := F))
abbrev idx_main_v16 (i : S8192x128x2x2x2x32.Idx) : S1x1x1x2x1x1.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨(i 3).val, (i 3).isLt⟩
  | ⟨4, _⟩ => ⟨0, Nat.one_pos⟩
  | ⟨5, _⟩ => ⟨0, Nat.one_pos⟩
theorem val_main_v16_apply (i : S8192x128x2x2x2x32.Idx) :
    val_main_v16 (F := F) i = val_main_v14 (F := F) (idx_main_v16 i) := by
  unfold val_main_v16
  generalize val_main_v14 (F := F) = y
  exact broadcastInDim_apply _ bcast_S1x1x1x2x1x1_S8192x128x2x2x2x32_0_1_2_3_4_5 y i (idx_main_v16 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show (i 3).val = if (2 : Nat) = 1 then 0 else (i 3).val; rw [if_neg (by decide)]
    | ⟨4, _⟩ => by show 0 = if (1 : Nat) = 1 then 0 else (i 4).val; rw [if_pos rfl]
    | ⟨5, _⟩ => by show 0 = if (1 : Nat) = 1 then 0 else (i 5).val; rw [if_pos rfl])

-- %17 = stablehlo.shift_right_arithmetic %15, %16 : tensor<8192x128x2x2x2x32xi32>
def val_main_v17 (x1 : (⟨S8192x128x2x64, .i8⟩ : BufTy).Contents (Elt F)) : (⟨S8192x128x2x2x2x32, .i32⟩ : BufTy).Contents (Elt F) :=
  Host.shrsi (val_main_v15 (F := F) x1) (val_main_v16 (F := F))
theorem val_main_v17_apply (x1 : (⟨S8192x128x2x64, .i8⟩ : BufTy).Contents (Elt F)) (i : S8192x128x2x2x2x32.Idx) :
    val_main_v17 (F := F) x1 i = IntOp.shrsi .host (val_main_v15 (F := F) x1 i) (val_main_v16 (F := F) i) := rfl

-- %c_0 = stablehlo.constant dense<15> : tensor<i32>
def val_main_c_0 : (⟨S_, .i32⟩ : BufTy).Contents (Elt F) :=
  constantI S_ 32 15#32
theorem val_main_c_0_apply (i : S_.Idx) :
    val_main_c_0 (F := F) i = 15#32 := rfl

-- %18 = stablehlo.broadcast_in_dim %c_0, dims = [] : (tensor<i32>) -> tensor<8192x128x2x2x2x32xi32>
def val_main_v18 : (⟨S8192x128x2x2x2x32, .i32⟩ : BufTy).Contents (Elt F) :=
  broadcastInDim S8192x128x2x2x2x32 ![] bcast_S_S8192x128x2x2x2x32 (val_main_c_0 (F := F))
abbrev idx_main_v18 (i : S8192x128x2x2x2x32.Idx) : S_.Idx := fun a => a.elim0
theorem val_main_v18_apply (i : S8192x128x2x2x2x32.Idx) :
    val_main_v18 (F := F) i = val_main_c_0 (F := F) (idx_main_v18 i) := by
  unfold val_main_v18
  generalize val_main_c_0 (F := F) = y
  exact broadcastInDim_apply _ bcast_S_S8192x128x2x2x2x32 y i (idx_main_v18 i) (fun a => a.elim0)

-- %19 = stablehlo.and %17, %18 : tensor<8192x128x2x2x2x32xi32>
def val_main_v19 (x1 : (⟨S8192x128x2x64, .i8⟩ : BufTy).Contents (Elt F)) : (⟨S8192x128x2x2x2x32, .i32⟩ : BufTy).Contents (Elt F) :=
  andi (val_main_v17 (F := F) x1) (val_main_v18 (F := F))
theorem val_main_v19_apply (x1 : (⟨S8192x128x2x64, .i8⟩ : BufTy).Contents (Elt F)) (i : S8192x128x2x2x2x32.Idx) :
    val_main_v19 (F := F) x1 i = IntOp.andi (val_main_v17 (F := F) x1 i) (val_main_v18 (F := F) i) := rfl

-- %20 = stablehlo.iota dim = 0 : tensor<4xi32>
def val_main_v20 : (⟨S4, .i32⟩ : BufTy).Contents (Elt F) :=
  iotaInDim S4 32 0
theorem val_main_v20_apply (i : S4.Idx) :
    val_main_v20 (F := F) i = BitVec.ofNat 32 (i 0).val := rfl

-- %c_1 = stablehlo.constant dense<2> : tensor<i32>
def val_main_c_1 : (⟨S_, .i32⟩ : BufTy).Contents (Elt F) :=
  constantI S_ 32 2#32
theorem val_main_c_1_apply (i : S_.Idx) :
    val_main_c_1 (F := F) i = 2#32 := rfl

-- %21 = stablehlo.broadcast_in_dim %c_1, dims = [] : (tensor<i32>) -> tensor<4xi32>
def val_main_v21 : (⟨S4, .i32⟩ : BufTy).Contents (Elt F) :=
  broadcastInDim S4 ![] bcast_S_S4 (val_main_c_1 (F := F))
abbrev idx_main_v21 (i : S4.Idx) : S_.Idx := fun a => a.elim0
theorem val_main_v21_apply (i : S4.Idx) :
    val_main_v21 (F := F) i = val_main_c_1 (F := F) (idx_main_v21 i) := by
  unfold val_main_v21
  generalize val_main_c_1 (F := F) = y
  exact broadcastInDim_apply _ bcast_S_S4 y i (idx_main_v21 i) (fun a => a.elim0)

-- %22 = stablehlo.multiply %20, %21 : tensor<4xi32>
def val_main_v22 : (⟨S4, .i32⟩ : BufTy).Contents (Elt F) :=
  muli (val_main_v20 (F := F)) (val_main_v21 (F := F))
theorem val_main_v22_apply (i : S4.Idx) :
    val_main_v22 (F := F) i = IntOp.muli (val_main_v20 (F := F) i) (val_main_v21 (F := F) i) := rfl

-- %23 = stablehlo.reshape %22 : (tensor<4xi32>) -> tensor<2x2x1xi32>
def val_main_v23 : (⟨S2x2x1, .i32⟩ : BufTy).Contents (Elt F) :=
  shapeCast _ (val_main_v22 (F := F)) shapeCasts_S4_S2x2x1
set_option backward.proofsInPublic true in
abbrev idx_main_v23 (i : S2x2x1.Idx) : S4.Idx := fun a => match a with
  | ⟨0, _⟩ => ⟨((i 0).val * 2 + (i 1).val) * 1 + (i 2).val, by have h0 : (i 0).val < 2 := (i 0).isLt; have h1 : (i 1).val < 2 := (i 1).isLt; have h2 : (i 2).val < 1 := (i 2).isLt; show ((i 0).val * 2 + (i 1).val) * 1 + (i 2).val < 4; omega⟩
theorem val_main_v23_apply (i : S2x2x1.Idx) :
    val_main_v23 (F := F) i = val_main_v22 (F := F) (idx_main_v23 i) := by
  unfold val_main_v23
  generalize val_main_v22 (F := F) = y
  exact shapeCast_apply y shapeCasts_S4_S2x2x1 i (idx_main_v23 i)
    (by rewrite [Shape.rowMajor_val_one, Shape.rowMajor_val_three]; have h0 : (i 0).val < 2 := (i 0).isLt; have h1 : (i 1).val < 2 := (i 1).isLt; have h2 : (i 2).val < 1 := (i 2).isLt; show ((i 0).val * 2 + (i 1).val) * 1 + (i 2).val = ((i 0).val * 2 + (i 1).val) * 1 + (i 2).val; omega)

-- %24 = stablehlo.convert %arg2 : (tensor<8192x128x2x32xui8>) -> tensor<8192x128x2x32xi32>
def val_main_v24 (x2 : (⟨S8192x128x2x32, .i8⟩ : BufTy).Contents (Elt F)) : (⟨S8192x128x2x32, .i32⟩ : BufTy).Contents (Elt F) :=
  extui 32 (x2) natLt_8_32
theorem val_main_v24_apply (x2 : (⟨S8192x128x2x32, .i8⟩ : BufTy).Contents (Elt F)) (i : S8192x128x2x32.Idx) :
    val_main_v24 (F := F) x2 i = (x2 i).setWidth 32 := rfl

-- %25 = stablehlo.reshape %24 : (tensor<8192x128x2x32xi32>) -> tensor<8192x128x2x1x1x32xi32>
def val_main_v25 (x2 : (⟨S8192x128x2x32, .i8⟩ : BufTy).Contents (Elt F)) : (⟨S8192x128x2x1x1x32, .i32⟩ : BufTy).Contents (Elt F) :=
  shapeCast _ (val_main_v24 (F := F) x2) shapeCasts_S8192x128x2x32_S8192x128x2x1x1x32

-- %26 = stablehlo.broadcast_in_dim %23, dims = [3, 4, 5] : (tensor<2x2x1xi32>) -> tensor<1x1x1x2x2x1xi32>
def val_main_v26 : (⟨S1x1x1x2x2x1, .i32⟩ : BufTy).Contents (Elt F) :=
  broadcastInDim S1x1x1x2x2x1 ![3, 4, 5] bcast_S2x2x1_S1x1x1x2x2x1_3_4_5 (val_main_v23 (F := F))
abbrev idx_main_v26 (i : S1x1x1x2x2x1.Idx) : S2x2x1.Idx := fun a => match a with
  | ⟨0, _⟩ => ⟨(i 3).val, (i 3).isLt⟩
  | ⟨1, _⟩ => ⟨(i 4).val, (i 4).isLt⟩
  | ⟨2, _⟩ => ⟨0, Nat.one_pos⟩
theorem val_main_v26_apply (i : S1x1x1x2x2x1.Idx) :
    val_main_v26 (F := F) i = val_main_v23 (F := F) (idx_main_v26 i) := by
  unfold val_main_v26
  generalize val_main_v23 (F := F) = y
  exact broadcastInDim_apply _ bcast_S2x2x1_S1x1x1x2x2x1_3_4_5 y i (idx_main_v26 i) (fun a => match a with
    | ⟨0, _⟩ => by show (i 3).val = if (2 : Nat) = 1 then 0 else (i 3).val; rw [if_neg (by decide)]
    | ⟨1, _⟩ => by show (i 4).val = if (2 : Nat) = 1 then 0 else (i 4).val; rw [if_neg (by decide)]
    | ⟨2, _⟩ => by show 0 = if (1 : Nat) = 1 then 0 else (i 5).val; rw [if_pos rfl])

-- %27 = stablehlo.broadcast_in_dim %25, dims = [0, 1, 2, 3, 4, 5] : (tensor<8192x128x2x1x1x32xi32>) -> tensor<8192x128x2x2x2x32xi32>
def val_main_v27 (x2 : (⟨S8192x128x2x32, .i8⟩ : BufTy).Contents (Elt F)) : (⟨S8192x128x2x2x2x32, .i32⟩ : BufTy).Contents (Elt F) :=
  broadcastInDim S8192x128x2x2x2x32 ![0, 1, 2, 3, 4, 5] bcast_S8192x128x2x1x1x32_S8192x128x2x2x2x32_0_1_2_3_4_5 (val_main_v25 (F := F) x2)
abbrev idx_main_v27 (i : S8192x128x2x2x2x32.Idx) : S8192x128x2x1x1x32.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
  | ⟨4, _⟩ => ⟨0, Nat.one_pos⟩
  | ⟨5, _⟩ => ⟨(i 5).val, (i 5).isLt⟩
theorem val_main_v27_apply (x2 : (⟨S8192x128x2x32, .i8⟩ : BufTy).Contents (Elt F)) (i : S8192x128x2x2x2x32.Idx) :
    val_main_v27 (F := F) x2 i = val_main_v25 (F := F) x2 (idx_main_v27 i) := by
  unfold val_main_v27
  generalize val_main_v25 (F := F) x2 = y
  exact broadcastInDim_apply _ bcast_S8192x128x2x1x1x32_S8192x128x2x2x2x32_0_1_2_3_4_5 y i (idx_main_v27 i) (fun a => match a with
    | ⟨0, _⟩ => by show (i 0).val = if (8192 : Nat) = 1 then 0 else (i 0).val; rw [if_neg (by decide)]
    | ⟨1, _⟩ => by show (i 1).val = if (128 : Nat) = 1 then 0 else (i 1).val; rw [if_neg (by decide)]
    | ⟨2, _⟩ => by show (i 2).val = if (2 : Nat) = 1 then 0 else (i 2).val; rw [if_neg (by decide)]
    | ⟨3, _⟩ => by show 0 = if (1 : Nat) = 1 then 0 else (i 3).val; rw [if_pos rfl]
    | ⟨4, _⟩ => by show 0 = if (1 : Nat) = 1 then 0 else (i 4).val; rw [if_pos rfl]
    | ⟨5, _⟩ => by show (i 5).val = if (32 : Nat) = 1 then 0 else (i 5).val; rw [if_neg (by decide)])

-- %28 = stablehlo.broadcast_in_dim %26, dims = [0, 1, 2, 3, 4, 5] : (tensor<1x1x1x2x2x1xi32>) -> tensor<8192x128x2x2x2x32xi32>
def val_main_v28 : (⟨S8192x128x2x2x2x32, .i32⟩ : BufTy).Contents (Elt F) :=
  broadcastInDim S8192x128x2x2x2x32 ![0, 1, 2, 3, 4, 5] bcast_S1x1x1x2x2x1_S8192x128x2x2x2x32_0_1_2_3_4_5 (val_main_v26 (F := F))
abbrev idx_main_v28 (i : S8192x128x2x2x2x32.Idx) : S1x1x1x2x2x1.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨(i 3).val, (i 3).isLt⟩
  | ⟨4, _⟩ => ⟨(i 4).val, (i 4).isLt⟩
  | ⟨5, _⟩ => ⟨0, Nat.one_pos⟩
theorem val_main_v28_apply (i : S8192x128x2x2x2x32.Idx) :
    val_main_v28 (F := F) i = val_main_v26 (F := F) (idx_main_v28 i) := by
  unfold val_main_v28
  generalize val_main_v26 (F := F) = y
  exact broadcastInDim_apply _ bcast_S1x1x1x2x2x1_S8192x128x2x2x2x32_0_1_2_3_4_5 y i (idx_main_v28 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show (i 3).val = if (2 : Nat) = 1 then 0 else (i 3).val; rw [if_neg (by decide)]
    | ⟨4, _⟩ => by show (i 4).val = if (2 : Nat) = 1 then 0 else (i 4).val; rw [if_neg (by decide)]
    | ⟨5, _⟩ => by show 0 = if (1 : Nat) = 1 then 0 else (i 5).val; rw [if_pos rfl])

-- %29 = stablehlo.shift_right_arithmetic %27, %28 : tensor<8192x128x2x2x2x32xi32>
def val_main_v29 (x2 : (⟨S8192x128x2x32, .i8⟩ : BufTy).Contents (Elt F)) : (⟨S8192x128x2x2x2x32, .i32⟩ : BufTy).Contents (Elt F) :=
  Host.shrsi (val_main_v27 (F := F) x2) (val_main_v28 (F := F))
theorem val_main_v29_apply (x2 : (⟨S8192x128x2x32, .i8⟩ : BufTy).Contents (Elt F)) (i : S8192x128x2x2x2x32.Idx) :
    val_main_v29 (F := F) x2 i = IntOp.shrsi .host (val_main_v27 (F := F) x2 i) (val_main_v28 (F := F) i) := rfl

-- %c_2 = stablehlo.constant dense<3> : tensor<i32>
def val_main_c_2 : (⟨S_, .i32⟩ : BufTy).Contents (Elt F) :=
  constantI S_ 32 3#32
theorem val_main_c_2_apply (i : S_.Idx) :
    val_main_c_2 (F := F) i = 3#32 := rfl

-- %30 = stablehlo.broadcast_in_dim %c_2, dims = [] : (tensor<i32>) -> tensor<8192x128x2x2x2x32xi32>
def val_main_v30 : (⟨S8192x128x2x2x2x32, .i32⟩ : BufTy).Contents (Elt F) :=
  broadcastInDim S8192x128x2x2x2x32 ![] bcast_S_S8192x128x2x2x2x32 (val_main_c_2 (F := F))
abbrev idx_main_v30 (i : S8192x128x2x2x2x32.Idx) : S_.Idx := fun a => a.elim0
theorem val_main_v30_apply (i : S8192x128x2x2x2x32.Idx) :
    val_main_v30 (F := F) i = val_main_c_2 (F := F) (idx_main_v30 i) := by
  unfold val_main_v30
  generalize val_main_c_2 (F := F) = y
  exact broadcastInDim_apply _ bcast_S_S8192x128x2x2x2x32 y i (idx_main_v30 i) (fun a => a.elim0)

-- %31 = stablehlo.and %29, %30 : tensor<8192x128x2x2x2x32xi32>
def val_main_v31 (x2 : (⟨S8192x128x2x32, .i8⟩ : BufTy).Contents (Elt F)) : (⟨S8192x128x2x2x2x32, .i32⟩ : BufTy).Contents (Elt F) :=
  andi (val_main_v29 (F := F) x2) (val_main_v30 (F := F))
theorem val_main_v31_apply (x2 : (⟨S8192x128x2x32, .i8⟩ : BufTy).Contents (Elt F)) (i : S8192x128x2x2x2x32.Idx) :
    val_main_v31 (F := F) x2 i = IntOp.andi (val_main_v29 (F := F) x2 i) (val_main_v30 (F := F) i) := rfl

-- %c_3 = stablehlo.constant dense<4> : tensor<i32>
def val_main_c_3 : (⟨S_, .i32⟩ : BufTy).Contents (Elt F) :=
  constantI S_ 32 4#32
theorem val_main_c_3_apply (i : S_.Idx) :
    val_main_c_3 (F := F) i = 4#32 := rfl

-- %32 = stablehlo.broadcast_in_dim %c_3, dims = [] : (tensor<i32>) -> tensor<8192x128x2x2x2x32xi32>
def val_main_v32 : (⟨S8192x128x2x2x2x32, .i32⟩ : BufTy).Contents (Elt F) :=
  broadcastInDim S8192x128x2x2x2x32 ![] bcast_S_S8192x128x2x2x2x32 (val_main_c_3 (F := F))
abbrev idx_main_v32 (i : S8192x128x2x2x2x32.Idx) : S_.Idx := fun a => a.elim0
theorem val_main_v32_apply (i : S8192x128x2x2x2x32.Idx) :
    val_main_v32 (F := F) i = val_main_c_3 (F := F) (idx_main_v32 i) := by
  unfold val_main_v32
  generalize val_main_c_3 (F := F) = y
  exact broadcastInDim_apply _ bcast_S_S8192x128x2x2x2x32 y i (idx_main_v32 i) (fun a => a.elim0)

-- %33 = stablehlo.shift_left %31, %32 : tensor<8192x128x2x2x2x32xi32>
def val_main_v33 (x2 : (⟨S8192x128x2x32, .i8⟩ : BufTy).Contents (Elt F)) : (⟨S8192x128x2x2x2x32, .i32⟩ : BufTy).Contents (Elt F) :=
  Host.shli (val_main_v31 (F := F) x2) (val_main_v32 (F := F))
theorem val_main_v33_apply (x2 : (⟨S8192x128x2x32, .i8⟩ : BufTy).Contents (Elt F)) (i : S8192x128x2x2x2x32.Idx) :
    val_main_v33 (F := F) x2 i = IntOp.shli .host (val_main_v31 (F := F) x2 i) (val_main_v32 (F := F) i) := rfl

-- %34 = stablehlo.or %19, %33 : tensor<8192x128x2x2x2x32xi32>
def val_main_v34 (x1 : (⟨S8192x128x2x64, .i8⟩ : BufTy).Contents (Elt F)) (x2 : (⟨S8192x128x2x32, .i8⟩ : BufTy).Contents (Elt F)) : (⟨S8192x128x2x2x2x32, .i32⟩ : BufTy).Contents (Elt F) :=
  ori (val_main_v19 (F := F) x1) (val_main_v33 (F := F) x2)
theorem val_main_v34_apply (x1 : (⟨S8192x128x2x64, .i8⟩ : BufTy).Contents (Elt F)) (x2 : (⟨S8192x128x2x32, .i8⟩ : BufTy).Contents (Elt F)) (i : S8192x128x2x2x2x32.Idx) :
    val_main_v34 (F := F) x1 x2 i = IntOp.ori (val_main_v19 (F := F) x1 i) (val_main_v33 (F := F) x2 i) := rfl

-- %35 = stablehlo.convert %34 : (tensor<8192x128x2x2x2x32xi32>) -> tensor<8192x128x2x2x2x32xf32>
def val_main_v35 (x1 : (⟨S8192x128x2x64, .i8⟩ : BufTy).Contents (Elt F)) (x2 : (⟨S8192x128x2x32, .i8⟩ : BufTy).Contents (Elt F)) : (⟨S8192x128x2x2x2x32, .f32⟩ : BufTy).Contents (Elt F) :=
  sitofp .f32 (val_main_v34 (F := F) x1 x2)
theorem val_main_v35_apply (x1 : (⟨S8192x128x2x64, .i8⟩ : BufTy).Contents (Elt F)) (x2 : (⟨S8192x128x2x32, .i8⟩ : BufTy).Contents (Elt F)) (i : S8192x128x2x2x2x32.Idx) :
    val_main_v35 (F := F) x1 x2 i = FloatOps.sitofp .f32 (val_main_v34 (F := F) x1 x2 i) := rfl

-- %36 = stablehlo.convert %35 : (tensor<8192x128x2x2x2x32xf32>) -> tensor<8192x128x2x2x2x32xbf16>
def val_main_v36 (x1 : (⟨S8192x128x2x64, .i8⟩ : BufTy).Contents (Elt F)) (x2 : (⟨S8192x128x2x32, .i8⟩ : BufTy).Contents (Elt F)) : (⟨S8192x128x2x2x2x32, .bf16⟩ : BufTy).Contents (Elt F) :=
  truncf .bf16 (val_main_v35 (F := F) x1 x2) bitsLt_bf16_f32
theorem val_main_v36_apply (x1 : (⟨S8192x128x2x64, .i8⟩ : BufTy).Contents (Elt F)) (x2 : (⟨S8192x128x2x32, .i8⟩ : BufTy).Contents (Elt F)) (i : S8192x128x2x2x2x32.Idx) :
    val_main_v36 (F := F) x1 x2 i = FloatOps.truncf .bf16 bitsLt_bf16_f32 (val_main_v35 (F := F) x1 x2 i) := rfl

-- %cst = stablehlo.constant dense<3.200000e+01> : tensor<bf16>
def val_main_cst : (⟨S_, .bf16⟩ : BufTy).Contents (Elt F) :=
  constant S_ .bf16 0x4200#16
theorem val_main_cst_apply (i : S_.Idx) :
    val_main_cst (F := F) i = FloatOps.ofBits .bf16 0x4200#16 := rfl

-- %37 = stablehlo.broadcast_in_dim %cst, dims = [] : (tensor<bf16>) -> tensor<8192x128x2x2x2x32xbf16>
def val_main_v37 : (⟨S8192x128x2x2x2x32, .bf16⟩ : BufTy).Contents (Elt F) :=
  broadcastInDim S8192x128x2x2x2x32 ![] bcast_S_S8192x128x2x2x2x32 (val_main_cst (F := F))
abbrev idx_main_v37 (i : S8192x128x2x2x2x32.Idx) : S_.Idx := fun a => a.elim0
theorem val_main_v37_apply (i : S8192x128x2x2x2x32.Idx) :
    val_main_v37 (F := F) i = val_main_cst (F := F) (idx_main_v37 i) := by
  unfold val_main_v37
  generalize val_main_cst (F := F) = y
  exact broadcastInDim_apply _ bcast_S_S8192x128x2x2x2x32 y i (idx_main_v37 i) (fun a => a.elim0)

-- %38 = stablehlo.subtract %36, %37 : tensor<8192x128x2x2x2x32xbf16>
def val_main_v38 (x1 : (⟨S8192x128x2x64, .i8⟩ : BufTy).Contents (Elt F)) (x2 : (⟨S8192x128x2x32, .i8⟩ : BufTy).Contents (Elt F)) : (⟨S8192x128x2x2x2x32, .bf16⟩ : BufTy).Contents (Elt F) :=
  subf (val_main_v36 (F := F) x1 x2) (val_main_v37 (F := F))
theorem val_main_v38_apply (x1 : (⟨S8192x128x2x64, .i8⟩ : BufTy).Contents (Elt F)) (x2 : (⟨S8192x128x2x32, .i8⟩ : BufTy).Contents (Elt F)) (i : S8192x128x2x2x2x32.Idx) :
    val_main_v38 (F := F) x1 x2 i = FloatOps.subf (val_main_v36 (F := F) x1 x2 i) (val_main_v37 (F := F) i) := rfl

-- %39 = stablehlo.reshape %38 : (tensor<8192x128x2x2x2x32xbf16>) -> tensor<8192x128x2x2x2x2x16xbf16>
def val_main_v39 (x1 : (⟨S8192x128x2x64, .i8⟩ : BufTy).Contents (Elt F)) (x2 : (⟨S8192x128x2x32, .i8⟩ : BufTy).Contents (Elt F)) : (⟨S8192x128x2x2x2x2x16, .bf16⟩ : BufTy).Contents (Elt F) :=
  shapeCast _ (val_main_v38 (F := F) x1 x2) shapeCasts_S8192x128x2x2x2x32_S8192x128x2x2x2x2x16

-- %40 = stablehlo.broadcast_in_dim %7, dims = [0, 1, 2, 3, 4, 5, 6] : (tensor<8192x128x2x2x2x2x1xbf16>) -> tensor<8192x128x2x2x2x2x16xbf16>
def val_main_v40 (x3 : (⟨S8192x128x16, .i8⟩ : BufTy).Contents (Elt F)) (r0 : (⟨S8192x128, .f32⟩ : BufTy).Contents (Elt F)) : (⟨S8192x128x2x2x2x2x16, .bf16⟩ : BufTy).Contents (Elt F) :=
  broadcastInDim S8192x128x2x2x2x2x16 ![0, 1, 2, 3, 4, 5, 6] bcast_S8192x128x2x2x2x2x1_S8192x128x2x2x2x2x16_0_1_2_3_4_5_6 (val_main_v7 (F := F) x3 r0)

-- %41 = stablehlo.multiply %39, %40 : tensor<8192x128x2x2x2x2x16xbf16>
def val_main_v41 (x1 : (⟨S8192x128x2x64, .i8⟩ : BufTy).Contents (Elt F)) (x2 : (⟨S8192x128x2x32, .i8⟩ : BufTy).Contents (Elt F)) (x3 : (⟨S8192x128x16, .i8⟩ : BufTy).Contents (Elt F)) (r0 : (⟨S8192x128, .f32⟩ : BufTy).Contents (Elt F)) : (⟨S8192x128x2x2x2x2x16, .bf16⟩ : BufTy).Contents (Elt F) :=
  mulf (val_main_v39 (F := F) x1 x2) (val_main_v40 (F := F) x3 r0)
theorem val_main_v41_apply (x1 : (⟨S8192x128x2x64, .i8⟩ : BufTy).Contents (Elt F)) (x2 : (⟨S8192x128x2x32, .i8⟩ : BufTy).Contents (Elt F)) (x3 : (⟨S8192x128x16, .i8⟩ : BufTy).Contents (Elt F)) (r0 : (⟨S8192x128, .f32⟩ : BufTy).Contents (Elt F)) (i : S8192x128x2x2x2x2x16.Idx) :
    val_main_v41 (F := F) x1 x2 x3 r0 i = FloatOps.mulf (val_main_v39 (F := F) x1 x2 i) (val_main_v40 (F := F) x3 r0 i) := rfl

-- %42 = stablehlo.reshape %41 : (tensor<8192x128x2x2x2x2x16xbf16>) -> tensor<8192x32768xbf16>
def val_main_v42 (x1 : (⟨S8192x128x2x64, .i8⟩ : BufTy).Contents (Elt F)) (x2 : (⟨S8192x128x2x32, .i8⟩ : BufTy).Contents (Elt F)) (x3 : (⟨S8192x128x16, .i8⟩ : BufTy).Contents (Elt F)) (r0 : (⟨S8192x128, .f32⟩ : BufTy).Contents (Elt F)) : (⟨S8192x32768, .bf16⟩ : BufTy).Contents (Elt F) :=
  shapeCast _ (val_main_v41 (F := F) x1 x2 x3 r0) shapeCasts_S8192x128x2x2x2x2x16_S8192x32768

-- %43 = stablehlo.reshape %arg0 : (tensor<48x1x32768xbf16>) -> tensor<48x32768xbf16>
def val_main_v43 (x0 : (⟨S48x1x32768, .bf16⟩ : BufTy).Contents (Elt F)) : (⟨S48x32768, .bf16⟩ : BufTy).Contents (Elt F) :=
  shapeCast _ (x0) shapeCasts_S48x1x32768_S48x32768
set_option backward.proofsInPublic true in
abbrev idx_main_v43 (i : S48x32768.Idx) : S48x1x32768.Idx := fun a => match a with
  | ⟨0, _⟩ => ⟨((i 0).val * 32768 + (i 1).val) / 32768, by have h0 : (i 0).val < 48 := (i 0).isLt; have h1 : (i 1).val < 32768 := (i 1).isLt; show ((i 0).val * 32768 + (i 1).val) / 32768 < 48; omega⟩
  | ⟨1, _⟩ => ⟨0, Nat.one_pos⟩
  | ⟨2, _⟩ => ⟨((i 0).val * 32768 + (i 1).val) % 32768, by have h0 : (i 0).val < 48 := (i 0).isLt; have h1 : (i 1).val < 32768 := (i 1).isLt; show ((i 0).val * 32768 + (i 1).val) % 32768 < 32768; omega⟩
theorem val_main_v43_apply (x0 : (⟨S48x1x32768, .bf16⟩ : BufTy).Contents (Elt F)) (i : S48x32768.Idx) :
    val_main_v43 (F := F) x0 i = x0 (idx_main_v43 i) := by
  unfold val_main_v43
  exact shapeCast_apply x0 shapeCasts_S48x1x32768_S48x32768 i (idx_main_v43 i)
    (by rewrite [Shape.rowMajor_val_three, Shape.rowMajor_val_two]; have h0 : (i 0).val < 48 := (i 0).isLt; have h1 : (i 1).val < 32768 := (i 1).isLt; show (((i 0).val * 32768 + (i 1).val) / 32768 * 1 + 0) * 32768 + ((i 0).val * 32768 + (i 1).val) % 32768 = (i 0).val * 32768 + (i 1).val; omega)

-- %44 = stablehlo.dot_general %43, %42, contracting_dims = [1] x [1], precision = [DEFAULT, DEFAULT] : (tensor<48x32768xbf16>, tensor<8192x32768xbf16>) -> tensor<48x8192xf32>
def val_main_v44 (x0 : (⟨S48x1x32768, .bf16⟩ : BufTy).Contents (Elt F)) (x1 : (⟨S8192x128x2x64, .i8⟩ : BufTy).Contents (Elt F)) (x2 : (⟨S8192x128x2x32, .i8⟩ : BufTy).Contents (Elt F)) (x3 : (⟨S8192x128x16, .i8⟩ : BufTy).Contents (Elt F)) (r0 : (⟨S8192x128, .f32⟩ : BufTy).Contents (Elt F)) : (⟨S48x8192, .f32⟩ : BufTy).Contents (Elt F) :=
  Host.dotGeneral dot_S48x32768_S8192x32768_S48x8192_1_1_0_0_n_n none (val_main_v43 (F := F) x0) (val_main_v42 (F := F) x1 x2 x3 r0)
theorem lhs_main_v44_0 (i : S48x8192.Idx) (q : dot_S48x32768_S8192x32768_S48x8192_1_1_0_0_n_n.contr.Idx) :
    (dot_S48x32768_S8192x32768_S48x8192_1_1_0_0_n_n.lhsIdx i q 0).val = (i 0).val := by
  unfold DotDims.lhsIdx
  rw [dif_neg (show ¬(0 : Fin S48x32768.rank) ∈ dot_S48x32768_S8192x32768_S48x8192_1_1_0_0_n_n.lhsBatch by decide), dif_pos (show (0 : Fin S48x32768.rank) ∈ dot_S48x32768_S8192x32768_S48x8192_1_1_0_0_n_n.lhsNonContracting by decide)]
  rfl
theorem lhs_main_v44_1 (i : S48x8192.Idx) (q : dot_S48x32768_S8192x32768_S48x8192_1_1_0_0_n_n.contr.Idx) :
    (dot_S48x32768_S8192x32768_S48x8192_1_1_0_0_n_n.lhsIdx i q 1).val = (q ⟨0, by decide⟩).val :=
  dot_S48x32768_S8192x32768_S48x8192_1_1_0_0_n_n.lhsIdx_val_of_single rfl i q
theorem rhs_main_v44_0 (i : S48x8192.Idx) (q : dot_S48x32768_S8192x32768_S48x8192_1_1_0_0_n_n.contr.Idx) :
    (dot_S48x32768_S8192x32768_S48x8192_1_1_0_0_n_n.rhsIdx i q 0).val = (i 1).val := by
  unfold DotDims.rhsIdx
  rw [dif_neg (show ¬(0 : Fin S8192x32768.rank) ∈ dot_S48x32768_S8192x32768_S48x8192_1_1_0_0_n_n.rhsBatch by decide), dif_pos (show (0 : Fin S8192x32768.rank) ∈ dot_S48x32768_S8192x32768_S48x8192_1_1_0_0_n_n.rhsNonContracting by decide)]
  rfl
theorem rhs_main_v44_1 (i : S48x8192.Idx) (q : dot_S48x32768_S8192x32768_S48x8192_1_1_0_0_n_n.contr.Idx) :
    (dot_S48x32768_S8192x32768_S48x8192_1_1_0_0_n_n.rhsIdx i q 1).val = (q ⟨0, by decide⟩).val :=
  dot_S48x32768_S8192x32768_S48x8192_1_1_0_0_n_n.rhsIdx_val_of_single rfl i q
abbrev lidx_main_v44 (i : S48x8192.Idx) (k : Fin 32768) : S48x32768.Idx := fun a => match a with
  | ⟨0, _⟩ => ⟨(i 0).val, (i 0).isLt⟩
  | ⟨1, _⟩ => ⟨k.val, k.isLt⟩
abbrev ridx_main_v44 (i : S48x8192.Idx) (k : Fin 32768) : S8192x32768.Idx := fun a => match a with
  | ⟨0, _⟩ => ⟨(i 1).val, (i 1).isLt⟩
  | ⟨1, _⟩ => ⟨k.val, k.isLt⟩
/-- Stated at `F := Ideal`, where the host's `dot_general` is this sum; at a bit-exact instance it is an opaque function of its operands. -/
theorem val_main_v44_apply (x0 : (⟨S48x1x32768, .bf16⟩ : BufTy).Contents (Elt Ideal)) (x1 : (⟨S8192x128x2x64, .i8⟩ : BufTy).Contents (Elt Ideal)) (x2 : (⟨S8192x128x2x32, .i8⟩ : BufTy).Contents (Elt Ideal)) (x3 : (⟨S8192x128x16, .i8⟩ : BufTy).Contents (Elt Ideal)) (r0 : (⟨S8192x128, .f32⟩ : BufTy).Contents (Elt Ideal)) (i : S48x8192.Idx) :
    val_main_v44 (F := Ideal) x0 x1 x2 x3 r0 i = ∑ k : Fin 32768, (val_main_v43 (F := Ideal) x0) (lidx_main_v44 i k) * (val_main_v42 (F := Ideal) x1 x2 x3 r0) (ridx_main_v44 i k) := by
  unfold val_main_v44
  generalize val_main_v43 (F := Ideal) x0 = y0
  generalize val_main_v42 (F := Ideal) x1 x2 x3 r0 = y1
  simp only [Host.dotGeneral]
  rw [Ideal.dotGeneral_apply, ← Equiv.sum_comp (ValueIdx.contrEquiv1 dot_S48x32768_S8192x32768_S48x8192_1_1_0_0_n_n 32768 rfl rfl).symm]
  refine Finset.sum_congr rfl fun k _ => ?_
  have hk := ValueIdx.contrEquiv1_symm_val dot_S48x32768_S8192x32768_S48x8192_1_1_0_0_n_n 32768 rfl rfl k
  have el : dot_S48x32768_S8192x32768_S48x8192_1_1_0_0_n_n.lhsIdx i ((ValueIdx.contrEquiv1 dot_S48x32768_S8192x32768_S48x8192_1_1_0_0_n_n 32768 rfl rfl).symm k) = lidx_main_v44 i k := funext fun a => Fin.ext (by
    match a with
    | ⟨0, _⟩ => exact lhs_main_v44_0 _ _
    | ⟨1, _⟩ => exact (lhs_main_v44_1 _ _).trans hk)
  have er : dot_S48x32768_S8192x32768_S48x8192_1_1_0_0_n_n.rhsIdx i ((ValueIdx.contrEquiv1 dot_S48x32768_S8192x32768_S48x8192_1_1_0_0_n_n 32768 rfl rfl).symm k) = ridx_main_v44 i k := funext fun a => Fin.ext (by
    match a with
    | ⟨0, _⟩ => exact rhs_main_v44_0 _ _
    | ⟨1, _⟩ => exact (rhs_main_v44_1 _ _).trans hk)
  rw [el, er]

-- %45 = stablehlo.convert %44 : (tensor<48x8192xf32>) -> tensor<48x8192xbf16>
def val_main_v45 (x0 : (⟨S48x1x32768, .bf16⟩ : BufTy).Contents (Elt F)) (x1 : (⟨S8192x128x2x64, .i8⟩ : BufTy).Contents (Elt F)) (x2 : (⟨S8192x128x2x32, .i8⟩ : BufTy).Contents (Elt F)) (x3 : (⟨S8192x128x16, .i8⟩ : BufTy).Contents (Elt F)) (r0 : (⟨S8192x128, .f32⟩ : BufTy).Contents (Elt F)) : (⟨S48x8192, .bf16⟩ : BufTy).Contents (Elt F) :=
  truncf .bf16 (val_main_v44 (F := F) x0 x1 x2 x3 r0) bitsLt_bf16_f32
theorem val_main_v45_apply (x0 : (⟨S48x1x32768, .bf16⟩ : BufTy).Contents (Elt F)) (x1 : (⟨S8192x128x2x64, .i8⟩ : BufTy).Contents (Elt F)) (x2 : (⟨S8192x128x2x32, .i8⟩ : BufTy).Contents (Elt F)) (x3 : (⟨S8192x128x16, .i8⟩ : BufTy).Contents (Elt F)) (r0 : (⟨S8192x128, .f32⟩ : BufTy).Contents (Elt F)) (i : S48x8192.Idx) :
    val_main_v45 (F := F) x0 x1 x2 x3 r0 i = FloatOps.truncf .bf16 bitsLt_bf16_f32 (val_main_v44 (F := F) x0 x1 x2 x3 r0 i) := rfl

/-- The term the Run module states for `main_v45` over any contents `V0` is the stage. -/
theorem val_main_v45_eq (V0 : Valuation τ sig (Elt F)) :
    truncf .bf16 (Host.dotGeneral dot_S48x32768_S8192x32768_S48x8192_1_1_0_0_n_n none (shapeCast _ (V0 (Proc.devRef .tc main_arg0)) shapeCasts_S48x1x32768_S48x32768) (shapeCast _ (mulf (shapeCast _ (subf (truncf .bf16 (sitofp .f32 (ori (andi (Host.shrsi (broadcastInDim S8192x128x2x2x2x32 ![0, 1, 2, 3, 4, 5] bcast_S8192x128x2x1x2x32_S8192x128x2x2x2x32_0_1_2_3_4_5 (shapeCast _ (extui 32 (V0 (Proc.devRef .tc main_arg1)) natLt_8_32) shapeCasts_S8192x128x2x64_S8192x128x2x1x2x32)) (broadcastInDim S8192x128x2x2x2x32 ![0, 1, 2, 3, 4, 5] bcast_S1x1x1x2x1x1_S8192x128x2x2x2x32_0_1_2_3_4_5 (broadcastInDim S1x1x1x2x1x1 ![3, 4, 5] bcast_S2x1x1_S1x1x1x2x1x1_3_4_5 (shapeCast _ (muli (iotaInDim S2 32 0) (broadcastInDim S2 ![] bcast_S_S2 (constantI S_ 32 4#32))) shapeCasts_S2_S2x1x1)))) (broadcastInDim S8192x128x2x2x2x32 ![] bcast_S_S8192x128x2x2x2x32 (constantI S_ 32 15#32))) (Host.shli (andi (Host.shrsi (broadcastInDim S8192x128x2x2x2x32 ![0, 1, 2, 3, 4, 5] bcast_S8192x128x2x1x1x32_S8192x128x2x2x2x32_0_1_2_3_4_5 (shapeCast _ (extui 32 (V0 (Proc.devRef .tc main_arg2)) natLt_8_32) shapeCasts_S8192x128x2x32_S8192x128x2x1x1x32)) (broadcastInDim S8192x128x2x2x2x32 ![0, 1, 2, 3, 4, 5] bcast_S1x1x1x2x2x1_S8192x128x2x2x2x32_0_1_2_3_4_5 (broadcastInDim S1x1x1x2x2x1 ![3, 4, 5] bcast_S2x2x1_S1x1x1x2x2x1_3_4_5 (shapeCast _ (muli (iotaInDim S4 32 0) (broadcastInDim S4 ![] bcast_S_S4 (constantI S_ 32 2#32))) shapeCasts_S4_S2x2x1)))) (broadcastInDim S8192x128x2x2x2x32 ![] bcast_S_S8192x128x2x2x2x32 (constantI S_ 32 3#32))) (broadcastInDim S8192x128x2x2x2x32 ![] bcast_S_S8192x128x2x2x2x32 (constantI S_ 32 4#32))))) bitsLt_bf16_f32) (broadcastInDim S8192x128x2x2x2x32 ![] bcast_S_S8192x128x2x2x2x32 (constant S_ .bf16 0x4200#16))) shapeCasts_S8192x128x2x2x2x32_S8192x128x2x2x2x2x16) (broadcastInDim S8192x128x2x2x2x2x16 ![0, 1, 2, 3, 4, 5, 6] bcast_S8192x128x2x2x2x2x1_S8192x128x2x2x2x2x16_0_1_2_3_4_5_6 (shapeCast _ (truncf .bf16 (mulf (broadcastInDim S8192x128x16 ![0, 1, 2] bcast_S8192x128x1_S8192x128x16_0_1_2 (broadcastInDim S8192x128x1 ![0, 1] bcast_S8192x128_S8192x128x1_0_1 (V0 (Proc.devRef .tc main_v0)))) (sitofp .f32 (extsi 32 (V0 (Proc.devRef .tc main_arg3)) natLt_8_32))) bitsLt_bf16_f32) shapeCasts_S8192x128x16_S8192x128x2x2x2x2x1))) shapeCasts_S8192x128x2x2x2x2x16_S8192x32768)) bitsLt_bf16_f32
      = val_main_v45 (F := F) (V0 (Proc.devRef .tc main_arg0)) (V0 (Proc.devRef .tc main_arg1)) (V0 (Proc.devRef .tc main_arg2)) (V0 (Proc.devRef .tc main_arg3)) (V0 (Proc.devRef .tc main_v0)) := rfl

end Cert.ReferenceIdeal.Terms

end
-- ==== Proof.RWeight.lean ====
/-
  Hand-written, untrusted. One element of the reference's dequantised weight matrix, read at its row and column: the column's superblock,
  half, field and position name the two bytes the code is cut from, the scale and the superblock's scale.
-/
module

public import proofs.«01_k».proof.Proof.RTerms
public import proofs.«01_k».proof.Proof.Bits
public import Idealize.ShloMosaic.Lib.ValueIdxRank6
public import Idealize.ShloMosaic.Lib.Pipeline.Value

@[expose] public section

noncomputable section

namespace Cert.Q6K

open Idealize.ShloMosaic

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

end Cert.Q6K

namespace Cert.ReferenceIdeal.Hand

open Cert.ReferenceIdeal Cert.ReferenceIdeal.Gen Cert.ReferenceIdeal.Terms Cert.Q6K
open Idealize.ShloMosaic

theorem shrsi_host (x : BitVec 32) (n : ℕ) (h : n < 32) : IntOp.shrsi .host x (BitVec.ofNat 32 n) = x.sshiftRight n := by
  have e : (BitVec.ofNat 32 n).toNat = n := by rw [BitVec.toNat_ofNat]; exact Nat.mod_eq_of_lt (by omega)
  unfold IntOp.shrsi
  rw [e, if_pos h]
  show x.sshiftRight (BitVec.ofNat 32 n).toNat = _
  rw [e]

theorem shli_host (x : BitVec 32) (n : ℕ) (h : n < 32) : IntOp.shli .host x (BitVec.ofNat 32 n) = x <<< n := by
  have e : (BitVec.ofNat 32 n).toNat = n := by rw [BitVec.toNat_ofNat]; exact Nat.mod_eq_of_lt (by omega)
  unfold IntOp.shli
  rw [e, if_pos h]
  show x <<< (BitVec.ofNat 32 n).toNat = _
  rw [e]

theorem sshr_byte (b : BitVec 8) (n : ℕ) : (b.setWidth 32).sshiftRight n = BitVec.ofNat 32 (b.toNat / 2 ^ n) := by
  have hb := b.isLt
  have hs : (b.setWidth 32).toNat = b.toNat := by rw [BitVec.toNat_setWidth]; exact Nat.mod_eq_of_lt (by omega)
  have hm : (b.setWidth 32).msb = false := by
    rw [BitVec.msb_eq_false_iff_two_mul_lt, hs]; omega
  rw [BitVec.sshiftRight_eq_of_msb_false hm]
  apply BitVec.eq_of_toNat_eq
  rw [BitVec.toNat_ushiftRight, hs, BitVec.toNat_ofNat, Nat.shiftRight_eq_div_pow]
  have : b.toNat / 2 ^ n ≤ b.toNat := Nat.div_le_self _ _
  rw [Nat.mod_eq_of_lt (by omega)]

/-- The code of a field, as the reference puts it together from its two bytes. -/
theorem code_word (p q : ℕ) (hp : p < 2) (hq : q < 2) (lb hb : BitVec 8) :
    ((((lb.setWidth 32).sshiftRight (4 * p)) &&& 15#32) ||| ((((hb.setWidth 32).sshiftRight (2 * (2 * p + q))) &&& 3#32) <<< 4)).toInt
      = (code (2 * p + q) lb hb : ℤ) := by
  have h1 : (((lb.setWidth 32).sshiftRight (4 * p)) &&& 15#32) = BitVec.ofNat 32 (lb.toNat / 2 ^ (4 * p) % 16) := by
    rw [sshr_byte]
    have hl := lb.isLt
    have : lb.toNat / 2 ^ (4 * p) ≤ lb.toNat := Nat.div_le_self _ _
    apply BitVec.eq_of_toNat_eq
    rw [BitVec.toNat_and, BitVec.toNat_ofNat, BitVec.toNat_ofNat, BitVec.toNat_ofNat, show 15 % 2 ^ 32 = 2 ^ 4 - 1 by rfl,
      Nat.mod_eq_of_lt (show lb.toNat / 2 ^ (4 * p) < 2 ^ 32 by omega), Nat.and_two_pow_sub_one_eq_mod]
    show lb.toNat / 2 ^ (4 * p) % 16 = lb.toNat / 2 ^ (4 * p) % 16 % 2 ^ 32
    exact (Nat.mod_eq_of_lt (by omega)).symm
  have h2 : (((hb.setWidth 32).sshiftRight (2 * (2 * p + q))) &&& 3#32) = BitVec.ofNat 32 (hb.toNat / 2 ^ (2 * (2 * p + q)) % 4) := by
    rw [sshr_byte]
    have hl := hb.isLt
    have : hb.toNat / 2 ^ (2 * (2 * p + q)) ≤ hb.toNat := Nat.div_le_self _ _
    apply BitVec.eq_of_toNat_eq
    rw [BitVec.toNat_and, BitVec.toNat_ofNat, BitVec.toNat_ofNat, BitVec.toNat_ofNat, show 3 % 2 ^ 32 = 2 ^ 2 - 1 by rfl,
      Nat.mod_eq_of_lt (show hb.toNat / 2 ^ (2 * (2 * p + q)) < 2 ^ 32 by omega), Nat.and_two_pow_sub_one_eq_mod]
    show hb.toNat / 2 ^ (2 * (2 * p + q)) % 4 = hb.toNat / 2 ^ (2 * (2 * p + q)) % 4 % 2 ^ 32
    exact (Nat.mod_eq_of_lt (by omega)).symm
  rw [h1, h2]
  unfold code
  rw [show (2 * p + q) / 2 = p by omega]
  generalize lb.toNat / 2 ^ (4 * p) % 16 = a, hb.toNat / 2 ^ (2 * (2 * p + q)) % 4 = b,
    (Nat.mod_lt (lb.toNat / 2 ^ (4 * p)) (show 0 < 16 by decide)) = ha,
    (Nat.mod_lt (hb.toNat / 2 ^ (2 * (2 * p + q))) (show 0 < 4 by decide)) = hb'
  revert b
  interval_cases a <;> intro b h <;> interval_cases b <;> rfl

theorem ofBits_32 : Ideal.ofBits .bf16 0x4200#16 = ((32 : ℝ) : EReal) := by
  simp only [Ideal.ofBits, Ideal.ieee, show (BitVec.extractLsb' 7 8 0x4200#16).toNat = 132 by decide,
    show (BitVec.extractLsb' 0 7 0x4200#16).toNat = 0 by decide, show (BitVec.extractLsb' 15 1 0x4200#16) = 0#1 by decide]
  norm_num

section
variable (x1 : (⟨S8192x128x2x64, .i8⟩ : BufTy).Contents (Elt Ideal)) (x2 : (⟨S8192x128x2x32, .i8⟩ : BufTy).Contents (Elt Ideal))
  (x3 : (⟨S8192x128x16, .i8⟩ : BufTy).Contents (Elt Ideal)) (r0 : (⟨S8192x128, .f32⟩ : BufTy).Contents (Elt Ideal))

/-- The codes of one position: superblock `n`, half `h`, nibble `p`, byte `q`, position `e`. -/
theorem codes_apply (o : Fin 8192) (n : Fin 128) (h p q : Fin 2) (e : Fin 32) (w : Fin 64) (hw : w.val = 32 * q.val + e.val) :
    (val_main_v38 (F := Ideal) x1 x2 (ix6 o n h p q e) : EReal)
      = ((((code (2 * p.val + q.val) (x1 (ix4 o n h w)) (x2 (ix4 o n h e)) : ℤ) - 32 : ℤ) : ℝ) : EReal) := by
  have hA : val_main_v13 (F := Ideal) x1 (idx_main_v15 (ix6 o n h p q e)) = val_main_v12 (F := Ideal) x1 (ix4 o n h w) := by
    unfold val_main_v13
    refine shapeCast_apply _ _ _ (ix4 o n h w) ?_
    rewrite [Shape.rowMajor_val_four, Shape.rowMajor_val_six]
    show ((o.val * 128 + n.val) * 2 + h.val) * 64 + w.val = ((((o.val * 128 + n.val) * 2 + h.val) * 1 + 0) * 2 + q.val) * 32 + e.val
    omega
  have hB : val_main_v25 (F := Ideal) x2 (idx_main_v27 (ix6 o n h p q e)) = val_main_v24 (F := Ideal) x2 (ix4 o n h e) := by
    unfold val_main_v25
    refine shapeCast_apply _ _ _ (ix4 o n h e) ?_
    rewrite [Shape.rowMajor_val_four, Shape.rowMajor_val_six]
    show ((o.val * 128 + n.val) * 2 + h.val) * 32 + e.val = ((((o.val * 128 + n.val) * 2 + h.val) * 1 + 0) * 1 + 0) * 32 + e.val
    omega
  have hp := p.isLt
  have hq := q.isLt
  have s1 : val_main_v16 (F := Ideal) (ix6 o n h p q e) = BitVec.ofNat 32 (4 * p.val) := by
    rw [val_main_v16_apply, val_main_v14_apply, val_main_v11_apply, val_main_v10_apply, val_main_v8_apply, val_main_v9_apply, val_main_c_apply]
    show BitVec.ofNat 32 ((p.val * 1 + 0) * 1 + 0) * 4#32 = _
    fin_cases p <;> rfl
  have s2 : val_main_v28 (F := Ideal) (ix6 o n h p q e) = BitVec.ofNat 32 (2 * (2 * p.val + q.val)) := by
    rw [val_main_v28_apply, val_main_v26_apply, val_main_v23_apply, val_main_v22_apply, val_main_v20_apply, val_main_v21_apply, val_main_c_1_apply]
    show BitVec.ofNat 32 ((p.val * 2 + q.val) * 1 + 0) * 2#32 = _
    fin_cases p <;> fin_cases q <;> rfl
  have hi : (val_main_v34 (F := Ideal) x1 x2 (ix6 o n h p q e) : BitVec 32).toInt
      = (code (2 * p.val + q.val) (x1 (ix4 o n h w)) (x2 (ix4 o n h e)) : ℤ) := by
    rw [val_main_v34_apply, val_main_v19_apply, val_main_v17_apply, val_main_v15_apply, hA, val_main_v12_apply, s1,
      val_main_v18_apply, val_main_c_0_apply, val_main_v33_apply, val_main_v31_apply, val_main_v29_apply, val_main_v27_apply, hB,
      val_main_v24_apply, s2, val_main_v30_apply, val_main_c_2_apply, val_main_v32_apply, val_main_c_3_apply,
      shrsi_host _ _ (by omega), shrsi_host _ _ (by omega), shli_host _ 4 (by decide)]
    exact code_word p.val q.val hp hq _ _
  rw [val_main_v38_apply, val_main_v36_apply, val_main_v35_apply, val_main_v37_apply, val_main_cst_apply]
  show (((val_main_v34 (F := Ideal) x1 x2 (ix6 o n h p q e) : BitVec 32).toInt : ℝ) : EReal) - Ideal.ofBits .bf16 0x4200#16 = _
  rw [hi, ofBits_32, ← EReal.coe_sub]
  push_cast
  rfl

/-- The scales of one position. -/
theorem scale_apply (o : Fin 8192) (n : Fin 128) (s : Fin 16) :
    (val_main_v6 (F := Ideal) x3 r0 (ix3 o n s) : EReal) = (r0 (ix2 o n) : EReal) * (((x3 (ix3 o n s) : BitVec 8).toInt : ℝ) : EReal) := by
  have hr : val_main_v4 (F := Ideal) r0 (ix3 o n s) = r0 (ix2 o n) := by
    rw [val_main_v4_apply, val_main_v1_apply]
    exact congrArg r0 (funext fun a => Fin.ext (by fin_cases a <;> rfl))
  rw [val_main_v6_apply, val_main_v5_apply, hr, val_main_v3_apply, val_main_v2_apply]
  show (r0 (ix2 o n) : EReal) * ((((x3 (ix3 o n s) : BitVec 8).signExtend 32).toInt : ℝ) : EReal) = _
  rw [BitVec.toInt_signExtend_of_le (by decide)]

/-- One element of the weight matrix. -/
theorem weight_apply (o : Fin 8192) (n : Fin 128) (h p q : Fin 2) (e : Fin 32) (w : Fin 64) (hw : w.val = 32 * q.val + e.val)
    (s : Fin 16) (hs : s.val = 8 * h.val + 4 * p.val + 2 * q.val + e.val / 16)
    (k : Fin 32768) (hk : k.val = 256 * n.val + 128 * h.val + 64 * p.val + 32 * q.val + e.val) :
    (val_main_v42 (F := Ideal) x1 x2 x3 r0 (ix2 o k) : EReal)
      = ((((code (2 * p.val + q.val) (x1 (ix4 o n h w)) (x2 (ix4 o n h e)) : ℤ) - 32 : ℤ) : ℝ) : EReal)
        * ((r0 (ix2 o n) : EReal) * (((x3 (ix3 o n s) : BitVec 8).toInt : ℝ) : EReal)) := by
  have he := e.isLt
  have h42 : val_main_v42 (F := Ideal) x1 x2 x3 r0 (ix2 o k)
      = val_main_v41 (F := Ideal) x1 x2 x3 r0 (ix7 o n h p q (⟨e.val / 16, by omega⟩ : Fin 2) (⟨e.val % 16, by omega⟩ : Fin 16)) := by
    unfold val_main_v42
    refine shapeCast_apply _ _ _ _ ?_
    rewrite [rowMajor_val_seven, Shape.rowMajor_val_two]
    show (((((o.val * 128 + n.val) * 2 + h.val) * 2 + p.val) * 2 + q.val) * 2 + e.val / 16) * 16 + e.val % 16 = o.val * 32768 + k.val
    omega
  have h39 : val_main_v39 (F := Ideal) x1 x2 (ix7 o n h p q (⟨e.val / 16, by omega⟩ : Fin 2) (⟨e.val % 16, by omega⟩ : Fin 16))
      = val_main_v38 (F := Ideal) x1 x2 (ix6 o n h p q e) := by
    unfold val_main_v39
    refine shapeCast_apply _ _ _ _ ?_
    rewrite [rowMajor_val_seven, Shape.rowMajor_val_six]
    show ((((o.val * 128 + n.val) * 2 + h.val) * 2 + p.val) * 2 + q.val) * 32 + e.val = (((((o.val * 128 + n.val) * 2 + h.val) * 2 + p.val) * 2 + q.val) * 2 + e.val / 16) * 16 + e.val % 16
    omega
  have h40 : val_main_v40 (F := Ideal) x3 r0 (ix7 o n h p q (⟨e.val / 16, by omega⟩ : Fin 2) (⟨e.val % 16, by omega⟩ : Fin 16))
      = val_main_v7 (F := Ideal) x3 r0 (ix7 o n h p q (⟨e.val / 16, by omega⟩ : Fin 2) (0 : Fin 1)) := by
    unfold val_main_v40
    generalize val_main_v7 (F := Ideal) x3 r0 = y
    exact broadcastInDim_apply _ _ y _ _ (fun a => by fin_cases a <;> rfl)
  have h7 : val_main_v7 (F := Ideal) x3 r0 (ix7 o n h p q (⟨e.val / 16, by omega⟩ : Fin 2) (0 : Fin 1))
      = val_main_v6 (F := Ideal) x3 r0 (ix3 o n s) := by
    unfold val_main_v7
    refine shapeCast_apply _ _ _ _ ?_
    rewrite [rowMajor_val_seven, Shape.rowMajor_val_three]
    show (o.val * 128 + n.val) * 16 + s.val = (((((o.val * 128 + n.val) * 2 + h.val) * 2 + p.val) * 2 + q.val) * 2 + e.val / 16) * 1 + 0
    omega
  rw [h42, val_main_v41_apply, h39, h40, h7]
  exact congrArg₂ (fun u v : EReal => u * v) (codes_apply x1 x2 o n h p q e w hw) (scale_apply x3 r0 o n s)

end

end Cert.ReferenceIdeal.Hand

end
-- ==== Proof.IHost.lean ====
/-
  Hand-written, untrusted. The arrays the kernel's launch is given, element by element in the arguments: each packed array with its
  superblocks moved to the lanes, the activations with their columns in the order the kernel takes them.
-/
module

public import proofs.«01_k».proof.Proof.Gen.KernelIdeal.Frame
public import proofs.«01_k».proof.Proof.RWeight
public import proofs.«01_k».proof.Proof.Mem
public import Idealize.ShloMosaic.Lib.StableHlo.Run

@[expose] public section

set_option maxRecDepth 16384

noncomputable section

namespace Cert.KernelIdeal.Host

open Cert.KernelIdeal Cert.KernelIdeal.Gen Cert.Q6K
open Idealize.ShloMosaic Idealize.ShloMosaic.TcCoe Idealize.SL.Sem Idealize.ShloMosaic.StableHlo

variable (m : (ℓ : Loc nD τ sig) → Buf (Elt Ideal) ℓ) (c : Dev nD)

theorem V_v1 : V m c main_v1 = shapeCast S1048576x128 (transpose S8192x2x64x128 [0, 2, 3, 1] (m ((c : Thread nD τ).loc main_arg1)) transposes_S8192x128x2x64_S8192x2x64x128_0_2_3_1) shapeCasts_S8192x2x64x128_S1048576x128 := by
  unfold V hostOps0
  after_results_simp <;> rfl

theorem V_v3 : V m c main_v3 = shapeCast S524288x128 (transpose S8192x2x32x128 [0, 2, 3, 1] (m ((c : Thread nD τ).loc main_arg2)) transposes_S8192x128x2x32_S8192x2x32x128_0_2_3_1) shapeCasts_S8192x2x32x128_S524288x128 := by
  unfold V hostOps0
  after_results_simp <;> rfl

theorem V_v5 : V m c main_v5 = shapeCast S131072x128 (transpose S8192x16x128 [0, 2, 1] (m ((c : Thread nD τ).loc main_arg3)) transposes_S8192x128x16_S8192x16x128_0_2_1) shapeCasts_S8192x16x128_S131072x128 := by
  unfold V hostOps0
  after_results_simp <;> rfl

theorem V_v8 : V m c main_v8 = shapeCast S128x48x256 (transpose S2x8x4x2x48x64x4 [3, 5, 4, 1, 0, 2, 6] (shapeCast S48x2x64x2x4x8x4 (m ((c : Thread nD τ).loc main_arg0)) shapeCasts_S48x1x32768_S48x2x64x2x4x8x4) transposes_S48x2x64x2x4x8x4_S2x8x4x2x48x64x4_3_5_4_1_0_2_6) shapeCasts_S2x8x4x2x48x64x4_S128x48x256 := by
  unfold V hostOps0
  after_results_simp <;> rfl

theorem v1_apply (o : Fin 8192) (n : Fin 128) (h : Fin 2) (w : Fin 64) (R : Fin 1048576) (hR : R.val = 128 * o.val + 64 * h.val + w.val) :
    V m c main_v1 (ix2 R n) = m ((c : Thread nD τ).loc main_arg1) (ix4 o n h w) := by
  rw [V_v1]
  refine (shapeCast_apply _ _ (ix2 R n) (ix4 o h w n) ?_).trans ?_
  · rewrite [Shape.rowMajor_val_four, Shape.rowMajor_val_two]
    show ((o.val * 2 + h.val) * 64 + w.val) * 128 + n.val = R.val * 128 + n.val
    omega
  · exact transpose_apply _ _ _ _ (ix4 o n h w) (fun a => by fin_cases a <;> rfl)

theorem v3_apply (o : Fin 8192) (n : Fin 128) (h : Fin 2) (e : Fin 32) (R : Fin 524288) (hR : R.val = 64 * o.val + 32 * h.val + e.val) :
    V m c main_v3 (ix2 R n) = m ((c : Thread nD τ).loc main_arg2) (ix4 o n h e) := by
  rw [V_v3]
  refine (shapeCast_apply _ _ (ix2 R n) (ix4 o h e n) ?_).trans ?_
  · rewrite [Shape.rowMajor_val_four, Shape.rowMajor_val_two]
    show ((o.val * 2 + h.val) * 32 + e.val) * 128 + n.val = R.val * 128 + n.val
    omega
  · exact transpose_apply _ _ _ _ (ix4 o n h e) (fun a => by fin_cases a <;> rfl)

theorem v5_apply (o : Fin 8192) (n : Fin 128) (s : Fin 16) (R : Fin 131072) (hR : R.val = 16 * o.val + s.val) :
    V m c main_v5 (ix2 R n) = m ((c : Thread nD τ).loc main_arg3) (ix3 o n s) := by
  rw [V_v5]
  refine (shapeCast_apply _ _ (ix2 R n) (ix3 o s n) ?_).trans ?_
  · rewrite [Shape.rowMajor_val_three, Shape.rowMajor_val_two]
    show (o.val * 16 + s.val) * 128 + n.val = R.val * 128 + n.val
    omega
  · exact transpose_apply _ _ _ _ (ix3 o n s) (fun a => by fin_cases a <;> rfl)

theorem v8_apply (t : Fin 48) (h nh : Fin 2) (g : Fin 8) (f : Fin 4) (a : Fin 64) (b : Fin 4) (R : Fin 128) (r : Fin 256) (K : Fin 32768)
    (hR : R.val = 64 * h.val + 8 * g.val + 2 * f.val + nh.val) (hr : r.val = 4 * a.val + b.val)
    (hK : K.val = 16384 * nh.val + 256 * a.val + 128 * h.val + 32 * f.val + 4 * g.val + b.val) :
    V m c main_v8 (ix3 R t r) = m ((c : Thread nD τ).loc main_arg0) (ix3 t (0 : Fin 1) K) := by
  rw [V_v8]
  refine (shapeCast_apply _ _ (ix3 R t r) (ix7 h g f nh t a b) ?_).trans ?_
  · rewrite [rowMajor_val_seven, Shape.rowMajor_val_three]
    show (((((h.val * 8 + g.val) * 4 + f.val) * 2 + nh.val) * 48 + t.val) * 64 + a.val) * 4 + b.val = (R.val * 48 + t.val) * 256 + r.val
    omega
  refine (transpose_apply _ _ _ _ (ix7 t nh a h f g b) (fun x => by fin_cases x <;> rfl)).trans ?_
  refine shapeCast_apply _ _ (ix7 t nh a h f g b) (ix3 t (0 : Fin 1) K) ?_
  rewrite [rowMajor_val_seven, Shape.rowMajor_val_three]
  show (t.val * 1 + 0) * 32768 + K.val = (((((t.val * 2 + nh.val) * 64 + a.val) * 2 + h.val) * 4 + f.val) * 8 + g.val) * 4 + b.val
  omega

/-! ## The blocks of one grid point -/

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = 0 ∧ win0_4.index t 1 = 0 ∧ win0_4.index t 2 = 0 := by decide +kernel
theorem idx5 : ∀ t : Fin cfg0.N, win0_5.index t 0 = 0 ∧ win0_5.index t 1 = t.val := by decide +kernel

theorem blk0_apply (t : Fin cfg0.N) (o : Fin 8192) (n : Fin 128) (h : Fin 2) (w : Fin 64) (R : ℕ) (hlt : R < 32768)
    (hR : 32768 * t.val + R = 128 * o.val + 64 * h.val + w.val) :
    at' (α := BitVec 8) (iblk m c 0 t : S32768x128.Idx → BitVec 8) ![R, n.val] = m ((c : Thread nD τ).loc main_arg1) (ix4 o n h w) := by
  have ho := o.isLt
  rw [at_eq (α := BitVec 8) _ _ (ix2 (⟨R, hlt⟩ : Fin 32768) n) (by intro a; fin_cases a <;> rfl),
    ← v1_apply m c o n h w ⟨32768 * t.val + R, by omega⟩ hR]
  unfold iblk
  rw [View.read_apply]
  show V m c main_v1 _ = V m c main_v1 _
  refine congrArg (V m c main_v1) (funext fun a => Fin.ext ?_)
  match a with
  | ⟨0, _⟩ => show win0_0.index t 0 * 32768 + 1 * R = 32768 * t.val + R; rw [(idx0 t).1]; omega
  | ⟨1, _⟩ => show win0_0.index t 1 * 128 + 1 * n.val = n.val; rw [(idx0 t).2]; omega

theorem blk1_apply (t : Fin cfg0.N) (o : Fin 8192) (n : Fin 128) (h : Fin 2) (e : Fin 32) (R : ℕ) (hlt : R < 16384)
    (hR : 16384 * t.val + R = 64 * o.val + 32 * h.val + e.val) :
    at' (α := BitVec 8) (iblk m c 1 t : S16384x128.Idx → BitVec 8) ![R, n.val] = m ((c : Thread nD τ).loc main_arg2) (ix4 o n h e) := by
  have ho := o.isLt
  rw [at_eq (α := BitVec 8) _ _ (ix2 (⟨R, hlt⟩ : Fin 16384) n) (by intro a; fin_cases a <;> rfl),
    ← v3_apply m c o n h e ⟨16384 * t.val + R, by omega⟩ hR]
  unfold iblk
  rw [View.read_apply]
  show V m c main_v3 _ = V m c main_v3 _
  refine congrArg (V m c main_v3) (funext fun a => Fin.ext ?_)
  match a with
  | ⟨0, _⟩ => show win0_1.index t 0 * 16384 + 1 * R = 16384 * t.val + R; rw [(idx1 t).1]; omega
  | ⟨1, _⟩ => show win0_1.index t 1 * 128 + 1 * n.val = n.val; rw [(idx1 t).2]; omega

theorem blk2_apply (t : Fin cfg0.N) (o : Fin 8192) (n : Fin 128) (s : Fin 16) (R : ℕ) (hlt : R < 4096)
    (hR : 4096 * t.val + R = 16 * o.val + s.val) :
    at' (α := BitVec 8) (iblk m c 2 t : S4096x128.Idx → BitVec 8) ![R, n.val] = m ((c : Thread nD τ).loc main_arg3) (ix3 o n s) := by
  have ho := o.isLt
  rw [at_eq (α := BitVec 8) _ _ (ix2 (⟨R, hlt⟩ : Fin 4096) n) (by intro a; fin_cases a <;> rfl),
    ← v5_apply m c o n s ⟨4096 * t.val + R, by omega⟩ hR]
  unfold iblk
  rw [View.read_apply]
  show V m c main_v5 _ = V m c main_v5 _
  refine congrArg (V m c main_v5) (funext fun a => Fin.ext ?_)
  match a with
  | ⟨0, _⟩ => show win0_2.index t 0 * 4096 + 1 * R = 4096 * t.val + R; rw [(idx2 t).1]; omega
  | ⟨1, _⟩ => show win0_2.index t 1 * 128 + 1 * n.val = n.val; rw [(idx2 t).2]; omega

theorem blk3_apply (t : Fin cfg0.N) (o : Fin 8192) (n : Fin 128) (R : ℕ) (hlt : R < 256) (hR : 256 * t.val + R = o.val) :
    at' (α := BitVec 16) (iblk m c 3 t : S256x128.Idx → BitVec 16) ![R, n.val] = m ((c : Thread nD τ).loc main_arg4) (ix2 o n) := by
  rw [at_eq (α := BitVec 16) _ _ (ix2 (⟨R, hlt⟩ : Fin 256) n) (by intro a; fin_cases a <;> rfl), ← V_main_arg4 m c]
  unfold iblk
  rw [View.read_apply]
  show V m c main_arg4 _ = V m c main_arg4 _
  refine congrArg (V m c main_arg4) (funext fun a => Fin.ext ?_)
  match a with
  | ⟨0, _⟩ => show win0_3.index t 0 * 256 + 1 * R = o.val; rw [(idx3 t).1]; omega
  | ⟨1, _⟩ => show win0_3.index t 1 * 128 + 1 * n.val = n.val; rw [(idx3 t).2]; omega

theorem blk4_apply (t : Fin cfg0.N) (x : Fin 48) (h nh : Fin 2) (g : Fin 8) (f : Fin 4) (a : Fin 64) (b : Fin 4) (R r : ℕ) (K : Fin 32768)
    (hR : R = 64 * h.val + 8 * g.val + 2 * f.val + nh.val) (hr : r = 4 * a.val + b.val)
    (hK : K.val = 16384 * nh.val + 256 * a.val + 128 * h.val + 32 * f.val + 4 * g.val + b.val) :
    at' (α := EReal) (iblk m c 4 t : S128x48x256.Idx → EReal) ![R, x.val, r] = m ((c : Thread nD τ).loc main_arg0) (ix3 x (0 : Fin 1) K) := by
  rw [at_eq (α := EReal) _ _ (ix3 (⟨R, by omega⟩ : Fin 128) x (⟨r, by omega⟩ : Fin 256)) (by intro a; fin_cases a <;> rfl),
    ← v8_apply m c x h nh g f a b ⟨R, by omega⟩ ⟨r, by omega⟩ K hR hr hK]
  unfold iblk
  rw [View.read_apply]
  show V m c main_v8 _ = V m c main_v8 _
  refine congrArg (V m c main_v8) (funext fun q => Fin.ext ?_)
  match q with
  | ⟨0, _⟩ => show win0_4.index t 0 * 128 + 1 * R = R; rw [(idx4 t).1]; omega
  | ⟨1, _⟩ => show win0_4.index t 1 * 48 + 1 * x.val = x.val; rw [(idx4 t).2.1]; omega
  | ⟨2, _⟩ => show win0_4.index t 2 * 256 + 1 * r = r; rw [(idx4 t).2.2]; omega

end Cert.KernelIdeal.Host

end
-- ==== Proof.RValue.lean ====
/-
  Hand-written, untrusted. The reference's run, read: its first step leaves the half-precision numbers the bit patterns of `d` denote, and
  one element of its result is the sum, over the columns, of the activation times the dequantised weight.
-/
module

public import proofs.«01_k».proof.Proof.RWeight
public import proofs.«01_k».proof.Proof.IPay
public import proofs.«01_k».proof.Proof.Gen.ReferenceIdeal.Frame
public import proofs.«01_k».proof.Proof.Gen.ReferenceIdeal.Run
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Terms Cert.Q6K
open Idealize.ShloMosaic Idealize.ShloMosaic.TcCoe Idealize.SL.Sem
open Cert.KernelIdeal.Hand (halfOf)

variable (m : (ℓ : Loc nD τ sig) → Buf (Elt Ideal) ℓ) (ρ : Dev nD → PrngReg)

theorem select_ne16 {α : Type} (x y : BitVec 16) (a b : α) : Scalar.select (IntOp.cmpi .ne x y) a b = if x ≠ y then a else b := by
  unfold Scalar.select IntOp.cmpi
  by_cases h : x = y
  · rw [if_neg (not_not.2 h), if_neg]
    simp only [bne, beq_iff_eq.2 h]; decide
  · rw [if_pos h, if_pos]
    simp only [bne, beq_eq_false_iff_ne.2 h]; rfl

/-- One element of what the first step computes from the bit patterns. -/
theorem pay1_apply (X : S8192x128.Idx → BitVec 16) (i : S8192x128.Idx) : (k0_pay1 (F := Ideal) X i : EReal) = halfOf (X i) := by
  unfold k0_pay1
  refine (select_ne16 (X i &&& 32768#16) 0#16 (Ideal.ofBits .f32 0#32 - mag16 (X i) : EReal) (mag16 (X i))).trans ?_
  unfold halfOf
  rw [ofBits_zero, zero_sub]

theorem hz : (![0, 0] : Fin 2 → Nat) = fun _ => 0 := funext fun a => by fin_cases a <;> rfl

theorem out0_1_eq (x0 : Vec Ideal S8192x128 .i16) : out0_1 (F := Ideal) x0 = k0_pay1 x0 := by
  unfold out0_1
  rw [View.canon_unit_zero hz, View.ld_unit_zero (S := S8192x128) hz]

/-- What the first step leaves. -/
def halves (c : Dev nD) : Buf (Elt Ideal) ((c.tc : Thread nD τ).loc main_v0) :=
  k0_pay1 (F := Ideal) (m ((c.tc : Thread nD τ).loc main_arg4))

theorem iblk_eq (c : Dev nD) (t : Fin cfg0.N) : (iblk m c 0 t : Vec Ideal S8192x128 .i16) = m ((c.tc : Thread nD τ).loc main_arg4) := by
  unfold iblk
  have hz' : (fun a => win0_0.index t a * main_arg4.ty.shape.size a) = fun _ => 0 := funext fun a => by
    fin_cases a <;> exact Nat.zero_mul _
  exact Memref.read_access_unit_zero (Elt Ideal) main_arg4 hz' (fun a => by rw [congrFun hz' a]; simp) _

theorem reg_eq (c : Dev nD) : Value.reg_main_v0 m c = halves m c := by
  unfold Value.reg_main_v0
  refine (dats m 0 c).arrAt_eq_of_covers 1 (halves m c) (by decide +kernel) ?_
  intro t _ y
  rw [after0_1, out0_1_eq, iblk_eq]
  refine congrArg (k0_pay1 (F := Ideal) (m ((c.tc : Thread nD τ).loc main_arg4))) (funext fun a => Fin.ext ?_)
  exact ((cfg0.win 1).rect_emb_val_of_index_zero t a (by fin_cases a <;> rfl) y).symm

/-- One element of the reference's result. -/
theorem result_apply (c : Dev nD) (t : Fin 48) (o : Fin 8192) :
    (val_main_v45 (F := Ideal) (m ((c.tc : Thread nD τ).loc main_arg0)) (m ((c.tc : Thread nD τ).loc main_arg1)) (m ((c.tc : Thread nD τ).loc main_arg2)) (m ((c.tc : Thread nD τ).loc main_arg3)) (Value.reg_main_v0 m c) (ix2 t o) : EReal)
      = ∑ k : Fin 32768, @HMul.hMul EReal EReal EReal instHMul (m ((c.tc : Thread nD τ).loc main_arg0) (ix3 t (0 : Fin 1) k))
          (val_main_v42 (F := Ideal) (m ((c.tc : Thread nD τ).loc main_arg1)) (m ((c.tc : Thread nD τ).loc main_arg2)) (m ((c.tc : Thread nD τ).loc main_arg3)) (Value.reg_main_v0 m c) (ix2 o k)) := by
  rw [val_main_v45_apply]
  refine (val_main_v44_apply _ _ _ _ _ _).trans (Finset.sum_congr rfl fun k _ => ?_)
  have hk := k.isLt
  refine congrArg₂ (fun u v : EReal => u * v) ?_ ?_
  · rw [val_main_v43_apply]
    refine congrArg (m ((c.tc : Thread nD τ).loc main_arg0)) (funext fun a => Fin.ext ?_)
    fin_cases a
    · show (t.val * 32768 + k.val) / 32768 = t.val
      omega
    · rfl
    · show (t.val * 32768 + k.val) % 32768 = k.val
      omega
  · refine congrArg (val_main_v42 (F := Ideal) _ _ _ _) (funext fun a => Fin.ext ?_)
    fin_cases a <;> rfl

/-- The reference's run: its result at the named term, its arguments as launched. -/
theorem run_named : θ_run defs (onTc (τ := τ) (main (F := Ideal))) ⟨m, fun _ => 0, ρ⟩ fun r => ∀ c : Dev nD,
      r.2.mem ((c.tc : Thread nD τ).loc main_v45) = val_main_v45 (F := Ideal) (m ((c.tc : Thread nD τ).loc main_arg0)) (m ((c.tc : Thread nD τ).loc main_arg1)) (m ((c.tc : Thread nD τ).loc main_arg2)) (m ((c.tc : Thread nD τ).loc main_arg3)) (Value.reg_main_v0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run m ρ)

end Cert.ReferenceIdeal.Hand

end
-- ==== Proof.Columns.lean ====
/-
  Hand-written, untrusted. One weight of the kernel's product, from its blocks, against the reference's, and the order in which the kernel
  goes through the columns: unit, field, half of the superblocks, row.
-/
module

public import proofs.«01_k».proof.Proof.IBlock

@[expose] public section

set_option maxRecDepth 16384

noncomputable section

namespace Cert.KernelIdeal.Hand

open Cert.KernelIdeal Cert.KernelIdeal.Gen Cert.Q6K
open Idealize.ShloMosaic

/-- Four times the code and a quarter of the scale is the code and the scale. -/
theorem quarter_out (a : ℤ) (d s : EReal) :
    ((((4 * a : ℤ) : ℝ)) : EReal) * (d * (((1 / 4 : ℝ)) : EReal) * s) = (((a : ℤ) : ℝ) : EReal) * (d * s) := by
  have h4 : ((((4 * a : ℤ) : ℝ)) : EReal) = ((4 : ℝ) : EReal) * (((a : ℤ) : ℝ) : EReal) := by
    rw [← EReal.coe_mul]; push_cast; rfl
  have h1 : ((4 : ℝ) : EReal) * (((1 / 4 : ℝ)) : EReal) = 1 := by
    rw [← EReal.coe_mul]; norm_num
  rw [h4]
  generalize ((4 : ℝ) : EReal) = p at *
  generalize (((1 / 4 : ℝ)) : EReal) = q at *
  generalize (((a : ℤ) : ℝ) : EReal) = z
  calc p * z * (d * q * s) = (p * q) * (z * (d * s)) := by ac_rfl
    _ = z * (d * s) := by rw [h1, one_mul]

/-- One weight, from the blocks. -/
theorem col_eq (x1 : S32768x128.Idx → BitVec 8) (x2 : S16384x128.Idx → BitVec 8) (x3 : S4096x128.Idx → BitVec 8) (x4 : S256x128.Idx → BitVec 16)
    (k f nh r o : ℕ) (hk : k < 16) (hf : f < 4) (hnh : nh < 2) (hr : r < 256) (ho : o < 256) :
    wcode f (at' (α := BitVec 32) (Q11 x2) ![k, o / 128, 64 * nh + r / 4, o % 128]) (at' (α := BitVec 32) (Q10 x1) ![16 * (k / 8) + 8 * (f % 2) + k % 8, o / 128, 64 * nh + r / 4, o % 128]) (r % 4)
        * at' (α := EReal) (Q12 x3 x4) ![8 * (k / 8) + 2 * f + k % 8 / 4, o / 128, 128 * nh + r / 2, r % 2, o % 128]
      = ((((code f (at' (α := BitVec 8) x1 ![128 * o + (64 * (k / 8) + 32 * (f % 2) + 4 * (k % 8) + r % 4), 64 * nh + r / 4])
              (at' (α := BitVec 8) x2 ![64 * o + (32 * (k / 8) + 4 * (k % 8) + r % 4), 64 * nh + r / 4]) : ℤ) - 32 : ℤ) : ℝ) : EReal)
        * (halfOf (at' (α := BitVec 16) x4 ![o, 64 * nh + r / 4])
          * (((at' (α := BitVec 8) x3 ![16 * o + (8 * (k / 8) + 2 * f + k % 8 / 4), 64 * nh + r / 4]).toInt : ℝ) : EReal)) := by
  rw [at_eq (α := BitVec 32) (Q11 x2) _ (ix4 (⟨k, hk⟩ : Fin 16) (⟨o / 128, by omega⟩ : Fin 2) (⟨64 * nh + r / 4, by omega⟩ : Fin 128) (⟨o % 128, by omega⟩ : Fin 128)) (by intro a; fin_cases a <;> rfl),
    at_eq (α := BitVec 32) (Q10 x1) _ (ix4 (⟨16 * (k / 8) + 8 * (f % 2) + k % 8, by omega⟩ : Fin 32) (⟨o / 128, by omega⟩ : Fin 2) (⟨64 * nh + r / 4, by omega⟩ : Fin 128) (⟨o % 128, by omega⟩ : Fin 128)) (by intro a; fin_cases a <;> rfl),
    at_eq (α := EReal) (Q12 x3 x4) _ (ix5 (⟨8 * (k / 8) + 2 * f + k % 8 / 4, by omega⟩ : Fin 16) (⟨o / 128, by omega⟩ : Fin 2) (⟨128 * nh + r / 2, by omega⟩ : Fin 256) (⟨r % 2, by omega⟩ : Fin 2) (⟨o % 128, by omega⟩ : Fin 128)) (by intro a; fin_cases a <;> rfl)]
  unfold Q10 Q11 Q12 wcode
  rw [byteOf_fieldWord f hf _ _ _ (by omega), byteOf_wordOf _ _ (by omega), byteOf_wordOf _ _ (by omega), toInt_cbyte f hf]
  show ((((4 * ((code f (at' (α := BitVec 8) x1 ![128 * (128 * (o / 128) + o % 128) + 4 * (16 * (k / 8) + 8 * (f % 2) + k % 8) + r % 4, 64 * nh + r / 4])
        (at' (α := BitVec 8) x2 ![64 * (128 * (o / 128) + o % 128) + 4 * k + r % 4, 64 * nh + r / 4]) : ℤ) - 32) : ℤ) : ℝ)) : EReal)
      * (halfOf (at' (α := BitVec 16) x4 ![128 * (o / 128) + o % 128, (128 * nh + r / 2) / 2]) * (((1 / 4 : ℝ)) : EReal)
        * (((at' (α := BitVec 8) x3 ![16 * (128 * (o / 128) + o % 128) + (8 * (k / 8) + 2 * f + k % 8 / 4), (128 * nh + r / 2) / 2]).toInt : ℝ) : EReal)) = _
  rw [show 128 * (o / 128) + o % 128 = o by omega, show (128 * nh + r / 2) / 2 = 64 * nh + r / 4 by omega,
    show 128 * o + 4 * (16 * (k / 8) + 8 * (f % 2) + k % 8) + r % 4 = 128 * o + (64 * (k / 8) + 32 * (f % 2) + 4 * (k % 8) + r % 4) by omega,
    show 64 * o + 4 * k + r % 4 = 64 * o + (32 * (k / 8) + 4 * (k % 8) + r % 4) by omega]
  exact quarter_out _ _ _

/-- The column a unit, a field, a half of the superblocks and a row name. -/
def colOf (k : Fin 16) (f : Fin 4) (nh : Fin 2) (r : Fin 256) : Fin 32768 :=
  ⟨16384 * nh.val + 256 * (r.val / 4) + 128 * (k.val / 8) + 32 * f.val + 4 * (k.val % 8) + r.val % 4, by
    have := k.isLt; have := f.isLt; have := nh.isLt; have := r.isLt; omega⟩

/-- Every column is named exactly once. -/
def colEquiv : Fin 16 × Fin 4 × Fin 2 × Fin 256 ≃ Fin 32768 where
  toFun p := colOf p.1 p.2.1 p.2.2.1 p.2.2.2
  invFun K := (⟨8 * (K.val % 256 / 128) + K.val % 32 / 4, by have := K.isLt; omega⟩, ⟨K.val % 128 / 32, by omega⟩,
    ⟨K.val / 16384, by have := K.isLt; omega⟩, ⟨4 * (K.val / 256 % 64) + K.val % 4, by omega⟩)
  left_inv := fun ⟨k, f, nh, r⟩ => by
    have hk := k.isLt
    have hf := f.isLt
    have hn := nh.isLt
    have hr := r.isLt
    obtain ⟨ha, hb, hi, hg⟩ : r.val / 4 < 64 ∧ r.val % 4 < 4 ∧ k.val / 8 < 2 ∧ k.val % 8 < 8 := by omega
    have er : r.val = 4 * (r.val / 4) + r.val % 4 := by omega
    have ek : k.val = 8 * (k.val / 8) + k.val % 8 := by omega
    refine Prod.ext (Fin.ext ?_) (Prod.ext (Fin.ext ?_) (Prod.ext (Fin.ext ?_) (Fin.ext ?_))) <;> simp only [colOf]
    · conv_rhs => rw [ek]
      generalize r.val / 4 = a at *
      generalize r.val % 4 = b at *
      generalize k.val / 8 = i at *
      generalize k.val % 8 = g at *
      have e1 : (16384 * nh.val + 256 * a + 128 * i + 32 * f.val + 4 * g + b) % 256 = 128 * i + 32 * f.val + 4 * g + b := by omega
      have e2 : (16384 * nh.val + 256 * a + 128 * i + 32 * f.val + 4 * g + b) % 32 = 4 * g + b := by omega
      rw [e1, e2]
      omega
    · omega
    · omega
    · conv_rhs => rw [er]
      generalize r.val / 4 = a at *
      generalize r.val % 4 = b at *
      generalize k.val / 8 = i at *
      generalize k.val % 8 = g at *
      have e1 : (16384 * nh.val + 256 * a + 128 * i + 32 * f.val + 4 * g + b) / 256 = 64 * nh.val + a := by omega
      have e2 : (16384 * nh.val + 256 * a + 128 * i + 32 * f.val + 4 * g + b) % 4 = b := by omega
      rw [e1, e2]
      omega
  right_inv := fun K => by
    have := K.isLt
    refine Fin.ext ?_
    simp only [colOf]
    omega

/-- A sum over the columns, in the kernel's order. -/
theorem sum_columns (g : Fin 32768 → EReal) (T : ℕ → Fin 4 → Fin 2 → Fin 256 → EReal)
    (h : ∀ (k : Fin 16) f nh r, T k.val f nh r = g (colOf k f nh r)) :
    ∑ k ∈ Finset.range 16, ∑ f : Fin 4, ∑ nh : Fin 2, ∑ r : Fin 256, T k f nh r = ∑ K : Fin 32768, g K := by
  rw [Finset.sum_range, ← Equiv.sum_comp colEquiv, Fintype.sum_prod_type]
  refine Finset.sum_congr rfl fun k _ => ?_
  rw [Fintype.sum_prod_type]
  refine Finset.sum_congr rfl fun f _ => ?_
  rw [Fintype.sum_prod_type]
  refine Finset.sum_congr rfl fun nh _ => Finset.sum_congr rfl fun r _ => h k f nh r

end Cert.KernelIdeal.Hand

end
-- ==== Proof.Equation.lean ====
/-
  Hand-written, untrusted. The value claim: the kernel's result array is the reference's, element by element, and so the two runs end with
  the same result.
-/
module

public import proofs.«01_k».proof.Defs
public import proofs.«01_k».proof.Proof.IValue
public import proofs.«01_k».proof.Proof.IHost
public import proofs.«01_k».proof.Proof.RValue
public import proofs.«01_k».proof.Proof.Columns
public import Idealize.ShloMosaic.Lib.Pipeline.ValueKit

@[expose] public section

set_option maxRecDepth 16384

noncomputable section

namespace Cert.Equation

open Cert.KernelIdeal Cert.KernelIdeal.Gen Cert.KernelIdeal.Hand Cert.KernelIdeal.Host Cert.Q6K
open Cert.KernelIdeal.Value (dats after0_5 run_main)
open Idealize.ShloMosaic Idealize.ShloMosaic.TcCoe Idealize.SL.Sem

/-- Both programs are launched on the same arguments. -/
def Same (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The reference's result. -/
def refResult : S48x8192.Idx → EReal :=
  Cert.ReferenceIdeal.Terms.val_main_v45 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (Cert.ReferenceIdeal.Value.reg_main_v0 m' c)

/-- One element of one output block is the reference's. -/
theorem elt_eq (hs : Same m m' c) (t : Fin cfg0.N) (x : Fin 48) (ol : Fin 256) (O : Fin 8192) (hO : O.val = 256 * t.val + ol.val) :
    (outB (iblk m c 0 t) (iblk m c 1 t) (iblk m c 2 t) (iblk m c 3 t) (iblk m c 4 t) (ix2 x ol) : EReal) = refResult m' c (ix2 x O) := by
  obtain ⟨h0, h1, h2, h3, h4⟩ := hs
  unfold refResult
  refine Eq.trans ?_ (Cert.ReferenceIdeal.Hand.result_apply m' c x O).symm
  refine Eq.trans (b := ∑ k ∈ Finset.range 16, ∑ f : Fin 4, ∑ nh : Fin 2,
    prodN (iblk m c 4 t) (Q10 (iblk m c 0 t)) (Q11 (iblk m c 1 t)) (Q12 (iblk m c 2 t) (iblk m c 3 t)) k f.val nh.val x.val ol.val) rfl ?_
  unfold prodN
  refine sum_columns _ _ ?_
  intro k f nh r
  have hk := k.isLt
  have hf := f.isLt
  have hn := nh.isLt
  have hr := r.isLt
  have hol := ol.isLt
  have eX := blk4_apply m c t x (⟨k.val / 8, by omega⟩ : Fin 2) nh (⟨k.val % 8, by omega⟩ : Fin 8) f (⟨r.val / 4, by omega⟩ : Fin 64) (⟨r.val % 4, by omega⟩ : Fin 4)
    (8 * k.val + 2 * f.val + nh.val) r.val (colOf k f nh r) (by dsimp only; omega) (by dsimp only; omega) rfl
  have e0 := blk0_apply m c t O (⟨64 * nh.val + r.val / 4, by omega⟩ : Fin 128) (⟨k.val / 8, by omega⟩ : Fin 2) (⟨32 * (f.val % 2) + (4 * (k.val % 8) + r.val % 4), by omega⟩ : Fin 64)
    (128 * ol.val + (64 * (k.val / 8) + 32 * (f.val % 2) + 4 * (k.val % 8) + r.val % 4)) (by omega) (by dsimp only; omega)
  have e1 := blk1_apply m c t O (⟨64 * nh.val + r.val / 4, by omega⟩ : Fin 128) (⟨k.val / 8, by omega⟩ : Fin 2) (⟨4 * (k.val % 8) + r.val % 4, by omega⟩ : Fin 32)
    (64 * ol.val + (32 * (k.val / 8) + 4 * (k.val % 8) + r.val % 4)) (by omega) (by dsimp only; omega)
  have e2 := blk2_apply m c t O (⟨64 * nh.val + r.val / 4, by omega⟩ : Fin 128) (⟨8 * (k.val / 8) + 2 * f.val + k.val % 8 / 4, by omega⟩ : Fin 16)
    (16 * ol.val + (8 * (k.val / 8) + 2 * f.val + k.val % 8 / 4)) (by omega) (by dsimp only; omega)
  have e3 := blk3_apply m c t O (⟨64 * nh.val + r.val / 4, by omega⟩ : Fin 128) ol.val (by omega) (by omega)
  have eW := Cert.ReferenceIdeal.Hand.weight_apply
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (Cert.ReferenceIdeal.Value.reg_main_v0 m' c) O (⟨64 * nh.val + r.val / 4, by omega⟩ : Fin 128) (⟨k.val / 8, by omega⟩ : Fin 2)
    (⟨f.val / 2, by omega⟩ : Fin 2) (⟨f.val % 2, by omega⟩ : Fin 2) (⟨4 * (k.val % 8) + r.val % 4, by omega⟩ : Fin 32)
    (⟨32 * (f.val % 2) + (4 * (k.val % 8) + r.val % 4), by omega⟩ : Fin 64) rfl
    (⟨8 * (k.val / 8) + 2 * f.val + k.val % 8 / 4, by omega⟩ : Fin 16) (by dsimp only; omega) (colOf k f nh r) (by dsimp only [colOf]; omega)
  rw [Cert.ReferenceIdeal.Hand.reg_eq] at eW
  have eH : (Cert.ReferenceIdeal.Hand.halves m' c (ix2 O (⟨64 * nh.val + r.val / 4, by omega⟩ : Fin 128)) : EReal)
      = halfOf (m ((c.tc : Thread nD τ).loc main_arg4) (ix2 O (⟨64 * nh.val + r.val / 4, by omega⟩ : Fin 128))) := by
    refine (Cert.ReferenceIdeal.Hand.pay1_apply _ _).trans ?_
    exact congrArg (fun X : S8192x128.Idx → BitVec 16 => halfOf (X (ix2 O (⟨64 * nh.val + r.val / 4, by omega⟩ : Fin 128)))) h4
  have ef : 2 * (f.val / 2) + f.val % 2 = f.val := by omega
  have eC := col_eq (iblk m c 0 t) (iblk m c 1 t) (iblk m c 2 t) (iblk m c 3 t) k.val f.val nh.val r.val ol.val hk hf hn hr hol
  refine congrArg₂ (fun u v : EReal => u * v) ?_ ?_
  · exact eX.trans (congrFun h0.symm _)
  · refine eC.trans (Eq.trans ?_ ((congrArg (fun z => Cert.ReferenceIdeal.Terms.val_main_v42 (F := Ideal) _ _ _ z (ix2 O (colOf k f nh r))) (Cert.ReferenceIdeal.Hand.reg_eq m' c)).trans eW).symm)
    rw [eH]
    refine congrArg₂ (fun u v : EReal => u * v) ?_ (congrArg₂ (fun u v : EReal => u * v) (congrArg halfOf e3) ?_)
    · refine congrArg (fun z : ℕ => ((((z : ℤ) - 32 : ℤ) : ℝ) : EReal)) ?_
      refine Eq.trans ?_ (congrArg (fun z => code z _ _) ef.symm)
      exact congrArg₂ (code f.val) (e0.trans (congrFun h1.symm _)) (e1.trans (congrFun h2.symm _))
    · exact congrArg (fun z : BitVec 8 => ((z.toInt : ℝ) : EReal)) (e2.trans (congrFun h3.symm _))

/-- The kernel's result array, after the launch, is the reference's. -/
theorem final_eq (hs : Same m m' c) : (dats m 0 c).arrAt 5 cfg0.N = refResult m' c := by
  refine (dats m 0 c).arrAt_eq_of_covers 5 (refResult m' c) (by decide +kernel) ?_
  intro t _ y
  have hN : cfg0.N = 32 := N_0
  have ht : t.val < 32 := lt_of_lt_of_eq t.isLt hN
  have y0 : (y 0 : ℕ) < 48 := (y 0).isLt
  have y1 : (y 1 : ℕ) < 256 := (y 1).isLt
  rw [after0_5]
  refine Eq.trans (b := outB (iblk m c 0 t) (iblk m c 1 t) (iblk m c 2 t) (iblk m c 3 t) (iblk m c 4 t) (ix2 (⟨(y 0 : ℕ), y0⟩ : Fin 48) (⟨(y 1 : ℕ), y1⟩ : Fin 256))) ?_ ?_
  · refine congrArg (outB (iblk m c 0 t) (iblk m c 1 t) (iblk m c 2 t) (iblk m c 3 t) (iblk m c 4 t)) (funext fun a => Fin.ext ?_)
    fin_cases a <;> rfl
  refine (elt_eq m m' c hs t (⟨(y 0 : ℕ), y0⟩ : Fin 48) (⟨(y 1 : ℕ), y1⟩ : Fin 256) (⟨256 * t.val + (y 1 : ℕ), by omega⟩ : Fin 8192) rfl).trans ?_
  refine congrArg (refResult m' c) (funext fun a => Fin.ext ?_)
  refine Eq.trans ?_ ((cfg0.win 5).rect_emb_val t y a).symm
  match a with
  | ⟨0, _⟩ => show (y 0 : ℕ) = win0_5.index t 0 * 48 + (y 0 : ℕ); rw [(idx5 t).1]; omega
  | ⟨1, _⟩ => show 256 * t.val + (y 1 : ℕ) = win0_5.index t 1 * 256 + (y 1 : ℕ); rw [(idx5 t).2]; omega

/-- The kernel and the reference end with the same result. -/
theorem algebraic : Cert.algebraic_KernelIdeal_ReferenceIdeal (hKernelIdeal := Cert.KernelIdeal.Gen.facts) (hReferenceIdeal := Cert.ReferenceIdeal.Gen.facts) := by
  intro m g m' g' _ hs
  refine ⟨fun c => refResult m' c, ?_, ?_⟩
  · exact (θ_run _ _ _).mono (fun _ h c => ⟨((h c).1 5).trans (final_eq m m' c (hs c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats m 0 c).arrAt_in 3 rfl _).trans ((Cert.KernelIdeal.Value.A_eq m c 3).trans (V_main_arg4 m c)))⟩) (run_main m g)
  · exact Cert.ReferenceIdeal.Hand.run_named m' g'

end Cert.Equation

end
-- ==== Proof.lean ====
/-
  The proof of this directory's claims (Defs.lean) about the Q6_K linear kernel: the frames of the kernel, of the
  kernel over the reals and of the reference over the reals; that the idealized kernel is the kernel up to the
  listed rewrites; and that it computes what the reference computes.
-/
module

public import proofs.«01_k».proof.Defs
public import proofs.«01_k».proof.Proof.KFrame
public import proofs.«01_k».proof.Proof.IFrame
public import proofs.«01_k».proof.Proof.Gen.ReferenceIdeal.Frame
public import proofs.«01_k».proof.Proof.Gen.ReferenceIdeal.Run
public import proofs.«01_k».proof.Proof.Equation
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.ShloMosaic.TcCoe Idealize.SL.Sem

/-- Every rewrite that leads from the kernel to the idealized kernel is an instance of a proved rule. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

/-- `Cert.Claim` (Defs.lean): the programs' stated facts, the three frames with every counter ending at zero, the
    rewrites, and the equality of the two results. -/
theorem claim : Cert.Claim :=
  ⟨Cert.Kernel.Gen.facts, Cert.KernelIdeal.Gen.facts, Cert.ReferenceIdeal.Gen.facts,
    fun m ρ _ => Cert.Kernel.Hand.frame (F := Bits) m ρ, fun m ρ _ => Cert.KernelIdeal.Hand.frame (F := Ideal) m ρ,
    fun m ρ _ => Cert.ReferenceIdeal.Gen.frame (F := Ideal) m ρ, preserves, Cert.Equation.algebraic⟩

end Cert.Proof

end
